-- ==== Defs.lean ====
def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite [hPre_finite : Cert.Pre_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).1 = (fun _ => 1#1)
    ∧ (Cert.Pre_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.1 = (fun _ => 1#1)
    ∧ (Cert.Pre_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.1 = (fun _ => 1#1)
    ∧ (Cert.Pre_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite [hPre_finite : Cert.Pre_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).1 = (fun _ => 1#1)
    ∧ (Cert.Pre_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.1 = (fun _ => 1#1)
    ∧ (Cert.Pre_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.1 = (fun _ => 1#1)
    ∧ (Cert.Pre_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.2 = (fun _ => 1#1)

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastKernelIdeal_last_finite [hPre_last_finite : Cert.Pre_last_finite.Facts] (m : (ℓ : Loc Cert.LastKernelIdeal.nD Cert.LastKernelIdeal.τ Cert.LastKernelIdeal.sig) → Buf (Elt Ideal) ℓ) : Prop :=
  ∀ c : Dev Cert.LastKernelIdeal.nD,
    (Cert.Pre_last_finite.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).1 = (fun _ => 1#1)
    ∧ (Cert.Pre_last_finite.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.1 = (fun _ => 1#1)
    ∧ (Cert.Pre_last_finite.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.2.1 = (fun _ => 1#1)
    ∧ (Cert.Pre_last_finite.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.2.2 = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_last_finite [hPre_last_finite : Cert.Pre_last_finite.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_last_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7))).1 = (fun _ => 1#1)
    ∧ (Cert.Pre_last_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7))).2.1 = (fun _ => 1#1)
    ∧ (Cert.Pre_last_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7))).2.2.1 = (fun _ => 1#1)
    ∧ (Cert.Pre_last_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7))).2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_FwdLastKernel (m : (ℓ : Loc Cert.FwdLastKernel.nD Cert.FwdLastKernel.τ Cert.FwdLastKernel.sig) → Buf (Elt Bits) ℓ) : Prop :=
  True

def Pre_FwdLastKernelIdeal (m : (ℓ : Loc Cert.FwdLastKernelIdeal.nD Cert.FwdLastKernelIdeal.τ Cert.FwdLastKernelIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ r.2.sem = fun _ => 0)

def quiescent_InKernelIdeal_pre_finite [hInKernelIdeal : Cert.InKernelIdeal.Facts] [hPre_finite : Cert.Pre_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_InReferenceIdeal_pre_finite [hInReferenceIdeal : Cert.InReferenceIdeal.Facts] [hPre_finite : Cert.Pre_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4)
      ∧ r.2.mem ((c.tc : Thread Cert.LastKernel.nD Cert.LastKernel.τ).loc Cert.LastKernel.main_arg5) = m ((c.tc : Thread Cert.LastKernel.nD Cert.LastKernel.τ).loc Cert.LastKernel.main_arg5)
      ∧ r.2.mem ((c.tc : Thread Cert.LastKernel.nD Cert.LastKernel.τ).loc Cert.LastKernel.main_arg6) = m ((c.tc : Thread Cert.LastKernel.nD Cert.LastKernel.τ).loc Cert.LastKernel.main_arg6)
      ∧ r.2.mem ((c.tc : Thread Cert.LastKernel.nD Cert.LastKernel.τ).loc Cert.LastKernel.main_arg7) = m ((c.tc : Thread Cert.LastKernel.nD Cert.LastKernel.τ).loc Cert.LastKernel.main_arg7))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
      ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
      ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
      ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7))
      ∧ r.2.sem = fun _ => 0)

def quiescent_LastKernelIdeal_pre_last_finite [hLastKernelIdeal : Cert.LastKernelIdeal.Facts] [hPre_last_finite : Cert.Pre_last_finite.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal_last_finite m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
      ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
      ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
      ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7))
      ∧ r.2.sem = fun _ => 0)

def quiescent_LastReferenceIdeal_pre_last_finite [hLastReferenceIdeal : Cert.LastReferenceIdeal.Facts] [hPre_last_finite : Cert.Pre_last_finite.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_last_finite m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6)
      ∧ r.2.mem ((c.tc : Thread Cert.FwdKernel.nD Cert.FwdKernel.τ).loc Cert.FwdKernel.main_arg7) = m ((c.tc : Thread Cert.FwdKernel.nD Cert.FwdKernel.τ).loc Cert.FwdKernel.main_arg7)
      ∧ r.2.mem ((c.tc : Thread Cert.FwdKernel.nD Cert.FwdKernel.τ).loc Cert.FwdKernel.main_arg8) = m ((c.tc : Thread Cert.FwdKernel.nD Cert.FwdKernel.τ).loc Cert.FwdKernel.main_arg8)
      ∧ r.2.mem ((c.tc : Thread Cert.FwdKernel.nD Cert.FwdKernel.τ).loc Cert.FwdKernel.main_arg9) = m ((c.tc : Thread Cert.FwdKernel.nD Cert.FwdKernel.τ).loc Cert.FwdKernel.main_arg9)
      ∧ r.2.mem ((c.tc : Thread Cert.FwdKernel.nD Cert.FwdKernel.τ).loc Cert.FwdKernel.main_arg10) = m ((c.tc : Thread Cert.FwdKernel.nD Cert.FwdKernel.τ).loc Cert.FwdKernel.main_arg10)
      ∧ r.2.mem ((c.tc : Thread Cert.FwdKernel.nD Cert.FwdKernel.τ).loc Cert.FwdKernel.main_arg11) = m ((c.tc : Thread Cert.FwdKernel.nD Cert.FwdKernel.τ).loc Cert.FwdKernel.main_arg11)
      ∧ r.2.mem ((c.tc : Thread Cert.FwdKernel.nD Cert.FwdKernel.τ).loc Cert.FwdKernel.main_arg12) = m ((c.tc : Thread Cert.FwdKernel.nD Cert.FwdKernel.τ).loc Cert.FwdKernel.main_arg12)
      ∧ r.2.mem ((c.tc : Thread Cert.FwdKernel.nD Cert.FwdKernel.τ).loc Cert.FwdKernel.main_arg13) = m ((c.tc : Thread Cert.FwdKernel.nD Cert.FwdKernel.τ).loc Cert.FwdKernel.main_arg13))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
      ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8)
      ∧ r.2.mem ((c.tc : Thread Cert.FwdKernelIdeal.nD Cert.FwdKernelIdeal.τ).loc Cert.FwdKernelIdeal.main_arg9) = m ((c.tc : Thread Cert.FwdKernelIdeal.nD Cert.FwdKernelIdeal.τ).loc Cert.FwdKernelIdeal.main_arg9)
      ∧ r.2.mem ((c.tc : Thread Cert.FwdKernelIdeal.nD Cert.FwdKernelIdeal.τ).loc Cert.FwdKernelIdeal.main_arg10) = m ((c.tc : Thread Cert.FwdKernelIdeal.nD Cert.FwdKernelIdeal.τ).loc Cert.FwdKernelIdeal.main_arg10)
      ∧ r.2.mem ((c.tc : Thread Cert.FwdKernelIdeal.nD Cert.FwdKernelIdeal.τ).loc Cert.FwdKernelIdeal.main_arg11) = m ((c.tc : Thread Cert.FwdKernelIdeal.nD Cert.FwdKernelIdeal.τ).loc Cert.FwdKernelIdeal.main_arg11)
      ∧ r.2.mem ((c.tc : Thread Cert.FwdKernelIdeal.nD Cert.FwdKernelIdeal.τ).loc Cert.FwdKernelIdeal.main_arg12) = m ((c.tc : Thread Cert.FwdKernelIdeal.nD Cert.FwdKernelIdeal.τ).loc Cert.FwdKernelIdeal.main_arg12)
      ∧ r.2.mem ((c.tc : Thread Cert.FwdKernelIdeal.nD Cert.FwdKernelIdeal.τ).loc Cert.FwdKernelIdeal.main_arg13) = m ((c.tc : Thread Cert.FwdKernelIdeal.nD Cert.FwdKernelIdeal.τ).loc Cert.FwdKernelIdeal.main_arg13))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8)
      ∧ r.2.mem ((c.tc : Thread Cert.FwdReferenceIdeal.nD Cert.FwdReferenceIdeal.τ).loc Cert.FwdReferenceIdeal.main_arg9) = m ((c.tc : Thread Cert.FwdReferenceIdeal.nD Cert.FwdReferenceIdeal.τ).loc Cert.FwdReferenceIdeal.main_arg9)
      ∧ r.2.mem ((c.tc : Thread Cert.FwdReferenceIdeal.nD Cert.FwdReferenceIdeal.τ).loc Cert.FwdReferenceIdeal.main_arg10) = m ((c.tc : Thread Cert.FwdReferenceIdeal.nD Cert.FwdReferenceIdeal.τ).loc Cert.FwdReferenceIdeal.main_arg10)
      ∧ r.2.mem ((c.tc : Thread Cert.FwdReferenceIdeal.nD Cert.FwdReferenceIdeal.τ).loc Cert.FwdReferenceIdeal.main_arg11) = m ((c.tc : Thread Cert.FwdReferenceIdeal.nD Cert.FwdReferenceIdeal.τ).loc Cert.FwdReferenceIdeal.main_arg11)
      ∧ r.2.mem ((c.tc : Thread Cert.FwdReferenceIdeal.nD Cert.FwdReferenceIdeal.τ).loc Cert.FwdReferenceIdeal.main_arg12) = m ((c.tc : Thread Cert.FwdReferenceIdeal.nD Cert.FwdReferenceIdeal.τ).loc Cert.FwdReferenceIdeal.main_arg12)
      ∧ r.2.mem ((c.tc : Thread Cert.FwdReferenceIdeal.nD Cert.FwdReferenceIdeal.τ).loc Cert.FwdReferenceIdeal.main_arg13) = m ((c.tc : Thread Cert.FwdReferenceIdeal.nD Cert.FwdReferenceIdeal.τ).loc Cert.FwdReferenceIdeal.main_arg13))
      ∧ r.2.sem = fun _ => 0)

def quiescent_FwdLastKernel [hFwdLastKernel : Cert.FwdLastKernel.Facts] : Prop :=
  ∀ (m : (ℓ : Loc Cert.FwdLastKernel.nD Cert.FwdLastKernel.τ Cert.FwdLastKernel.sig) → Buf (Elt Bits) ℓ) (g : Dev Cert.FwdLastKernel.nD → PrngReg), Pre_FwdLastKernel m →
    θ_run (Cert.FwdLastKernel.defs (F := Bits)) (onTc (τ := Cert.FwdLastKernel.τ) (Cert.FwdLastKernel.main (F := Bits))) ⟨m, fun _ => 0, g⟩ (fun r => (∀ c : Dev Cert.FwdLastKernel.nD,
      r.2.mem ((c.tc : Thread Cert.FwdLastKernel.nD Cert.FwdLastKernel.τ).loc Cert.FwdLastKernel.main_arg0) = m ((c.tc : Thread Cert.FwdLastKernel.nD Cert.FwdLastKernel.τ).loc Cert.FwdLastKernel.main_arg0)
      ∧ r.2.mem ((c.tc : Thread Cert.FwdLastKernel.nD Cert.FwdLastKernel.τ).loc Cert.FwdLastKernel.main_arg1) = m ((c.tc : Thread Cert.FwdLastKernel.nD Cert.FwdLastKernel.τ).loc Cert.FwdLastKernel.main_arg1)
      ∧ r.2.mem ((c.tc : Thread Cert.FwdLastKernel.nD Cert.FwdLastKernel.τ).loc Cert.FwdLastKernel.main_arg2) = m ((c.tc : Thread Cert.FwdLastKernel.nD Cert.FwdLastKernel.τ).loc Cert.FwdLastKernel.main_arg2)
      ∧ r.2.mem ((c.tc : Thread Cert.FwdLastKernel.nD Cert.FwdLastKernel.τ).loc Cert.FwdLastKernel.main_arg3) = m ((c.tc : Thread Cert.FwdLastKernel.nD Cert.FwdLastKernel.τ).loc Cert.FwdLastKernel.main_arg3)
      ∧ r.2.mem ((c.tc : Thread Cert.FwdLastKernel.nD Cert.FwdLastKernel.τ).loc Cert.FwdLastKernel.main_arg4) = m ((c.tc : Thread Cert.FwdLastKernel.nD Cert.FwdLastKernel.τ).loc Cert.FwdLastKernel.main_arg4)
      ∧ r.2.mem ((c.tc : Thread Cert.FwdLastKernel.nD Cert.FwdLastKernel.τ).loc Cert.FwdLastKernel.main_arg5) = m ((c.tc : Thread Cert.FwdLastKernel.nD Cert.FwdLastKernel.τ).loc Cert.FwdLastKernel.main_arg5)
      ∧ r.2.mem ((c.tc : Thread Cert.FwdLastKernel.nD Cert.FwdLastKernel.τ).loc Cert.FwdLastKernel.main_arg6) = m ((c.tc : Thread Cert.FwdLastKernel.nD Cert.FwdLastKernel.τ).loc Cert.FwdLastKernel.main_arg6)
      ∧ r.2.mem ((c.tc : Thread Cert.FwdLastKernel.nD Cert.FwdLastKernel.τ).loc Cert.FwdLastKernel.main_arg7) = m ((c.tc : Thread Cert.FwdLastKernel.nD Cert.FwdLastKernel.τ).loc Cert.FwdLastKernel.main_arg7)
      ∧ r.2.mem ((c.tc : Thread Cert.FwdLastKernel.nD Cert.FwdLastKernel.τ).loc Cert.FwdLastKernel.main_arg8) = m ((c.tc : Thread Cert.FwdLastKernel.nD Cert.FwdLastKernel.τ).loc Cert.FwdLastKernel.main_arg8)
      ∧ r.2.mem ((c.tc : Thread Cert.FwdLastKernel.nD Cert.FwdLastKernel.τ).loc Cert.FwdLastKernel.main_arg9) = m ((c.tc : Thread Cert.FwdLastKernel.nD Cert.FwdLastKernel.τ).loc Cert.FwdLastKernel.main_arg9)
      ∧ r.2.mem ((c.tc : Thread Cert.FwdLastKernel.nD Cert.FwdLastKernel.τ).loc Cert.FwdLastKernel.main_arg10) = m ((c.tc : Thread Cert.FwdLastKernel.nD Cert.FwdLastKernel.τ).loc Cert.FwdLastKernel.main_arg10)
      ∧ r.2.mem ((c.tc : Thread Cert.FwdLastKernel.nD Cert.FwdLastKernel.τ).loc Cert.FwdLastKernel.main_arg11) = m ((c.tc : Thread Cert.FwdLastKernel.nD Cert.FwdLastKernel.τ).loc Cert.FwdLastKernel.main_arg11)
      ∧ r.2.mem ((c.tc : Thread Cert.FwdLastKernel.nD Cert.FwdLastKernel.τ).loc Cert.FwdLastKernel.main_arg12) = m ((c.tc : Thread Cert.FwdLastKernel.nD Cert.FwdLastKernel.τ).loc Cert.FwdLastKernel.main_arg12)
      ∧ r.2.mem ((c.tc : Thread Cert.FwdLastKernel.nD Cert.FwdLastKernel.τ).loc Cert.FwdLastKernel.main_arg13) = m ((c.tc : Thread Cert.FwdLastKernel.nD Cert.FwdLastKernel.τ).loc Cert.FwdLastKernel.main_arg13))
      ∧ r.2.sem = fun _ => 0)

def quiescent_FwdLastKernelIdeal [hFwdLastKernelIdeal : Cert.FwdLastKernelIdeal.Facts] : Prop :=
  ∀ (m : (ℓ : Loc Cert.FwdLastKernelIdeal.nD Cert.FwdLastKernelIdeal.τ Cert.FwdLastKernelIdeal.sig) → Buf (Elt Ideal) ℓ) (g : Dev Cert.FwdLastKernelIdeal.nD → PrngReg), Pre_FwdLastKernelIdeal m →
    θ_run (Cert.FwdLastKernelIdeal.defs (F := Ideal)) (onTc (τ := Cert.FwdLastKernelIdeal.τ) (Cert.FwdLastKernelIdeal.main (F := Ideal))) ⟨m, fun _ => 0, g⟩ (fun r => (∀ c : Dev Cert.FwdLastKernelIdeal.nD,
      r.2.mem ((c.tc : Thread Cert.FwdLastKernelIdeal.nD Cert.FwdLastKernelIdeal.τ).loc Cert.FwdLastKernelIdeal.main_arg0) = m ((c.tc : Thread Cert.FwdLastKernelIdeal.nD Cert.FwdLastKernelIdeal.τ).loc Cert.FwdLastKernelIdeal.main_arg0)
      ∧ r.2.mem ((c.tc : Thread Cert.FwdLastKernelIdeal.nD Cert.FwdLastKernelIdeal.τ).loc Cert.FwdLastKernelIdeal.main_arg1) = m ((c.tc : Thread Cert.FwdLastKernelIdeal.nD Cert.FwdLastKernelIdeal.τ).loc Cert.FwdLastKernelIdeal.main_arg1)
      ∧ r.2.mem ((c.tc : Thread Cert.FwdLastKernelIdeal.nD Cert.FwdLastKernelIdeal.τ).loc Cert.FwdLastKernelIdeal.main_arg2) = m ((c.tc : Thread Cert.FwdLastKernelIdeal.nD Cert.FwdLastKernelIdeal.τ).loc Cert.FwdLastKernelIdeal.main_arg2)
      ∧ r.2.mem ((c.tc : Thread Cert.FwdLastKernelIdeal.nD Cert.FwdLastKernelIdeal.τ).loc Cert.FwdLastKernelIdeal.main_arg3) = m ((c.tc : Thread Cert.FwdLastKernelIdeal.nD Cert.FwdLastKernelIdeal.τ).loc Cert.FwdLastKernelIdeal.main_arg3)
      ∧ r.2.mem ((c.tc : Thread Cert.FwdLastKernelIdeal.nD Cert.FwdLastKernelIdeal.τ).loc Cert.FwdLastKernelIdeal.main_arg4) = m ((c.tc : Thread Cert.FwdLastKernelIdeal.nD Cert.FwdLastKernelIdeal.τ).loc Cert.FwdLastKernelIdeal.main_arg4)
      ∧ r.2.mem ((c.tc : Thread Cert.FwdLastKernelIdeal.nD Cert.FwdLastKernelIdeal.τ).loc Cert.FwdLastKernelIdeal.main_arg5) = m ((c.tc : Thread Cert.FwdLastKernelIdeal.nD Cert.FwdLastKernelIdeal.τ).loc Cert.FwdLastKernelIdeal.main_arg5)
      ∧ r.2.mem ((c.tc : Thread Cert.FwdLastKernelIdeal.nD Cert.FwdLastKernelIdeal.τ).loc Cert.FwdLastKernelIdeal.main_arg6) = m ((c.tc : Thread Cert.FwdLastKernelIdeal.nD Cert.FwdLastKernelIdeal.τ).loc Cert.FwdLastKernelIdeal.main_arg6)
      ∧ r.2.mem ((c.tc : Thread Cert.FwdLastKernelIdeal.nD Cert.FwdLastKernelIdeal.τ).loc Cert.FwdLastKernelIdeal.main_arg7) = m ((c.tc : Thread Cert.FwdLastKernelIdeal.nD Cert.FwdLastKernelIdeal.τ).loc Cert.FwdLastKernelIdeal.main_arg7)
      ∧ r.2.mem ((c.tc : Thread Cert.FwdLastKernelIdeal.nD Cert.FwdLastKernelIdeal.τ).loc Cert.FwdLastKernelIdeal.main_arg8) = m ((c.tc : Thread Cert.FwdLastKernelIdeal.nD Cert.FwdLastKernelIdeal.τ).loc Cert.FwdLastKernelIdeal.main_arg8)
      ∧ r.2.mem ((c.tc : Thread Cert.FwdLastKernelIdeal.nD Cert.FwdLastKernelIdeal.τ).loc Cert.FwdLastKernelIdeal.main_arg9) = m ((c.tc : Thread Cert.FwdLastKernelIdeal.nD Cert.FwdLastKernelIdeal.τ).loc Cert.FwdLastKernelIdeal.main_arg9)
      ∧ r.2.mem ((c.tc : Thread Cert.FwdLastKernelIdeal.nD Cert.FwdLastKernelIdeal.τ).loc Cert.FwdLastKernelIdeal.main_arg10) = m ((c.tc : Thread Cert.FwdLastKernelIdeal.nD Cert.FwdLastKernelIdeal.τ).loc Cert.FwdLastKernelIdeal.main_arg10)
      ∧ r.2.mem ((c.tc : Thread Cert.FwdLastKernelIdeal.nD Cert.FwdLastKernelIdeal.τ).loc Cert.FwdLastKernelIdeal.main_arg11) = m ((c.tc : Thread Cert.FwdLastKernelIdeal.nD Cert.FwdLastKernelIdeal.τ).loc Cert.FwdLastKernelIdeal.main_arg11)
      ∧ r.2.mem ((c.tc : Thread Cert.FwdLastKernelIdeal.nD Cert.FwdLastKernelIdeal.τ).loc Cert.FwdLastKernelIdeal.main_arg12) = m ((c.tc : Thread Cert.FwdLastKernelIdeal.nD Cert.FwdLastKernelIdeal.τ).loc Cert.FwdLastKernelIdeal.main_arg12)
      ∧ r.2.mem ((c.tc : Thread Cert.FwdLastKernelIdeal.nD Cert.FwdLastKernelIdeal.τ).loc Cert.FwdLastKernelIdeal.main_arg13) = m ((c.tc : Thread Cert.FwdLastKernelIdeal.nD Cert.FwdLastKernelIdeal.τ).loc Cert.FwdLastKernelIdeal.main_arg13))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def preserves_InKernel_InKernelIdeal : Prop :=
  True

def algebraic_InKernelIdeal_InReferenceIdeal_pre_finite [hInKernelIdeal : Cert.InKernelIdeal.Facts] [hInReferenceIdeal : Cert.InReferenceIdeal.Facts] [hPre_finite : Cert.Pre_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)) →
    ∃ (v0 : (c : Dev Cert.InKernelIdeal.nD) → Buf (Elt Ideal) ((c.tc : Thread Cert.InKernelIdeal.nD Cert.InKernelIdeal.τ).loc Cert.InKernelIdeal.main_v10_0)) (v1 : (c : Dev Cert.InKernelIdeal.nD) → Buf (Elt Ideal) ((c.tc : Thread Cert.InKernelIdeal.nD Cert.InKernelIdeal.τ).loc Cert.InKernelIdeal.main_v10_1)) (v2 : (c : Dev Cert.InKernelIdeal.nD) → Buf (Elt Ideal) ((c.tc : Thread Cert.InKernelIdeal.nD Cert.InKernelIdeal.τ).loc Cert.InKernelIdeal.main_v10_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v10_0) = v0 c
          ∧ r.2.mem ((c.tc : Thread Cert.InKernelIdeal.nD Cert.InKernelIdeal.τ).loc Cert.InKernelIdeal.main_v10_1) = v1 c
          ∧ r.2.mem ((c.tc : Thread Cert.InKernelIdeal.nD Cert.InKernelIdeal.τ).loc Cert.InKernelIdeal.main_v10_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v58) = v0 c
          ∧ r.2.mem ((c.tc : Thread Cert.InReferenceIdeal.nD Cert.InReferenceIdeal.τ).loc Cert.InReferenceIdeal.main_v63) = v1 c
          ∧ r.2.mem ((c.tc : Thread Cert.InReferenceIdeal.nD Cert.InReferenceIdeal.τ).loc Cert.InReferenceIdeal.main_v68) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8))

def preserves_LastKernel_LastKernelIdeal : Prop :=
  True

def algebraic_LastKernelIdeal_LastReferenceIdeal_on_last_written_pre_last_finite [hLastKernelIdeal : Cert.LastKernelIdeal.Facts] [hLastReferenceIdeal : Cert.LastReferenceIdeal.Facts] [hPre_last_finite : Cert.Pre_last_finite.Facts] [hOn_last_written : Cert.On_last_written.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal_last_finite m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)
      ∧ m' ((c.tc : Thread Cert.LastReferenceIdeal.nD Cert.LastReferenceIdeal.τ).loc Cert.LastReferenceIdeal.main_arg5) = m ((c.tc : Thread Cert.LastKernelIdeal.nD Cert.LastKernelIdeal.τ).loc Cert.LastKernelIdeal.main_arg5)
      ∧ m' ((c.tc : Thread Cert.LastReferenceIdeal.nD Cert.LastReferenceIdeal.τ).loc Cert.LastReferenceIdeal.main_arg6) = m ((c.tc : Thread Cert.LastKernelIdeal.nD Cert.LastKernelIdeal.τ).loc Cert.LastKernelIdeal.main_arg6)
      ∧ m' ((c.tc : Thread Cert.LastReferenceIdeal.nD Cert.LastReferenceIdeal.τ).loc Cert.LastReferenceIdeal.main_arg7) = m ((c.tc : Thread Cert.LastKernelIdeal.nD Cert.LastKernelIdeal.τ).loc Cert.LastKernelIdeal.main_arg7)) →
    ∃ (v0 : (c : Dev Cert.LastKernelIdeal.nD) → Buf (Elt Ideal) ((c.tc : Thread Cert.LastKernelIdeal.nD Cert.LastKernelIdeal.τ).loc Cert.LastKernelIdeal.main_v10_0)) (v1 : (c : Dev Cert.LastKernelIdeal.nD) → Buf (Elt Ideal) ((c.tc : Thread Cert.LastKernelIdeal.nD Cert.LastKernelIdeal.τ).loc Cert.LastKernelIdeal.main_v10_1)) (v2 : (c : Dev Cert.LastKernelIdeal.nD) → Buf (Elt Ideal) ((c.tc : Thread Cert.LastKernelIdeal.nD Cert.LastKernelIdeal.τ).loc Cert.LastKernelIdeal.main_v10_2)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          (∀ i : (⟨2, ![16384, 1024]⟩ : Shape).Idx, (Cert.On_last_written.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).1 i = 1#1 → r.2.mem ((c.tc : Thread Cert.LastKernelIdeal.nD Cert.LastKernelIdeal.τ).loc Cert.LastKernelIdeal.main_v10_0) i = v0 c i)
          ∧ (∀ i : (⟨4, ![2, 4, 1024, 768]⟩ : Shape).Idx, (Cert.On_last_written.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.1 i = 1#1 → r.2.mem ((c.tc : Thread Cert.LastKernelIdeal.nD Cert.LastKernelIdeal.τ).loc Cert.LastKernelIdeal.main_v10_1) i = v1 c i)
          ∧ (∀ i : (⟨2, ![8, 1024]⟩ : Shape).Idx, (Cert.On_last_written.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.2 i = 1#1 → r.2.mem ((c.tc : Thread Cert.LastKernelIdeal.nD Cert.LastKernelIdeal.τ).loc Cert.LastKernelIdeal.main_v10_2) i = v2 c i)
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
          ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
          ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
          ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          (∀ i : (⟨2, ![16384, 1024]⟩ : Shape).Idx, (Cert.On_last_written.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).1 i = 1#1 → r.2.mem ((c.tc : Thread Cert.LastReferenceIdeal.nD Cert.LastReferenceIdeal.τ).loc Cert.LastReferenceIdeal.main_v58) i = v0 c i)
          ∧ (∀ i : (⟨4, ![2, 4, 1024, 768]⟩ : Shape).Idx, (Cert.On_last_written.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.1 i = 1#1 → r.2.mem ((c.tc : Thread Cert.LastReferenceIdeal.nD Cert.LastReferenceIdeal.τ).loc Cert.LastReferenceIdeal.main_v62) i = v1 c i)
          ∧ (∀ i : (⟨2, ![8, 1024]⟩ : Shape).Idx, (Cert.On_last_written.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7))).2.2 i = 1#1 → r.2.mem ((c.tc : Thread Cert.LastReferenceIdeal.nD Cert.LastReferenceIdeal.τ).loc Cert.LastReferenceIdeal.main_v67) i = v2 c i)
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)
      ∧ m' ((c.tc : Thread Cert.FwdReferenceIdeal.nD Cert.FwdReferenceIdeal.τ).loc Cert.FwdReferenceIdeal.main_arg7) = m ((c.tc : Thread Cert.FwdKernelIdeal.nD Cert.FwdKernelIdeal.τ).loc Cert.FwdKernelIdeal.main_arg7)
      ∧ m' ((c.tc : Thread Cert.FwdReferenceIdeal.nD Cert.FwdReferenceIdeal.τ).loc Cert.FwdReferenceIdeal.main_arg8) = m ((c.tc : Thread Cert.FwdKernelIdeal.nD Cert.FwdKernelIdeal.τ).loc Cert.FwdKernelIdeal.main_arg8)
      ∧ m' ((c.tc : Thread Cert.FwdReferenceIdeal.nD Cert.FwdReferenceIdeal.τ).loc Cert.FwdReferenceIdeal.main_arg9) = m ((c.tc : Thread Cert.FwdKernelIdeal.nD Cert.FwdKernelIdeal.τ).loc Cert.FwdKernelIdeal.main_arg9)
      ∧ m' ((c.tc : Thread Cert.FwdReferenceIdeal.nD Cert.FwdReferenceIdeal.τ).loc Cert.FwdReferenceIdeal.main_arg10) = m ((c.tc : Thread Cert.FwdKernelIdeal.nD Cert.FwdKernelIdeal.τ).loc Cert.FwdKernelIdeal.main_arg10)
      ∧ m' ((c.tc : Thread Cert.FwdReferenceIdeal.nD Cert.FwdReferenceIdeal.τ).loc Cert.FwdReferenceIdeal.main_arg11) = m ((c.tc : Thread Cert.FwdKernelIdeal.nD Cert.FwdKernelIdeal.τ).loc Cert.FwdKernelIdeal.main_arg11)
      ∧ m' ((c.tc : Thread Cert.FwdReferenceIdeal.nD Cert.FwdReferenceIdeal.τ).loc Cert.FwdReferenceIdeal.main_arg12) = m ((c.tc : Thread Cert.FwdKernelIdeal.nD Cert.FwdKernelIdeal.τ).loc Cert.FwdKernelIdeal.main_arg12)
      ∧ m' ((c.tc : Thread Cert.FwdReferenceIdeal.nD Cert.FwdReferenceIdeal.τ).loc Cert.FwdReferenceIdeal.main_arg13) = m ((c.tc : Thread Cert.FwdKernelIdeal.nD Cert.FwdKernelIdeal.τ).loc Cert.FwdKernelIdeal.main_arg13)) →
    ∃ (v0 : (c : Dev Cert.FwdKernelIdeal.nD) → Buf (Elt Ideal) ((c.tc : Thread Cert.FwdKernelIdeal.nD Cert.FwdKernelIdeal.τ).loc Cert.FwdKernelIdeal.main_v10_0)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v10_0) = v0 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
          ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
          ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8)
          ∧ r.2.mem ((c.tc : Thread Cert.FwdKernelIdeal.nD Cert.FwdKernelIdeal.τ).loc Cert.FwdKernelIdeal.main_arg9) = m ((c.tc : Thread Cert.FwdKernelIdeal.nD Cert.FwdKernelIdeal.τ).loc Cert.FwdKernelIdeal.main_arg9)
          ∧ r.2.mem ((c.tc : Thread Cert.FwdKernelIdeal.nD Cert.FwdKernelIdeal.τ).loc Cert.FwdKernelIdeal.main_arg10) = m ((c.tc : Thread Cert.FwdKernelIdeal.nD Cert.FwdKernelIdeal.τ).loc Cert.FwdKernelIdeal.main_arg10)
          ∧ r.2.mem ((c.tc : Thread Cert.FwdKernelIdeal.nD Cert.FwdKernelIdeal.τ).loc Cert.FwdKernelIdeal.main_arg11) = m ((c.tc : Thread Cert.FwdKernelIdeal.nD Cert.FwdKernelIdeal.τ).loc Cert.FwdKernelIdeal.main_arg11)
          ∧ r.2.mem ((c.tc : Thread Cert.FwdKernelIdeal.nD Cert.FwdKernelIdeal.τ).loc Cert.FwdKernelIdeal.main_arg12) = m ((c.tc : Thread Cert.FwdKernelIdeal.nD Cert.FwdKernelIdeal.τ).loc Cert.FwdKernelIdeal.main_arg12)
          ∧ r.2.mem ((c.tc : Thread Cert.FwdKernelIdeal.nD Cert.FwdKernelIdeal.τ).loc Cert.FwdKernelIdeal.main_arg13) = m ((c.tc : Thread Cert.FwdKernelIdeal.nD Cert.FwdKernelIdeal.τ).loc Cert.FwdKernelIdeal.main_arg13))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v21) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8)
          ∧ r.2.mem ((c.tc : Thread Cert.FwdReferenceIdeal.nD Cert.FwdReferenceIdeal.τ).loc Cert.FwdReferenceIdeal.main_arg9) = m' ((c.tc : Thread Cert.FwdReferenceIdeal.nD Cert.FwdReferenceIdeal.τ).loc Cert.FwdReferenceIdeal.main_arg9)
          ∧ r.2.mem ((c.tc : Thread Cert.FwdReferenceIdeal.nD Cert.FwdReferenceIdeal.τ).loc Cert.FwdReferenceIdeal.main_arg10) = m' ((c.tc : Thread Cert.FwdReferenceIdeal.nD Cert.FwdReferenceIdeal.τ).loc Cert.FwdReferenceIdeal.main_arg10)
          ∧ r.2.mem ((c.tc : Thread Cert.FwdReferenceIdeal.nD Cert.FwdReferenceIdeal.τ).loc Cert.FwdReferenceIdeal.main_arg11) = m' ((c.tc : Thread Cert.FwdReferenceIdeal.nD Cert.FwdReferenceIdeal.τ).loc Cert.FwdReferenceIdeal.main_arg11)
          ∧ r.2.mem ((c.tc : Thread Cert.FwdReferenceIdeal.nD Cert.FwdReferenceIdeal.τ).loc Cert.FwdReferenceIdeal.main_arg12) = m' ((c.tc : Thread Cert.FwdReferenceIdeal.nD Cert.FwdReferenceIdeal.τ).loc Cert.FwdReferenceIdeal.main_arg12)
          ∧ r.2.mem ((c.tc : Thread Cert.FwdReferenceIdeal.nD Cert.FwdReferenceIdeal.τ).loc Cert.FwdReferenceIdeal.main_arg13) = m' ((c.tc : Thread Cert.FwdReferenceIdeal.nD Cert.FwdReferenceIdeal.τ).loc Cert.FwdReferenceIdeal.main_arg13))

def preserves_FwdLastKernel_FwdLastKernelIdeal : Prop :=
  True

def algebraic_FwdLastKernelIdeal_FwdReferenceIdeal [hFwdLastKernelIdeal : Cert.FwdLastKernelIdeal.Facts] [hFwdReferenceIdeal : Cert.FwdReferenceIdeal.Facts] : Prop :=
  ∀ (m : (ℓ : Loc Cert.FwdLastKernelIdeal.nD Cert.FwdLastKernelIdeal.τ Cert.FwdLastKernelIdeal.sig) → Buf (Elt Ideal) ℓ) (g : Dev Cert.FwdLastKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdLastKernelIdeal m →
    (∀ c : Dev Cert.FwdLastKernelIdeal.nD,
      m' ((c.tc : Thread Cert.FwdReferenceIdeal.nD Cert.FwdReferenceIdeal.τ).loc Cert.FwdReferenceIdeal.main_arg0) = m ((c.tc : Thread Cert.FwdLastKernelIdeal.nD Cert.FwdLastKernelIdeal.τ).loc Cert.FwdLastKernelIdeal.main_arg0)
      ∧ m' ((c.tc : Thread Cert.FwdReferenceIdeal.nD Cert.FwdReferenceIdeal.τ).loc Cert.FwdReferenceIdeal.main_arg1) = m ((c.tc : Thread Cert.FwdLastKernelIdeal.nD Cert.FwdLastKernelIdeal.τ).loc Cert.FwdLastKernelIdeal.main_arg1)
      ∧ m' ((c.tc : Thread Cert.FwdReferenceIdeal.nD Cert.FwdReferenceIdeal.τ).loc Cert.FwdReferenceIdeal.main_arg2) = m ((c.tc : Thread Cert.FwdLastKernelIdeal.nD Cert.FwdLastKernelIdeal.τ).loc Cert.FwdLastKernelIdeal.main_arg2)
      ∧ m' ((c.tc : Thread Cert.FwdReferenceIdeal.nD Cert.FwdReferenceIdeal.τ).loc Cert.FwdReferenceIdeal.main_arg3) = m ((c.tc : Thread Cert.FwdLastKernelIdeal.nD Cert.FwdLastKernelIdeal.τ).loc Cert.FwdLastKernelIdeal.main_arg3)
      ∧ m' ((c.tc : Thread Cert.FwdReferenceIdeal.nD Cert.FwdReferenceIdeal.τ).loc Cert.FwdReferenceIdeal.main_arg4) = m ((c.tc : Thread Cert.FwdLastKernelIdeal.nD Cert.FwdLastKernelIdeal.τ).loc Cert.FwdLastKernelIdeal.main_arg4)
      ∧ m' ((c.tc : Thread Cert.FwdReferenceIdeal.nD Cert.FwdReferenceIdeal.τ).loc Cert.FwdReferenceIdeal.main_arg5) = m ((c.tc : Thread Cert.FwdLastKernelIdeal.nD Cert.FwdLastKernelIdeal.τ).loc Cert.FwdLastKernelIdeal.main_arg5)
      ∧ m' ((c.tc : Thread Cert.FwdReferenceIdeal.nD Cert.FwdReferenceIdeal.τ).loc Cert.FwdReferenceIdeal.main_arg6) = m ((c.tc : Thread Cert.FwdLastKernelIdeal.nD Cert.FwdLastKernelIdeal.τ).loc Cert.FwdLastKernelIdeal.main_arg6)
      ∧ m' ((c.tc : Thread Cert.FwdReferenceIdeal.nD Cert.FwdReferenceIdeal.τ).loc Cert.FwdReferenceIdeal.main_arg7) = m ((c.tc : Thread Cert.FwdLastKernelIdeal.nD Cert.FwdLastKernelIdeal.τ).loc Cert.FwdLastKernelIdeal.main_arg7)
      ∧ m' ((c.tc : Thread Cert.FwdReferenceIdeal.nD Cert.FwdReferenceIdeal.τ).loc Cert.FwdReferenceIdeal.main_arg8) = m ((c.tc : Thread Cert.FwdLastKernelIdeal.nD Cert.FwdLastKernelIdeal.τ).loc Cert.FwdLastKernelIdeal.main_arg8)
      ∧ m' ((c.tc : Thread Cert.FwdReferenceIdeal.nD Cert.FwdReferenceIdeal.τ).loc Cert.FwdReferenceIdeal.main_arg9) = m ((c.tc : Thread Cert.FwdLastKernelIdeal.nD Cert.FwdLastKernelIdeal.τ).loc Cert.FwdLastKernelIdeal.main_arg9)
      ∧ m' ((c.tc : Thread Cert.FwdReferenceIdeal.nD Cert.FwdReferenceIdeal.τ).loc Cert.FwdReferenceIdeal.main_arg10) = m ((c.tc : Thread Cert.FwdLastKernelIdeal.nD Cert.FwdLastKernelIdeal.τ).loc Cert.FwdLastKernelIdeal.main_arg10)
      ∧ m' ((c.tc : Thread Cert.FwdReferenceIdeal.nD Cert.FwdReferenceIdeal.τ).loc Cert.FwdReferenceIdeal.main_arg11) = m ((c.tc : Thread Cert.FwdLastKernelIdeal.nD Cert.FwdLastKernelIdeal.τ).loc Cert.FwdLastKernelIdeal.main_arg11)
      ∧ m' ((c.tc : Thread Cert.FwdReferenceIdeal.nD Cert.FwdReferenceIdeal.τ).loc Cert.FwdReferenceIdeal.main_arg12) = m ((c.tc : Thread Cert.FwdLastKernelIdeal.nD Cert.FwdLastKernelIdeal.τ).loc Cert.FwdLastKernelIdeal.main_arg12)
      ∧ m' ((c.tc : Thread Cert.FwdReferenceIdeal.nD Cert.FwdReferenceIdeal.τ).loc Cert.FwdReferenceIdeal.main_arg13) = m ((c.tc : Thread Cert.FwdLastKernelIdeal.nD Cert.FwdLastKernelIdeal.τ).loc Cert.FwdLastKernelIdeal.main_arg13)) →
    ∃ (v0 : (c : Dev Cert.FwdLastKernelIdeal.nD) → Buf (Elt Ideal) ((c.tc : Thread Cert.FwdLastKernelIdeal.nD Cert.FwdLastKernelIdeal.τ).loc Cert.FwdLastKernelIdeal.main_v10_0)),
      θ_run (Cert.FwdLastKernelIdeal.defs (F := Ideal)) (onTc (τ := Cert.FwdLastKernelIdeal.τ) (Cert.FwdLastKernelIdeal.main (F := Ideal))) ⟨m, fun _ => 0, g⟩ (fun r => ∀ c : Dev Cert.FwdLastKernelIdeal.nD,
          r.2.mem ((c.tc : Thread Cert.FwdLastKernelIdeal.nD Cert.FwdLastKernelIdeal.τ).loc Cert.FwdLastKernelIdeal.main_v10_0) = v0 c
          ∧ r.2.mem ((c.tc : Thread Cert.FwdLastKernelIdeal.nD Cert.FwdLastKernelIdeal.τ).loc Cert.FwdLastKernelIdeal.main_arg0) = m ((c.tc : Thread Cert.FwdLastKernelIdeal.nD Cert.FwdLastKernelIdeal.τ).loc Cert.FwdLastKernelIdeal.main_arg0)
          ∧ r.2.mem ((c.tc : Thread Cert.FwdLastKernelIdeal.nD Cert.FwdLastKernelIdeal.τ).loc Cert.FwdLastKernelIdeal.main_arg1) = m ((c.tc : Thread Cert.FwdLastKernelIdeal.nD Cert.FwdLastKernelIdeal.τ).loc Cert.FwdLastKernelIdeal.main_arg1)
          ∧ r.2.mem ((c.tc : Thread Cert.FwdLastKernelIdeal.nD Cert.FwdLastKernelIdeal.τ).loc Cert.FwdLastKernelIdeal.main_arg2) = m ((c.tc : Thread Cert.FwdLastKernelIdeal.nD Cert.FwdLastKernelIdeal.τ).loc Cert.FwdLastKernelIdeal.main_arg2)
          ∧ r.2.mem ((c.tc : Thread Cert.FwdLastKernelIdeal.nD Cert.FwdLastKernelIdeal.τ).loc Cert.FwdLastKernelIdeal.main_arg3) = m ((c.tc : Thread Cert.FwdLastKernelIdeal.nD Cert.FwdLastKernelIdeal.τ).loc Cert.FwdLastKernelIdeal.main_arg3)
          ∧ r.2.mem ((c.tc : Thread Cert.FwdLastKernelIdeal.nD Cert.FwdLastKernelIdeal.τ).loc Cert.FwdLastKernelIdeal.main_arg4) = m ((c.tc : Thread Cert.FwdLastKernelIdeal.nD Cert.FwdLastKernelIdeal.τ).loc Cert.FwdLastKernelIdeal.main_arg4)
          ∧ r.2.mem ((c.tc : Thread Cert.FwdLastKernelIdeal.nD Cert.FwdLastKernelIdeal.τ).loc Cert.FwdLastKernelIdeal.main_arg5) = m ((c.tc : Thread Cert.FwdLastKernelIdeal.nD Cert.FwdLastKernelIdeal.τ).loc Cert.FwdLastKernelIdeal.main_arg5)
          ∧ r.2.mem ((c.tc : Thread Cert.FwdLastKernelIdeal.nD Cert.FwdLastKernelIdeal.τ).loc Cert.FwdLastKernelIdeal.main_arg6) = m ((c.tc : Thread Cert.FwdLastKernelIdeal.nD Cert.FwdLastKernelIdeal.τ).loc Cert.FwdLastKernelIdeal.main_arg6)
          ∧ r.2.mem ((c.tc : Thread Cert.FwdLastKernelIdeal.nD Cert.FwdLastKernelIdeal.τ).loc Cert.FwdLastKernelIdeal.main_arg7) = m ((c.tc : Thread Cert.FwdLastKernelIdeal.nD Cert.FwdLastKernelIdeal.τ).loc Cert.FwdLastKernelIdeal.main_arg7)
          ∧ r.2.mem ((c.tc : Thread Cert.FwdLastKernelIdeal.nD Cert.FwdLastKernelIdeal.τ).loc Cert.FwdLastKernelIdeal.main_arg8) = m ((c.tc : Thread Cert.FwdLastKernelIdeal.nD Cert.FwdLastKernelIdeal.τ).loc Cert.FwdLastKernelIdeal.main_arg8)
          ∧ r.2.mem ((c.tc : Thread Cert.FwdLastKernelIdeal.nD Cert.FwdLastKernelIdeal.τ).loc Cert.FwdLastKernelIdeal.main_arg9) = m ((c.tc : Thread Cert.FwdLastKernelIdeal.nD Cert.FwdLastKernelIdeal.τ).loc Cert.FwdLastKernelIdeal.main_arg9)
          ∧ r.2.mem ((c.tc : Thread Cert.FwdLastKernelIdeal.nD Cert.FwdLastKernelIdeal.τ).loc Cert.FwdLastKernelIdeal.main_arg10) = m ((c.tc : Thread Cert.FwdLastKernelIdeal.nD Cert.FwdLastKernelIdeal.τ).loc Cert.FwdLastKernelIdeal.main_arg10)
          ∧ r.2.mem ((c.tc : Thread Cert.FwdLastKernelIdeal.nD Cert.FwdLastKernelIdeal.τ).loc Cert.FwdLastKernelIdeal.main_arg11) = m ((c.tc : Thread Cert.FwdLastKernelIdeal.nD Cert.FwdLastKernelIdeal.τ).loc Cert.FwdLastKernelIdeal.main_arg11)
          ∧ r.2.mem ((c.tc : Thread Cert.FwdLastKernelIdeal.nD Cert.FwdLastKernelIdeal.τ).loc Cert.FwdLastKernelIdeal.main_arg12) = m ((c.tc : Thread Cert.FwdLastKernelIdeal.nD Cert.FwdLastKernelIdeal.τ).loc Cert.FwdLastKernelIdeal.main_arg12)
          ∧ r.2.mem ((c.tc : Thread Cert.FwdLastKernelIdeal.nD Cert.FwdLastKernelIdeal.τ).loc Cert.FwdLastKernelIdeal.main_arg13) = m ((c.tc : Thread Cert.FwdLastKernelIdeal.nD Cert.FwdLastKernelIdeal.τ).loc Cert.FwdLastKernelIdeal.main_arg13))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v21) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8)
          ∧ r.2.mem ((c.tc : Thread Cert.FwdReferenceIdeal.nD Cert.FwdReferenceIdeal.τ).loc Cert.FwdReferenceIdeal.main_arg9) = m' ((c.tc : Thread Cert.FwdReferenceIdeal.nD Cert.FwdReferenceIdeal.τ).loc Cert.FwdReferenceIdeal.main_arg9)
          ∧ r.2.mem ((c.tc : Thread Cert.FwdReferenceIdeal.nD Cert.FwdReferenceIdeal.τ).loc Cert.FwdReferenceIdeal.main_arg10) = m' ((c.tc : Thread Cert.FwdReferenceIdeal.nD Cert.FwdReferenceIdeal.τ).loc Cert.FwdReferenceIdeal.main_arg10)
          ∧ r.2.mem ((c.tc : Thread Cert.FwdReferenceIdeal.nD Cert.FwdReferenceIdeal.τ).loc Cert.FwdReferenceIdeal.main_arg11) = m' ((c.tc : Thread Cert.FwdReferenceIdeal.nD Cert.FwdReferenceIdeal.τ).loc Cert.FwdReferenceIdeal.main_arg11)
          ∧ r.2.mem ((c.tc : Thread Cert.FwdReferenceIdeal.nD Cert.FwdReferenceIdeal.τ).loc Cert.FwdReferenceIdeal.main_arg12) = m' ((c.tc : Thread Cert.FwdReferenceIdeal.nD Cert.FwdReferenceIdeal.τ).loc Cert.FwdReferenceIdeal.main_arg12)
          ∧ r.2.mem ((c.tc : Thread Cert.FwdReferenceIdeal.nD Cert.FwdReferenceIdeal.τ).loc Cert.FwdReferenceIdeal.main_arg13) = m' ((c.tc : Thread Cert.FwdReferenceIdeal.nD Cert.FwdReferenceIdeal.τ).loc Cert.FwdReferenceIdeal.main_arg13))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)) →
    ∃ (v0 : (c : Dev Cert.AdaKernelIdeal.nD) → Buf (Elt Ideal) ((c.tc : Thread Cert.AdaKernelIdeal.nD Cert.AdaKernelIdeal.τ).loc Cert.AdaKernelIdeal.main_v4_0)) (v1 : (c : Dev Cert.AdaKernelIdeal.nD) → Buf (Elt Ideal) ((c.tc : Thread Cert.AdaKernelIdeal.nD Cert.AdaKernelIdeal.τ).loc Cert.AdaKernelIdeal.main_v4_1)) (v2 : (c : Dev Cert.AdaKernelIdeal.nD) → Buf (Elt Ideal) ((c.tc : Thread Cert.AdaKernelIdeal.nD Cert.AdaKernelIdeal.τ).loc Cert.AdaKernelIdeal.main_v4_2)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v4_0) = v0 c
          ∧ r.2.mem ((c.tc : Thread Cert.AdaKernelIdeal.nD Cert.AdaKernelIdeal.τ).loc Cert.AdaKernelIdeal.main_v4_1) = v1 c
          ∧ r.2.mem ((c.tc : Thread Cert.AdaKernelIdeal.nD Cert.AdaKernelIdeal.τ).loc Cert.AdaKernelIdeal.main_v4_2) = v2 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v27) = v0 c
          ∧ r.2.mem ((c.tc : Thread Cert.AdaReferenceIdeal.nD Cert.AdaReferenceIdeal.τ).loc Cert.AdaReferenceIdeal.main_v8) = v1 c
          ∧ r.2.mem ((c.tc : Thread Cert.AdaReferenceIdeal.nD Cert.AdaReferenceIdeal.τ).loc Cert.AdaReferenceIdeal.main_v14) = v2 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def Claim : Prop :=
  ∃ (hInKernel : Cert.InKernel.Facts) (hInKernelIdeal : Cert.InKernelIdeal.Facts) (hInReferenceIdeal : Cert.InReferenceIdeal.Facts) (hLastKernel : Cert.LastKernel.Facts) (hLastKernelIdeal : Cert.LastKernelIdeal.Facts) (hLastReferenceIdeal : Cert.LastReferenceIdeal.Facts) (hFwdKernel : Cert.FwdKernel.Facts) (hFwdKernelIdeal : Cert.FwdKernelIdeal.Facts) (hFwdReferenceIdeal : Cert.FwdReferenceIdeal.Facts) (hFwdLastKernel : Cert.FwdLastKernel.Facts) (hFwdLastKernelIdeal : Cert.FwdLastKernelIdeal.Facts) (hAdaKernel : Cert.AdaKernel.Facts) (hAdaKernelIdeal : Cert.AdaKernelIdeal.Facts) (hAdaReferenceIdeal : Cert.AdaReferenceIdeal.Facts) (hPre_finite : Cert.Pre_finite.Facts) (hPre_last_finite : Cert.Pre_last_finite.Facts) (hOn_last_written : Cert.On_last_written.Facts),
    quiescent_InKernel (hInKernel := hInKernel)
    ∧ quiescent_InKernelIdeal (hInKernelIdeal := hInKernelIdeal)
    ∧ quiescent_InKernelIdeal_pre_finite (hInKernelIdeal := hInKernelIdeal) (hPre_finite := hPre_finite)
    ∧ quiescent_InReferenceIdeal (hInReferenceIdeal := hInReferenceIdeal)
    ∧ quiescent_InReferenceIdeal_pre_finite (hInReferenceIdeal := hInReferenceIdeal) (hPre_finite := hPre_finite)
    ∧ quiescent_LastKernel (hLastKernel := hLastKernel)
    ∧ quiescent_LastKernelIdeal (hLastKernelIdeal := hLastKernelIdeal)
    ∧ quiescent_LastKernelIdeal_pre_last_finite (hLastKernelIdeal := hLastKernelIdeal) (hPre_last_finite := hPre_last_finite)
    ∧ quiescent_LastReferenceIdeal (hLastReferenceIdeal := hLastReferenceIdeal)
    ∧ quiescent_LastReferenceIdeal_pre_last_finite (hLastReferenceIdeal := hLastReferenceIdeal) (hPre_last_finite := hPre_last_finite)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_FwdLastKernel (hFwdLastKernel := hFwdLastKernel)
    ∧ quiescent_FwdLastKernelIdeal (hFwdLastKernelIdeal := hFwdLastKernelIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ preserves_InKernel_InKernelIdeal
    ∧ algebraic_InKernelIdeal_InReferenceIdeal_pre_finite (hInKernelIdeal := hInKernelIdeal) (hInReferenceIdeal := hInReferenceIdeal) (hPre_finite := hPre_finite)
    ∧ preserves_LastKernel_LastKernelIdeal
    ∧ algebraic_LastKernelIdeal_LastReferenceIdeal_on_last_written_pre_last_finite (hLastKernelIdeal := hLastKernelIdeal) (hLastReferenceIdeal := hLastReferenceIdeal) (hPre_last_finite := hPre_last_finite) (hOn_last_written := hOn_last_written)
    ∧ preserves_FwdKernel_FwdKernelIdeal
    ∧ algebraic_FwdKernelIdeal_FwdReferenceIdeal (hFwdKernelIdeal := hFwdKernelIdeal) (hFwdReferenceIdeal := hFwdReferenceIdeal)
    ∧ preserves_FwdLastKernel_FwdLastKernelIdeal
    ∧ algebraic_FwdLastKernelIdeal_FwdReferenceIdeal (hFwdLastKernelIdeal := hFwdLastKernelIdeal) (hFwdReferenceIdeal := hFwdReferenceIdeal)
    ∧ preserves_AdaKernel_AdaKernelIdeal
    ∧ algebraic_AdaKernelIdeal_AdaReferenceIdeal (hAdaKernelIdeal := hAdaKernelIdeal) (hAdaReferenceIdeal := hAdaReferenceIdeal)
-- ==== On_last_written.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S2x4x1024x768 : Shape := ⟨4, ![2, 4, 1024, 768]⟩
abbrev S_ : Shape := ⟨0, ![]⟩
abbrev S8x1024 : Shape := ⟨2, ![8, 1024]⟩

class Facts : Prop where
  bcast_S_S16384x1024 : S_.BroadcastsInDim S16384x1024 (![] : Fin 0 → Fin S16384x1024.rank)
  bcast_S_S2x4x1024x768 : S_.BroadcastsInDim S2x4x1024x768 (![] : Fin 0 → Fin S2x4x1024x768.rank)
  bcast_S_S8x1024 : S_.BroadcastsInDim S8x1024 (![] : Fin 0 → Fin S8x1024.rank)

variable [Facts]

def fn {F : FTy → Type} [FloatOps F] (main_arg0 : FVec F S16384x3072 .bf16) (main_arg1 : FVec F S16384x1024 .f32) (main_arg2 : FVec F S16384x1024 .f32) (main_arg3 : FVec F S1024 .f32) (main_arg4 : FVec F S1024 .f32) (main_arg5 : FVec F S1024 .f32) (main_arg6 : FVec F S1024 .f32) (main_arg7 : FVec F S1024x3072 .f32) : IVec S16384x1024 1 × IVec S2x4x1024x768 1 × IVec S8x1024 1 :=
  let main_v0 : IVec S2x4x1024x768 32 := iotaInDim S2x4x1024x768 32 0
  let main_c : IVec S_ 1 := constantI S_ 1 1#1
  let main_v1 : IVec S16384x1024 1 := broadcastInDim S16384x1024 ![] bcast_S_S16384x1024 main_c
  let main_c_0 : IVec S_ 32 := constantI S_ 32 1#32
  let main_v2 : IVec S2x4x1024x768 32 := broadcastInDim S2x4x1024x768 ![] bcast_S_S2x4x1024x768 main_c_0
  let main_v3 : IVec S2x4x1024x768 1 := cmpi .eq main_v0 main_v2
  let main_c_1 : IVec S_ 1 := constantI S_ 1 1#1
  let main_v4 : IVec S8x1024 1 := broadcastInDim S8x1024 ![] bcast_S_S8x1024 main_c_1
  (main_v1, main_v3, main_v4)
-- ==== Pre_finite.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S2x4x1024x768 : Shape := ⟨4, ![2, 4, 1024, 768]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S1024 : S_.BroadcastsInDim S1024 (![] : Fin 0 → Fin S1024.rank)
  bcast_S_S1024x3072 : S_.BroadcastsInDim S1024x3072 (![] : Fin 0 → Fin S1024x3072.rank)

variable [Facts]

def fn {F : FTy → Type} [FloatOps F] (main_arg0 : FVec F S16384x3072 .bf16) (main_arg1 : FVec F S16384x1024 .f32) (main_arg2 : FVec F S16384x1024 .f32) (main_arg3 : FVec F S1024 .f32) (main_arg4 : FVec F S1024 .f32) (main_arg5 : FVec F S1024 .f32) (main_arg6 : FVec F S1024 .f32) (main_arg7 : FVec F S1024x3072 .f32) (main_arg8 : FVec F S2x4x1024x768 .f32) : IVec S16384x3072 1 × IVec S1024 1 × IVec S1024 1 × IVec S1024x3072 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024 .f32 := Host.absf main_arg5
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x3072 .f32 := Host.absf main_arg7
  let main_cst_2 : FVec F S_ .f32 := constant S_ .f32 0x7F800000#32
  let main_v11 : FVec F S1024x3072 .f32 := broadcastInDim S1024x3072 ![] bcast_S_S1024x3072 main_cst_2
  let main_v12 : IVec S1024x3072 1 := cmpf .olt main_v10 main_v11
  (main_v3, main_v6, main_v9, main_v12)
-- ==== Pre_last_finite.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S1024 : S_.BroadcastsInDim S1024 (![] : Fin 0 → Fin S1024.rank)
  bcast_S_S1024x3072 : S_.BroadcastsInDim S1024x3072 (![] : Fin 0 → Fin S1024x3072.rank)

variable [Facts]

def fn {F : FTy → Type} [FloatOps F] (main_arg0 : FVec F S16384x3072 .bf16) (main_arg1 : FVec F S16384x1024 .f32) (main_arg2 : FVec F S16384x1024 .f32) (main_arg3 : FVec F S1024 .f32) (main_arg4 : FVec F S1024 .f32) (main_arg5 : FVec F S1024 .f32) (main_arg6 : FVec F S1024 .f32) (main_arg7 : FVec F S1024x3072 .f32) : IVec S16384x3072 1 × IVec S1024 1 × IVec S1024 1 × IVec S1024x3072 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024 .f32 := Host.absf main_arg5
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x3072 .f32 := Host.absf main_arg7
  let main_cst_2 : FVec F S_ .f32 := constant S_ .f32 0x7F800000#32
  let main_v11 : FVec F S1024x3072 .f32 := broadcastInDim S1024x3072 ![] bcast_S_S1024x3072 main_cst_2
  let main_v12 : IVec S1024x3072 1 := cmpf .olt main_v10 main_v11
  (main_v3, main_v6, main_v9, main_v12)
-- ==== InKernel.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S2x4x1024x768 : Shape := ⟨4, ![2, 4, 1024, 768]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 24
  | .vmem => 12
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S2x4x1024x768, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x1024, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S1024x4x768, .f32⟩
  | .hbm, ⟨18, _⟩ => ⟨S4x1024x768, .f32⟩
  | .hbm, ⟨19, _⟩ => ⟨S4x1024x768, .bf16⟩
  | .hbm, ⟨20, _⟩ => ⟨S1x4x1024x768, .bf16⟩
  | .hbm, ⟨21, _⟩ => ⟨S16384x1024, .f32⟩
  | .hbm, ⟨22, _⟩ => ⟨S2x4x1024x768, .f32⟩
  | .hbm, ⟨23, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S4x1024x768, .bf16⟩
  | .local _ .vmem, ⟨11, _⟩ => ⟨S4x1024x768, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InReferenceIdeal.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S2x4x1024x768 : Shape := ⟨4, ![2, 4, 1024, 768]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3072x1024 : Shape := ⟨2, ![3072, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S3x1024 : Shape := ⟨2, ![3, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S2x4x1024x768, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x3072, .f32⟩
  | .hbm, ⟨39, _⟩ => ⟨S16384x3072, .f32⟩
  | .hbm, ⟨40, _⟩ => ⟨S3072x1024, .f32⟩
  | .hbm, ⟨41, _⟩ => ⟨S1024x3072, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S1024x4x768, .f32⟩
  | .hbm, ⟨83, _⟩ => ⟨S4x1024x768, .f32⟩
  | .hbm, ⟨84, _⟩ => ⟨S1x4x1024x768, .f32⟩
  | .hbm, ⟨85, _⟩ => ⟨S1x4x1024x768, .f32⟩
  | .hbm, ⟨86, _⟩ => ⟨S2x4x1024x768, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S3x1024, .f32⟩
  | .hbm, ⟨91, _⟩ => ⟨S_, .i32⟩
  | .hbm, ⟨92, _⟩ => ⟨S_, .f32⟩
  | .hbm, ⟨93, _⟩ => ⟨S8x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c : Ref sig .tc := ⟨.hbm, 91, rfl⟩
abbrev main_call0_v0 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== LastKernel.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S2x4x1024x768 : Shape := ⟨4, ![2, 4, 1024, 768]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 23
  | .vmem => 12
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x1024, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S1024x4x768, .f32⟩
  | .hbm, ⟨17, _⟩ => ⟨S4x1024x768, .f32⟩
  | .hbm, ⟨18, _⟩ => ⟨S4x1024x768, .bf16⟩
  | .hbm, ⟨19, _⟩ => ⟨S1x4x1024x768, .bf16⟩
  | .hbm, ⟨20, _⟩ => ⟨S16384x1024, .f32⟩
  | .hbm, ⟨21, _⟩ => ⟨S2x4x1024x768, .f32⟩
  | .hbm, ⟨22, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S4x1024x768, .bf16⟩
  | .local _ .vmem, ⟨11, _⟩ => ⟨S4x1024x768, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LastReferenceIdeal.lean ====
abbrev S16384x3072 : Shape := ⟨2, ![16384, 3072]⟩
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3072x1024 : Shape := ⟨2, ![3072, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S2x4x1024x768 : Shape := ⟨4, ![2, 4, 1024, 768]⟩
abbrev S3x1024 : Shape := ⟨2, ![3, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x3072, .f32⟩
  | .hbm, ⟨38, _⟩ => ⟨S16384x3072, .f32⟩
  | .hbm, ⟨39, _⟩ => ⟨S3072x1024, .f32⟩
  | .hbm, ⟨40, _⟩ => ⟨S1024x3072, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S1024x4x768, .f32⟩
  | .hbm, ⟨82, _⟩ => ⟨S4x1024x768, .f32⟩
  | .hbm, ⟨83, _⟩ => ⟨S1x4x1024x768, .f32⟩
  | .hbm, ⟨84, _⟩ => ⟨S_, .i32⟩
  | .hbm, ⟨85, _⟩ => ⟨S_, .f32⟩
  | .hbm, ⟨86, _⟩ => ⟨S2x4x1024x768, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S3x1024, .f32⟩
  | .hbm, ⟨91, _⟩ => ⟨S_, .i32⟩
  | .hbm, ⟨92, _⟩ => ⟨S_, .f32⟩
  | .hbm, ⟨93, _⟩ => ⟨S8x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c : Ref sig .tc := ⟨.hbm, 84, rfl⟩
abbrev main_call0_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_call1_v0 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== FwdKernel.lean ====
abbrev S16384x1024 : Shape := ⟨2, ![16384, 1024]⟩
abbrev S1024 : Shape := ⟨1, ![1024]⟩
abbrev S1024x3072 : Shape := ⟨2, ![1024, 3072]⟩
abbrev S2x8x256 : Shape := ⟨3, ![2, 8, 256]⟩
abbrev S2x32x256 : Shape := ⟨3, ![2, 32, 256]⟩
abbrev S2x16x256 : Shape := ⟨3, ![2, 16, 256]⟩
abbrev S2x256x256 : Shape := ⟨3, ![2, 256, 256]⟩
abbrev S2x4x128x128 : Shape := ⟨4, ![2, 4, 128, 128]⟩
abbrev S2x128x256 : Shape := ⟨3, ![2, 128, 256]⟩
abbrev S1x4x256x1024 : Shape := ⟨4, ![1, 4, 256, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S16384x3072 : Shape := ⟨2, ![16384, 3072]⟩
abbrev S16384x256 : Shape := ⟨2, ![16384, 256]⟩
abbrev S256x1024 : Shape := ⟨2, ![256, 1024]⟩
abbrev S1x8x256 : Shape := ⟨3, ![1, 8, 256]⟩
abbrev S1x32x256 : Shape := ⟨3, ![1, 32, 256]⟩
abbrev S1x16x256 : Shape := ⟨3, ![1, 16, 256]⟩
abbrev S1x256x256 : Shape := ⟨3, ![1, 256, 256]⟩
abbrev S1x4x128x128 : Shape := ⟨4, ![1, 4, 128, 128]⟩
abbrev S1x128x256 : Shape := ⟨3, ![1, 128, 256]⟩
abbrev S256x3072 : Shape := ⟨2, ![256, 3072]⟩
abbrev S256x256 : Shape := ⟨2, ![256, 256]⟩
abbrev S288x256 : Shape := ⟨2, ![288, 256]⟩
abbrev S8x288x256 : Shape := ⟨3, ![8, 288, 256]⟩
abbrev S32x3072 : Shape := ⟨2, ![32, 3072]⟩
abbrev S256 : Shape := ⟨1, ![256]⟩
abbrev S256x1 : Shape := ⟨2, ![256, 1]⟩
abbrev S1x1x1024x768 : Shape := ⟨4, ![1, 1, 1024, 768]⟩
abbrev S1024x768 : Shape := ⟨2, ![1024, 768]⟩
abbrev S256x768 : Shape := ⟨2, ![256, 768]⟩
abbrev S1x256 : Shape := ⟨2, ![1, 256]⟩
abbrev S32x256 : Shape := ⟨2, ![32, 256]⟩
abbrev S1x1x256 : Shape := ⟨3, ![1, 1, 256]⟩
abbrev S64x256 : Shape := ⟨2, ![64, 256]⟩
abbrev S280x256 : Shape := ⟨2, ![280, 256]⟩
abbrev S272x256 : Shape := ⟨2, ![272, 256]⟩
abbrev S264x256 : Shape := ⟨2, ![264, 256]⟩
abbrev S1x280x256 : Shape := ⟨3, ![1, 280, 256]⟩
abbrev S1x64x256 : Shape := ⟨3, ![1, 64, 256]⟩
abbrev S128x256 : Shape := ⟨2, ![128, 256]⟩
abbrev S1x1x128x128 : Shape := ⟨4, ![1, 1, 128, 128]⟩
abbrev S128x128 : Shape := ⟨2, ![128, 128]⟩
abbrev S1x1x256x1024 : Shape := ⟨4, ![1, 1, 256, 1024]⟩

abbrev nBuf : Space → Nat
  | .hbm => 30
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S2x8x256, .f32⟩
  | .hbm, ⟨7, _⟩ => ⟨S2x32x256, .f32⟩
  | .hbm, ⟨8, _⟩ => ⟨S2x16x256, .f32⟩
  | .hbm, ⟨9, _⟩ => ⟨S2x256x256, .bf16⟩
  | .hbm, ⟨10, _⟩ => ⟨S2x256x256, .bf16⟩
  | .hbm, ⟨11, _⟩ => ⟨S2x4x128x128, .bf16⟩
  | .hbm, ⟨12, _⟩ => ⟨S2x128x256, .f32⟩
  | .hbm, ⟨13, _⟩ => ⟨S1x4x256x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4x1024, .f32⟩
  | .hbm, ⟨19, _⟩ => ⟨S_, .i32⟩
  | .hbm, ⟨20, _⟩ => ⟨S_, .f32⟩
  | .hbm, ⟨21, _⟩ => ⟨S8x1024, .f32⟩
  | .hbm, ⟨22, _⟩ => ⟨S1024x4x768, .f32⟩
  | .hbm, ⟨23, _⟩ => ⟨S4x1024x768, .f32⟩
  | .hbm, ⟨24, _⟩ => ⟨S4x1024x768, .bf16⟩
  | .hbm, ⟨25, _⟩ => ⟨S1x4x1024x768, .bf16⟩
  | .hbm, ⟨26, _⟩ => ⟨S16384x3072, .f32⟩
  | .hbm, ⟨27, _⟩ => ⟨S16384x1024, .f32⟩
  | .hbm, ⟨28, _⟩ => ⟨S16384x1024, .f32⟩
  | .hbm, ⟨29, _⟩ => ⟨S16384x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x4x1024x768, .bf16⟩
  | .local _ .vmem, ⟨6, _⟩ => ⟨S1x8x256, .f32⟩
  | .local _ .vmem, ⟨7, _⟩ => ⟨S1x32x256, .f32⟩
  | .local _ .vmem, ⟨8, _⟩ => ⟨S1x16x256, .f32⟩
  | .local _ .vmem, ⟨9, _⟩ => ⟨S1x256x256, .bf16⟩
  | .local _ .vmem, ⟨10, _⟩ => ⟨S1x256x256, .bf16⟩
  | .local _ .vmem, ⟨11, _⟩ => ⟨S1x4x128x128, .bf16⟩
  | .local _ .vmem, ⟨12, _⟩ => ⟨S1x128x256, .f32⟩
  | .local _ .vmem, ⟨13, _⟩ => ⟨S1x4x256x1024, .bf16⟩
  | .local _ .vmem, ⟨14, _⟩ => ⟨S256x3072, .f32⟩
  | .local _ .vmem, ⟨15, _⟩ => ⟨S256x3072, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x256, .f32⟩
  | .local _ .vmem, ⟨21, _⟩ => ⟨S256x256, .f32⟩
  | .local _ .vmem, ⟨22, _⟩ => ⟨S288x256, .f32⟩
  | .local _ .vmem, ⟨23, _⟩ => ⟨S256x256, .f32⟩
  | .local _ .vmem, ⟨24, _⟩ => ⟨S288x256, .f32⟩
  | .local _ .vmem, ⟨25, _⟩ => ⟨S288x256, .f32⟩
  | .local _ .vmem, ⟨26, _⟩ => ⟨S288x256, .f32⟩
  | .local _ .vmem, ⟨27, _⟩ => ⟨S256x256, .f32⟩
  | .local _ .vmem, ⟨28, _⟩ => ⟨S8x288x256, .f32⟩
  | .local _ .vmem, ⟨29, _⟩ => ⟨S256x3072, .f32⟩
  | .local _ .vmem, ⟨30, _⟩ => ⟨S256x3072, .f32⟩
  | .local _ .vmem, ⟨31, _⟩ => ⟨S32x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FwdReferenceIdeal.lean ====
abbrev S16384x1024 : Shape := ⟨2, ![16384, 1024]⟩
abbrev S1024 : Shape := ⟨1, ![1024]⟩
abbrev S1024x3072 : Shape := ⟨2, ![1024, 3072]⟩
abbrev S2x8x256 : Shape := ⟨3, ![2, 8, 256]⟩
abbrev S2x32x256 : Shape := ⟨3, ![2, 32, 256]⟩
abbrev S2x16x256 : Shape := ⟨3, ![2, 16, 256]⟩
abbrev S2x256x256 : Shape := ⟨3, ![2, 256, 256]⟩
abbrev S2x4x128x128 : Shape := ⟨4, ![2, 4, 128, 128]⟩
abbrev S2x128x256 : Shape := ⟨3, ![2, 128, 256]⟩
abbrev S1x4x256x1024 : Shape := ⟨4, ![1, 4, 256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S2x8x256, .f32⟩
  | .hbm, ⟨7, _⟩ => ⟨S2x32x256, .f32⟩
  | .hbm, ⟨8, _⟩ => ⟨S2x16x256, .f32⟩
  | .hbm, ⟨9, _⟩ => ⟨S2x256x256, .bf16⟩
  | .hbm, ⟨10, _⟩ => ⟨S2x256x256, .bf16⟩
  | .hbm, ⟨11, _⟩ => ⟨S2x4x128x128, .bf16⟩
  | .hbm, ⟨12, _⟩ => ⟨S2x128x256, .f32⟩
  | .hbm, ⟨13, _⟩ => ⟨S1x4x256x1024, .bf16⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== FwdLastKernel.lean ====
abbrev S16384x1024 : Shape := ⟨2, ![16384, 1024]⟩
abbrev S1024 : Shape := ⟨1, ![1024]⟩
abbrev S1024x3072 : Shape := ⟨2, ![1024, 3072]⟩
abbrev S2x8x256 : Shape := ⟨3, ![2, 8, 256]⟩
abbrev S2x32x256 : Shape := ⟨3, ![2, 32, 256]⟩
abbrev S2x16x256 : Shape := ⟨3, ![2, 16, 256]⟩
abbrev S2x256x256 : Shape := ⟨3, ![2, 256, 256]⟩
abbrev S2x4x128x128 : Shape := ⟨4, ![2, 4, 128, 128]⟩
abbrev S2x128x256 : Shape := ⟨3, ![2, 128, 256]⟩
abbrev S1x4x256x1024 : Shape := ⟨4, ![1, 4, 256, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S16384x3072 : Shape := ⟨2, ![16384, 3072]⟩
abbrev S16384x256 : Shape := ⟨2, ![16384, 256]⟩
abbrev S256x1024 : Shape := ⟨2, ![256, 1024]⟩
abbrev S1x8x256 : Shape := ⟨3, ![1, 8, 256]⟩
abbrev S1x32x256 : Shape := ⟨3, ![1, 32, 256]⟩
abbrev S1x16x256 : Shape := ⟨3, ![1, 16, 256]⟩
abbrev S1x256x256 : Shape := ⟨3, ![1, 256, 256]⟩
abbrev S1x4x128x128 : Shape := ⟨4, ![1, 4, 128, 128]⟩
abbrev S1x128x256 : Shape := ⟨3, ![1, 128, 256]⟩
abbrev S256x3072 : Shape := ⟨2, ![256, 3072]⟩
abbrev S256x256 : Shape := ⟨2, ![256, 256]⟩
abbrev S288x256 : Shape := ⟨2, ![288, 256]⟩
abbrev S8x288x256 : Shape := ⟨3, ![8, 288, 256]⟩
abbrev S32x3072 : Shape := ⟨2, ![32, 3072]⟩
abbrev S256 : Shape := ⟨1, ![256]⟩
abbrev S256x1 : Shape := ⟨2, ![256, 1]⟩
abbrev S1x1x1024x768 : Shape := ⟨4, ![1, 1, 1024, 768]⟩
abbrev S1024x768 : Shape := ⟨2, ![1024, 768]⟩
abbrev S256x768 : Shape := ⟨2, ![256, 768]⟩
abbrev S1x256 : Shape := ⟨2, ![1, 256]⟩
abbrev S32x256 : Shape := ⟨2, ![32, 256]⟩
abbrev S1x1x256 : Shape := ⟨3, ![1, 1, 256]⟩
abbrev S64x256 : Shape := ⟨2, ![64, 256]⟩
abbrev S280x256 : Shape := ⟨2, ![280, 256]⟩
abbrev S272x256 : Shape := ⟨2, ![272, 256]⟩
abbrev S264x256 : Shape := ⟨2, ![264, 256]⟩
abbrev S1x280x256 : Shape := ⟨3, ![1, 280, 256]⟩
abbrev S1x64x256 : Shape := ⟨3, ![1, 64, 256]⟩
abbrev S128x256 : Shape := ⟨2, ![128, 256]⟩
abbrev S1x1x128x128 : Shape := ⟨4, ![1, 1, 128, 128]⟩
abbrev S128x128 : Shape := ⟨2, ![128, 128]⟩
abbrev S1x1x256x1024 : Shape := ⟨4, ![1, 1, 256, 1024]⟩

abbrev nBuf : Space → Nat
  | .hbm => 30
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S2x8x256, .f32⟩
  | .hbm, ⟨7, _⟩ => ⟨S2x32x256, .f32⟩
  | .hbm, ⟨8, _⟩ => ⟨S2x16x256, .f32⟩
  | .hbm, ⟨9, _⟩ => ⟨S2x256x256, .bf16⟩
  | .hbm, ⟨10, _⟩ => ⟨S2x256x256, .bf16⟩
  | .hbm, ⟨11, _⟩ => ⟨S2x4x128x128, .bf16⟩
  | .hbm, ⟨12, _⟩ => ⟨S2x128x256, .f32⟩
  | .hbm, ⟨13, _⟩ => ⟨S1x4x256x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4x1024, .f32⟩
  | .hbm, ⟨19, _⟩ => ⟨S_, .i32⟩
  | .hbm, ⟨20, _⟩ => ⟨S_, .f32⟩
  | .hbm, ⟨21, _⟩ => ⟨S8x1024, .f32⟩
  | .hbm, ⟨22, _⟩ => ⟨S1024x4x768, .f32⟩
  | .hbm, ⟨23, _⟩ => ⟨S4x1024x768, .f32⟩
  | .hbm, ⟨24, _⟩ => ⟨S4x1024x768, .bf16⟩
  | .hbm, ⟨25, _⟩ => ⟨S1x4x1024x768, .bf16⟩
  | .hbm, ⟨26, _⟩ => ⟨S16384x3072, .f32⟩
  | .hbm, ⟨27, _⟩ => ⟨S16384x1024, .f32⟩
  | .hbm, ⟨28, _⟩ => ⟨S16384x1024, .f32⟩
  | .hbm, ⟨29, _⟩ => ⟨S16384x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x4x1024x768, .bf16⟩
  | .local _ .vmem, ⟨6, _⟩ => ⟨S1x8x256, .f32⟩
  | .local _ .vmem, ⟨7, _⟩ => ⟨S1x32x256, .f32⟩
  | .local _ .vmem, ⟨8, _⟩ => ⟨S1x16x256, .f32⟩
  | .local _ .vmem, ⟨9, _⟩ => ⟨S1x256x256, .bf16⟩
  | .local _ .vmem, ⟨10, _⟩ => ⟨S1x256x256, .bf16⟩
  | .local _ .vmem, ⟨11, _⟩ => ⟨S1x4x128x128, .bf16⟩
  | .local _ .vmem, ⟨12, _⟩ => ⟨S1x128x256, .f32⟩
  | .local _ .vmem, ⟨13, _⟩ => ⟨S1x4x256x1024, .bf16⟩
  | .local _ .vmem, ⟨14, _⟩ => ⟨S256x3072, .f32⟩
  | .local _ .vmem, ⟨15, _⟩ => ⟨S256x3072, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x256, .f32⟩
  | .local _ .vmem, ⟨21, _⟩ => ⟨S256x256, .f32⟩
  | .local _ .vmem, ⟨22, _⟩ => ⟨S288x256, .f32⟩
  | .local _ .vmem, ⟨23, _⟩ => ⟨S256x256, .f32⟩
  | .local _ .vmem, ⟨24, _⟩ => ⟨S288x256, .f32⟩
  | .local _ .vmem, ⟨25, _⟩ => ⟨S288x256, .f32⟩
  | .local _ .vmem, ⟨26, _⟩ => ⟨S288x256, .f32⟩
  | .local _ .vmem, ⟨27, _⟩ => ⟨S256x256, .f32⟩
  | .local _ .vmem, ⟨28, _⟩ => ⟨S8x288x256, .f32⟩
  | .local _ .vmem, ⟨29, _⟩ => ⟨S256x3072, .f32⟩
  | .local _ .vmem, ⟨30, _⟩ => ⟨S256x3072, .f32⟩
  | .local _ .vmem, ⟨31, _⟩ => ⟨S32x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AdaKernel.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdaReferenceIdeal.lean ====
abbrev S2x1024x768 : Shape := ⟨3, ![2, 1024, 768]⟩
abbrev S2048x768 : Shape := ⟨2, ![2048, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S_, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.InRuns.lean ====
module

public import proofs.«01_k».proof.Proof.Gen.InKernelIdeal.Launch
public import proofs.«01_k».proof.Proof.Gen.InKernelIdeal.Skeleton
public import proofs.«01_k».proof.Proof.Gen.InKernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

/-! The input projection's gradient: what its run starts from. The text follows the generated frame of this kernel; it is adapted for the operand that the kernel never reads and whose buffer is that of its second result. -/

@[expose] public section

-- membership in a rectangle of production extents (`View.cover_of_tiled`): the elaborator's structural look
-- recurses once per coordinate of the long axes
set_option maxRecDepth 16384

noncomputable section

namespace Cert.InDx

open Cert.InKernelIdeal Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v10_1}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_InKernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 31#32)) 0#32) = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)

/-! ## The kernel body on any staging memrefs: a subtype the run finds -/

/-- One staging buffer of output window 4, through which its contents are stated (`View.read_writes_of_cover`: the
    choice does not matter). -/
abbrev VO0_4 : View sig .tc .vmem S512x1024 .f32 := (Memref.whole cc0_stg4_0 : Memref sig .tc .vmem S512x1024 .f32).view
/-- One staging buffer of output window 5, through which its contents are stated (`View.read_writes_of_cover`: the
    choice does not matter). -/
abbrev VO0_5 : View sig .tc .vmem S8x1024 .f32 := (Memref.whole cc0_stg5_0 : Memref sig .tc .vmem S8x1024 .f32).view
/-- Each window's current staging memref at point `t`, spelled as the pipeline passes it (`bodyAt0`), and its wholeness. -/
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x1024x768 .bf16 := Memref.whole cc0_scratch0
abbrev scM0_1 : Memref sig .tc .vmem S4x1024x768 .f32 := Memref.whole cc0_scratch1
/-- The scratch `arg10` the kernel carries between points, as a view: what it holds is stated through it. -/
abbrev VS0_0 : View sig .tc .vmem S4x1024x768 .bf16 := scM0_0.view
/-- The scratch `arg11` the kernel carries between points, as a view: what it holds is stated through it. -/
abbrev VS0_1 : View sig .tc .vmem S4x1024x768 .f32 := scM0_1.view
/-- The operands left in HBM that the body copies into scratch itself, whole. -/
abbrev hbM0_0 : Memref sig .tc .hbm S1x4x1024x768 .bf16 := Memref.whole main_v9
abbrev hbM0_1 : Memref sig .tc .hbm S2x4x1024x768 .f32 := Memref.whole main_v10_1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 10] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
/-- The HBM operands the body copies from and leaves unchanged, as references: unscoped, no window's array (`Pipeline.restRefs`). -/
def H0 : Finset (Ref sig .tc) := {main_v9}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v9)) := by
  rw [BI.bigSep_eq_bigSepL_of_eq [main_v9] (by decide) (by decide)]; rfl
/-- The written operands' points-tos at their launch contents each (`Pipeline.routed` at the launch's valuation), listed:
    how the launch hands them to the first point. -/
theorem heldV0_eq (c : Dev nD) :
    (Pipeline.routed R0 c ((V m) c) : sProp 𝕄) = iprop(hbPt0 c hbM0_1 (V m c main_v10_1)) := by
  unfold Pipeline.routed; rw [BI.bigSep_eq_bigSepL_of_eq [main_v10_1] (by decide) (by decide)]; rfl

/-- The invariant of a body whose transfers write some HBM operands, held by value, BEFORE THE FIRST POINT: `Pipeline.ΦDRG` with the
    written operands still at their launch contents, conjunct by conjunct: the scratch operands owned at some contents, the generator register at some state,
    the own cells at zero, the HBM operands read at their launch contents, the HBM operands written at their launch contents —
    what the launch hands the region (Lib/Pipeline/FrameValue.lean). -/
theorem PhiDRG0_in_eq (c : Dev nD) :
    (Pipeline.ΦDRG osem0 spec0 H0 R0 (V m) (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0) ∗ iprop(hbPt0 c hbM0_0 (V m c main_v9)) ∗ iprop(hbPt0 c hbM0_1 (V m c main_v10_1))) := by
  rw [Pipeline.ΦDRG_eq, scopedRest0_eq, ownSems00_eq, hbmPts0_eq, heldV0_eq]; simp only [scM0_0, scM0_1, owns_whole]; try rfl

end Cert.InDx

end
-- ==== Proof.InRunA.lean ====
module

public import proofs.«01_k».proof.Proof.InRuns

/-! The run of the kernel's body in case A of its frame. The text follows the generated frame of this kernel; it is adapted for the operand that the kernel never reads and whose buffer is that of its second result. -/

@[expose] public section

-- membership in a rectangle of production extents (`View.cover_of_tiled`): the elaborator's structural look
-- recurses once per coordinate of the long axes
set_option maxRecDepth 16384

noncomputable section

namespace Cert.InDx

open Cert.InKernelIdeal Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) :
    Σ' (L4 : List (View.Piece (Elt F) S512x1024 .f32)), Σ' (L5 : List (View.Piece (Elt F) S8x1024 .f32)), Σ' (LS0 : List (View.Piece (Elt F) S4x1024x768 .bf16)), Σ' (LS1 : List (View.Piece (Elt F) S4x1024x768 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ semVal ((c : Thread nD τ), SemLoc.dma 10) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_bwd_in_0 i arg1 harg1 arg2 harg2 arg3 harg3 arg4 harg4 (Memref.whole main_v9) (Memref.isWhole_whole _) (Memref.whole main_v10_1) (Memref.isWhole_whole _) arg7 harg7 (Memref.whole main_v10_1) (Memref.isWhole_whole _) arg9 harg9 arg10 harg10 arg11 harg11 cc0_scratch2) K } := by
  refine ⟨?_, ?_, ?_, ?_, ?_, fun W K => ?run⟩
  case run =>
    simp only [cc0_bwd_in_0_eq_skeleton]; unfold cc0_bwd_in_0_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hq0, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    isplitl [Hq0]; · iexact Hq0
    isplitl [Hh0]; · iexact Hh0
    isplitl [Hh1]; · iexact Hh1
    iexists _; iexact HW

end Cert.InDx

end
-- ==== Proof.InRunB.lean ====
module

public import proofs.«01_k».proof.Proof.InRunA

/-! The run of the kernel's body in case B of its frame. The text follows the generated frame of this kernel; it is adapted for the operand that the kernel never reads and whose buffer is that of its second result. -/

@[expose] public section

-- membership in a rectangle of production extents (`View.cover_of_tiled`): the elaborator's structural look
-- recurses once per coordinate of the long axes
set_option maxRecDepth 16384

noncomputable section

namespace Cert.InDx

open Cert.InKernelIdeal Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it reads before covering (5) at their running contents `xo·`, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) :
    Σ' (L4 : List (View.Piece (Elt F) S512x1024 .f32)), Σ' (L5 : List (View.Piece (Elt F) S8x1024 .f32)), Σ' (LS0 : List (View.Piece (Elt F) S4x1024x768 .bf16)), Σ' (LS1 : List (View.Piece (Elt F) S4x1024x768 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ owns (c : Thread nD τ) arg9 fullShare xo5 ∗ owns (c : Thread nD τ) arg10 fullShare xs0 ∗ owns (c : Thread nD τ) arg11 fullShare xs1 ∗ semVal ((c : Thread nD τ), SemLoc.dma 10) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (arg9.view.loc (c : Thread nD τ) ↦[arg9.view.set]{fullShare} arg9.view.writes (Elt F) (harg9.unread xo5) L5) ∗ owns (c : Thread nD τ) arg10 fullShare xs0 ∗ (∃ f, arg11.view.loc (c : Thread nD τ) ↦[arg11.view.set]{fullShare} arg11.view.writes (Elt F) f LS1) ∗ semVal ((c : Thread nD τ), SemLoc.dma 10) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_bwd_in_0 i arg1 harg1 arg2 harg2 arg3 harg3 arg4 harg4 (Memref.whole main_v9) (Memref.isWhole_whole _) (Memref.whole main_v10_1) (Memref.isWhole_whole _) arg7 harg7 (Memref.whole main_v10_1) (Memref.isWhole_whole _) arg9 harg9 arg10 harg10 arg11 harg11 cc0_scratch2) K } := by
  refine ⟨?_, ?_, [], ?_, ?_, fun W K => ?run⟩
  case run =>
    simp only [cc0_bwd_in_0_eq_skeleton]; unfold cc0_bwd_in_0_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hq0, Hh0, Hh1, HW, Hk⟩
    obtain rfl := harg1.eq_unread hf0; obtain rfl := harg2.eq_unread hf1; obtain rfl := harg3.eq_unread hf2; obtain rfl := harg4.eq_unread hf3; obtain rfl := harg9.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    isplitl [HS0]
    · iexists _; isplitr; · ipureintro; exact harg10.read_unread _
      iexact HS0
    isplitl [HS1]; · iexists _; iexact HS1
    isplitl [Hq0]; · iexact Hq0
    isplitl [Hh0]; · iexact Hh0
    isplitl [Hh1]; · iexact Hh1
    iexists _; iexact HW

end Cert.InDx

end
-- ==== Proof.InRunC.lean ====
module

public import proofs.«01_k».proof.Proof.InRunB

/-! The run of the kernel's body in case C of its frame. The text follows the generated frame of this kernel; it is adapted for the operand that the kernel never reads and whose buffer is that of its second result. -/

@[expose] public section

-- membership in a rectangle of production extents (`View.cover_of_tiled`): the elaborator's structural look
-- recurses once per coordinate of the long axes
set_option maxRecDepth 16384

noncomputable section

namespace Cert.InDx

open Cert.InKernelIdeal Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the outputs it reads before covering (5) at their running contents `xo·`, the other outputs' at
    anything, a carried scratch at the contents the point before left (`xs·`) or at anything, the other scratch at anything, the HBM operands it copies from whole at their launch contents `fh·`, those it writes back into whole at the contents the point before left in them `fw·` (held by value), its DMA cells at zero and the core's `owes`, the body runs to the continuation holding the inputs' as they were,
    a carried scratch it stored into with its pieces written (`LS·`), the other scratch at some contents, the HBM operands it copies from and the cells as they were, those it writes into at the contents they came in with, the body's copies out written over them (`gw·`, a witness the run finds) (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) :
    Σ' (L4 : List (View.Piece (Elt F) S512x1024 .f32)), Σ' (L5 : List (View.Piece (Elt F) S8x1024 .f32)), Σ' (LS0 : List (View.Piece (Elt F) S4x1024x768 .bf16)), Σ' (LS1 : List (View.Piece (Elt F) S4x1024x768 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ owns (c : Thread nD τ) arg9 fullShare xo5 ∗ owns (c : Thread nD τ) arg10 fullShare xs0 ∗ owns (c : Thread nD τ) arg11 fullShare xs1 ∗ semVal ((c : Thread nD τ), SemLoc.dma 10) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (arg9.view.loc (c : Thread nD τ) ↦[arg9.view.set]{fullShare} arg9.view.writes (Elt F) (harg9.unread xo5) L5) ∗ owns (c : Thread nD τ) arg10 fullShare xs0 ∗ (∃ f, arg11.view.loc (c : Thread nD τ) ↦[arg11.view.set]{fullShare} arg11.view.writes (Elt F) f LS1) ∗ semVal ((c : Thread nD τ), SemLoc.dma 10) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_bwd_in_0 i arg1 harg1 arg2 harg2 arg3 harg3 arg4 harg4 (Memref.whole main_v9) (Memref.isWhole_whole _) (Memref.whole main_v10_1) (Memref.isWhole_whole _) arg7 harg7 (Memref.whole main_v10_1) (Memref.isWhole_whole _) arg9 harg9 arg10 harg10 arg11 harg11 cc0_scratch2) K } := by
  refine ⟨?_, ?_, [], ?_, ?_, fun W K => ?run⟩
  case run =>
    simp only [cc0_bwd_in_0_eq_skeleton]; unfold cc0_bwd_in_0_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hq0, Hh0, Hh1, HW, Hk⟩
    obtain rfl := harg1.eq_unread hf0; obtain rfl := harg2.eq_unread hf1; obtain rfl := harg3.eq_unread hf2; obtain rfl := harg4.eq_unread hf3; obtain rfl := harg9.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    isplitl [HS0]
    · iexists _; isplitr; · ipureintro; exact harg10.read_unread _
      iexact HS0
    isplitl [HS1]; · iexists _; iexact HS1
    isplitl [Hq0]; · iexact Hq0
    isplitl [Hh0]; · iexact Hh0
    isplitl [Hh1]; · iexact Hh1
    iexists _; iexact HW

end Cert.InDx

end
-- ==== Proof.InFrame.lean ====
module

public import proofs.«01_k».proof.Proof.InRunC
public import Idealize.ShloMosaic.Lib.Claim

/-! The frame of the input projection's gradient. The text follows the generated frame of this kernel; it is adapted for the operand that the kernel never reads and whose buffer is that of its second result. -/

@[expose] public section

-- membership in a rectangle of production extents (`View.cover_of_tiled`): the elaborator's structural look
-- recurses once per coordinate of the long axes
set_option maxRecDepth 16384

noncomputable section

namespace Cert.InDx

open Cert.InKernelIdeal Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 4 tile its block (1 store of `S512x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) (y : S512x1024.Idx) :
    ∃ pc ∈ (kernelRun0_A c i arg1 harg1 arg2 harg2 arg3 harg3 arg4 harg4 arg7 harg7 arg9 harg9 arg10 harg10 arg11 harg11 hc0 hc1 x0 x1 x2 x3 fh0 fw1).1, y ∈ pc.1.set :=
  View.cover_of_tiledL (kernelRun0_A c i arg1 harg1 arg2 harg2 arg3 harg3 arg4 harg4 arg7 harg7 arg9 harg9 arg10 harg10 arg11 harg11 hc0 hc1 x0 x1 x2 x3 fh0 fw1).1 S512x1024.size (by sl_kernel_rfl) y

/-- What case A leaves in output 4's staging buffer: its pieces read back over junk. -/
def out0_A_4 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) : Vec F S512x1024 .f32 :=
  VO0_4.read (Elt F) (VO0_4.writes (Elt F) VO0_4.junk (kernelRun0_A c i arg1 harg1 arg2 harg2 arg3 harg3 arg4 harg4 arg7 harg7 arg9 harg9 arg10 harg10 arg11 harg11 hc0 hc1 x0 x1 x2 x3 fh0 fw1).1)

/-- Case A's pieces for output 5 are of SEVERAL sizes (3 stores of `S1x1024`, `S8x1024`): cut into blocks of `![1, 1024]` they tile its block (checked by the kernel's evaluation: Lib/Ring.lean `Piece.tiledBy`), so they cover it. -/
theorem cover0_A_5 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) (y : S8x1024.Idx) :
    ∃ pc ∈ (kernelRun0_A c i arg1 harg1 arg2 harg2 arg3 harg3 arg4 harg4 arg7 harg7 arg9 harg9 arg10 harg10 arg11 harg11 hc0 hc1 x0 x1 x2 x3 fh0 fw1).2.1, y ∈ pc.1.set :=
  View.cover_of_tiledBy (kernelRun0_A c i arg1 harg1 arg2 harg2 arg3 harg3 arg4 harg4 arg7 harg7 arg9 harg9 arg10 harg10 arg11 harg11 hc0 hc1 x0 x1 x2 x3 fh0 fw1).2.1 ![1, 1024] (by sl_kernel_rfl) y

/-- What case A leaves in output 5's staging buffer: its pieces read back over junk. -/
def out0_A_5 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) : Vec F S8x1024 .f32 :=
  VO0_5.read (Elt F) (VO0_5.writes (Elt F) VO0_5.junk (kernelRun0_A c i arg1 harg1 arg2 harg2 arg3 harg3 arg4 harg4 arg7 harg7 arg9 harg9 arg10 harg10 arg11 harg11 hc0 hc1 x0 x1 x2 x3 fh0 fw1).2.1)

/-- Case A's pieces for scratch `arg10`, which the kernel carries between points, cover it: 1 piece of `S4x1024x768` tiling it (Lib/Ring.lean `Piece.tiledL`). -/
theorem scover0_A_0 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) (y : S4x1024x768.Idx) :
    ∃ pc ∈ (kernelRun0_A c i arg1 harg1 arg2 harg2 arg3 harg3 arg4 harg4 arg7 harg7 arg9 harg9 arg10 harg10 arg11 harg11 hc0 hc1 x0 x1 x2 x3 fh0 fw1).2.2.1, y ∈ pc.1.set :=
  View.cover_of_tiledL (kernelRun0_A c i arg1 harg1 arg2 harg2 arg3 harg3 arg4 harg4 arg7 harg7 arg9 harg9 arg10 harg10 arg11 harg11 hc0 hc1 x0 x1 x2 x3 fh0 fw1).2.2.1 S4x1024x768.size (by sl_kernel_rfl) y

/-- What case A leaves in scratch `arg10`: its pieces read back over junk. -/
def sout0_A_0 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) : Vec F S4x1024x768 .bf16 :=
  VS0_0.read (Elt F) (VS0_0.writes (Elt F) VS0_0.junk (kernelRun0_A c i arg1 harg1 arg2 harg2 arg3 harg3 arg4 harg4 arg7 harg7 arg9 harg9 arg10 harg10 arg11 harg11 hc0 hc1 x0 x1 x2 x3 fh0 fw1).2.2.1)

/-- Case A's pieces for scratch `arg11`, which the kernel carries between points, cover it: one of them a store of the WHOLE buffer (Lib/Ring.lean `sl_whole_mem`). -/
theorem scover0_A_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) (y : S4x1024x768.Idx) :
    ∃ pc ∈ (kernelRun0_A c i arg1 harg1 arg2 harg2 arg3 harg3 arg4 harg4 arg7 harg7 arg9 harg9 arg10 harg10 arg11 harg11 hc0 hc1 x0 x1 x2 x3 fh0 fw1).2.2.2.1, y ∈ pc.1.set :=
  View.cover_of_wholeMem (kernelRun0_A c i arg1 harg1 arg2 harg2 arg3 harg3 arg4 harg4 arg7 harg7 arg9 harg9 arg10 harg10 arg11 harg11 hc0 hc1 x0 x1 x2 x3 fh0 fw1).2.2.2.1 (by sl_whole_mem) y

/-- What case A leaves in scratch `arg11`: its pieces read back over junk. -/
def sout0_A_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) : Vec F S4x1024x768 .f32 :=
  VS0_1.read (Elt F) (VS0_1.writes (Elt F) VS0_1.junk (kernelRun0_A c i arg1 harg1 arg2 harg2 arg3 harg3 arg4 harg4 arg7 harg7 arg9 harg9 arg10 harg10 arg11 harg11 hc0 hc1 x0 x1 x2 x3 fh0 fw1).2.2.2.1)

/-- Case A copies nothing into `main_v10_1`: it holds the contents it started from (`fw1`), as the run
    hands them back. -/
def hbw0_A_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : cond0_0 i) (hc1 : ¬cond0_1 i)
    (x0 : Vec F S512x3072 .bf16) (x1 : Vec F S512x1024 .f32) (x2 : Vec F S512x1024 .f32) (x3 : Vec F S8x1024 .f32) (fh0 : HbBuf0 (F := F) c hbM0_0) (fw1 : HbBuf0 (F := F) c hbM0_1) : HbBuf0 (F := F) c hbM0_1 := (kernelRun0_A c i arg1 harg1 arg2 harg2 arg3 harg3 arg4 harg4 arg7 harg7 arg9 harg9 arg10 harg10 arg11 harg11 hc0 hc1 x0 x1 x2 x3 fh0 fw1).2.2.2.2.1

/-- Case B's pieces for output 4 tile its block (1 store of `S512x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) (y : S512x1024.Idx) :
    ∃ pc ∈ (kernelRun0_B c i arg1 harg1 arg2 harg2 arg3 harg3 arg4 harg4 arg7 harg7 arg9 harg9 arg10 harg10 arg11 harg11 hc0 hc1 x0 x1 x2 x3 xo5 xs0 xs1 fh0 fw1).1, y ∈ pc.1.set :=
  View.cover_of_tiledL (kernelRun0_B c i arg1 harg1 arg2 harg2 arg3 harg3 arg4 harg4 arg7 harg7 arg9 harg9 arg10 harg10 arg11 harg11 hc0 hc1 x0 x1 x2 x3 xo5 xs0 xs1 fh0 fw1).1 S512x1024.size (by sl_kernel_rfl) y

/-- What case B leaves in output 4's staging buffer: its pieces read back over junk. -/
def out0_B_4 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S512x1024 .f32 :=
  VO0_4.read (Elt F) (VO0_4.writes (Elt F) VO0_4.junk (kernelRun0_B c i arg1 harg1 arg2 harg2 arg3 harg3 arg4 harg4 arg7 harg7 arg9 harg9 arg10 harg10 arg11 harg11 hc0 hc1 x0 x1 x2 x3 xo5 xs0 xs1 fh0 fw1).1)

/-- What case B leaves in output 5's staging buffer: its stores read back over what the point before left there (they do not cover the block). -/
def out0_B_5 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S8x1024 .f32 :=
  arg9.view.read (Elt F) (arg9.view.writes (Elt F) (harg9.unread xo5) (kernelRun0_B c i arg1 harg1 arg2 harg2 arg3 harg3 arg4 harg4 arg7 harg7 arg9 harg9 arg10 harg10 arg11 harg11 hc0 hc1 x0 x1 x2 x3 xo5 xs0 xs1 fh0 fw1).2.1)

/-- Case B stores nothing into scratch `arg10`: it holds what the point before left. -/
def sout0_B_0 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S4x1024x768 .bf16 := xs0

/-- Case B's pieces for scratch `arg11`, which the kernel carries between points, cover it: 4 pieces of `S1x1024x768` tiling it (Lib/Ring.lean `Piece.tiledL`). -/
theorem scover0_B_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) (y : S4x1024x768.Idx) :
    ∃ pc ∈ (kernelRun0_B c i arg1 harg1 arg2 harg2 arg3 harg3 arg4 harg4 arg7 harg7 arg9 harg9 arg10 harg10 arg11 harg11 hc0 hc1 x0 x1 x2 x3 xo5 xs0 xs1 fh0 fw1).2.2.2.1, y ∈ pc.1.set :=
  View.cover_of_tiledL (kernelRun0_B c i arg1 harg1 arg2 harg2 arg3 harg3 arg4 harg4 arg7 harg7 arg9 harg9 arg10 harg10 arg11 harg11 hc0 hc1 x0 x1 x2 x3 xo5 xs0 xs1 fh0 fw1).2.2.2.1 S1x1024x768.size (by sl_kernel_rfl) y

/-- What case B leaves in scratch `arg11`: its pieces read back over junk. -/
def sout0_B_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S4x1024x768 .f32 :=
  VS0_1.read (Elt F) (VS0_1.writes (Elt F) VS0_1.junk (kernelRun0_B c i arg1 harg1 arg2 harg2 arg3 harg3 arg4 harg4 arg7 harg7 arg9 harg9 arg10 harg10 arg11 harg11 hc0 hc1 x0 x1 x2 x3 xo5 xs0 xs1 fh0 fw1).2.2.2.1)

/-- Case B copies nothing into `main_v10_1`: it holds the contents it started from (`fw1`), as the run
    hands them back. -/
def hbw0_B_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : ¬cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : HbBuf0 (F := F) c hbM0_1 := (kernelRun0_B c i arg1 harg1 arg2 harg2 arg3 harg3 arg4 harg4 arg7 harg7 arg9 harg9 arg10 harg10 arg11 harg11 hc0 hc1 x0 x1 x2 x3 xo5 xs0 xs1 fh0 fw1).2.2.2.2.1

/-- Case C's pieces for output 4 tile its block (1 store of `S512x1024`, checked by the kernel's evaluation: Lib/Ring.lean `Piece.tiledL`, linear in the pieces, through a loop's `@[irreducible]` trip theorem too), so they cover it. -/
theorem cover0_C_4 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) (y : S512x1024.Idx) :
    ∃ pc ∈ (kernelRun0_C c i arg1 harg1 arg2 harg2 arg3 harg3 arg4 harg4 arg7 harg7 arg9 harg9 arg10 harg10 arg11 harg11 hc0 hc1 x0 x1 x2 x3 xo5 xs0 xs1 fh0 fw1).1, y ∈ pc.1.set :=
  View.cover_of_tiledL (kernelRun0_C c i arg1 harg1 arg2 harg2 arg3 harg3 arg4 harg4 arg7 harg7 arg9 harg9 arg10 harg10 arg11 harg11 hc0 hc1 x0 x1 x2 x3 xo5 xs0 xs1 fh0 fw1).1 S512x1024.size (by sl_kernel_rfl) y

/-- What case C leaves in output 4's staging buffer: its pieces read back over junk. -/
def out0_C_4 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S512x1024 .f32 :=
  VO0_4.read (Elt F) (VO0_4.writes (Elt F) VO0_4.junk (kernelRun0_C c i arg1 harg1 arg2 harg2 arg3 harg3 arg4 harg4 arg7 harg7 arg9 harg9 arg10 harg10 arg11 harg11 hc0 hc1 x0 x1 x2 x3 xo5 xs0 xs1 fh0 fw1).1)

/-- What case C leaves in output 5's staging buffer: its stores read back over what the point before left there (they do not cover the block). -/
def out0_C_5 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S8x1024 .f32 :=
  arg9.view.read (Elt F) (arg9.view.writes (Elt F) (harg9.unread xo5) (kernelRun0_C c i arg1 harg1 arg2 harg2 arg3 harg3 arg4 harg4 arg7 harg7 arg9 harg9 arg10 harg10 arg11 harg11 hc0 hc1 x0 x1 x2 x3 xo5 xs0 xs1 fh0 fw1).2.1)

/-- Case C stores nothing into scratch `arg10`: it holds what the point before left. -/
def sout0_C_0 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S4x1024x768 .bf16 := xs0

/-- Case C's pieces for scratch `arg11`, which the kernel carries between points, cover it: 4 pieces of `S1x1024x768` tiling it (Lib/Ring.lean `Piece.tiledL`). -/
theorem scover0_C_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) (y : S4x1024x768.Idx) :
    ∃ pc ∈ (kernelRun0_C c i arg1 harg1 arg2 harg2 arg3 harg3 arg4 harg4 arg7 harg7 arg9 harg9 arg10 harg10 arg11 harg11 hc0 hc1 x0 x1 x2 x3 xo5 xs0 xs1 fh0 fw1).2.2.2.1, y ∈ pc.1.set :=
  View.cover_of_tiledL (kernelRun0_C c i arg1 harg1 arg2 harg2 arg3 harg3 arg4 harg4 arg7 harg7 arg9 harg9 arg10 harg10 arg11 harg11 hc0 hc1 x0 x1 x2 x3 xo5 xs0 xs1 fh0 fw1).2.2.2.1 S1x1024x768.size (by sl_kernel_rfl) y

/-- What case C leaves in scratch `arg11`: its pieces read back over junk. -/
def sout0_C_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : Vec F S4x1024x768 .f32 :=
  VS0_1.read (Elt F) (VS0_1.writes (Elt F) VS0_1.junk (kernelRun0_C c i arg1 harg1 arg2 harg2 arg3 harg3 arg4 harg4 arg7 harg7 arg9 harg9 arg10 harg10 arg11 harg11 hc0 hc1 x0 x1 x2 x3 xo5 xs0 xs1 fh0 fw1).2.2.2.1)

/-- What case C leaves in `main_v10_1`, the result left in HBM its copies out of scratch write: the contents
    it started from (`fw1`: what the point before left there, at the first point the launch's) with those copies written over
    them — the contents term the run finds, its witness. -/
def hbw0_C_1 (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole) (hc0 : ¬cond0_0 i) (hc1 : cond0_1 i)
    (x0 : Vec F S512x3072 .bf16) (x1 : Vec F S512x1024 .f32) (x2 : Vec F S512x1024 .f32) (x3 : Vec F S8x1024 .f32) (xo5 : Vec F S8x1024 .f32) (xs0 : Vec F S4x1024x768 .bf16) (xs1 : Vec F S4x1024x768 .f32) (fh0 : HbBuf0 (F := F) c hbM0_0) (fw1 : HbBuf0 (F := F) c hbM0_1) : HbBuf0 (F := F) c hbM0_1 := (kernelRun0_C c i arg1 harg1 arg2 harg2 arg3 harg3 arg4 harg4 arg7 harg7 arg9 harg9 arg10 harg10 arg11 harg11 hc0 hc1 x0 x1 x2 x3 xo5 xs0 xs1 fh0 fw1).2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S8x1024 .f32 × Vec F S4x1024x768 .bf16 × Vec F S4x1024x768 .f32 × HbBuf0 (F := F) c hbM0_1
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_v9) (V m c main_v10_1), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_v9) (V m c main_v10_1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_v9) (V m c main_v10_1), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_v9) (V m c main_v10_1), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_v9) (V m c main_v10_1))
  | n + 1, hn =>
    if h0 : (n + 1) % 32 = 0 then
      if h1 : (n + 1) % 32 = 31 then
        False.elim (by have hN : n + 1 < 32 := lt_of_lt_of_eq hn (show cfg0.N = 32 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_v9) (V m c main_v10_1), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_v9) (V m c main_v10_1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_v9) (V m c main_v10_1), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_v9) (V m c main_v10_1), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_v9) (V m c main_v10_1))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (V m c main_v9) (outsAt0 c n (Nat.lt_of_succ_lt hn)).2.2.2.2)

/-- `outsAt0` at a point of case A: that case's contents. -/
theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1), hbw0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, hbw0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2, hbw0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.1) ∗ owns (c : Thread nD τ) scM0_1 fullShare ((outsAt0 m c n hn).2.2.2.1)) ∗ (∃ r, prngReg c r) ∗ iprop(semVal ((c : Thread nD τ), SemLoc.dma 10) 0) ∗ iprop(hbPt0 c hbM0_0 (V m c main_v9)) ∗ iprop(hbPt0 c hbM0_1 ((outsAt0 m c n hn).2.2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1)) ∗ (∃ r, prngReg c r) ∗ iprop(semVal ((c : Thread nD τ), SemLoc.dma 10) 0) ∗ iprop(hbPt0 c hbM0_0 (V m c main_v9)) ∗ iprop(hbPt0 c hbM0_1 ((outsAt0 m c n hn).2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1)) ∗ (∃ r, prngReg c r) ∗ iprop(semVal ((c : Thread nD τ), SemLoc.dma 10) 0) ∗ iprop(hbPt0 c hbM0_0 (V m c main_v9)) ∗ iprop(hbPt0 c hbM0_1 ((outsAt0 m c (n - 1) (by omega)).2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 32 = 0) (h1 : ¬t.val % 32 = 31) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of case C output 5's current staging buffer holds what the body left at the point before: the point is
    not the first, the buffer was not written back between (`flush0_5`), the window is live and uncut (Lib/Pipeline/Frame.lean
    `Dat.before_out_kept`). -/
theorem before0_5_C (c : Dev nD) (t : Fin cfg0.N) (h0 : ¬t.val % 32 = 0) (h1 : t.val % 32 = 31) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 9600000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiDRG0_in_eq]
        rw [outsAt0_A m c t h0 h1]
        unfold out0_A_4 out0_A_5 sout0_A_0 sout0_A_1 hbw0_A_1; (try dsimp only)
        iintro ⟨⟨⟨HS0, HS1⟩, Hg, Hq0, Hh0, Hh1⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (V m c main_v9) _).2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%e4, H4⟩, ⟨%e5, H5⟩, ⟨%es0, HS0⟩, ⟨%es1, HS1⟩, Hq0, Hh0, Hh1, ⟨%W', HW'⟩⟩
        isplitl [HS0 HS1 Hg Hq0 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _)
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _ _ _ _)
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_5_C m c t h0 h1]
        unfold out0_C_4 out0_C_5 sout0_C_0 sout0_C_1 hbw0_C_1; (try dsimp only)
        iintro ⟨⟨⟨HS0, HS1⟩, Hg, Hq0, Hh0, Hh1⟩, ⟨%W, -, HW⟩, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _ (V m c main_v9) _).2.2.2.2.2 W _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%e4, H4⟩, H5, HS0, ⟨%es1, HS1⟩, Hq0, Hh0, Hh1, ⟨%W', HW'⟩⟩
        isplitl [HS0 HS1 Hg Hq0 Hh0 Hh1]
        · isplitl [HS0 HS1]
          · isplitl [HS0]; · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _)
        unfold owns; iexists _; isplitr
        swap; · iexact H5
        ipureintro; rfl
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_5_B m c t h0 h1]
        unfold out0_B_4 out0_B_5 sout0_B_0 sout0_B_1 hbw0_B_1; (try dsimp only)
        iintro ⟨⟨⟨HS0, HS1⟩, Hg, Hq0, Hh0, Hh1⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ (V m c main_v9) _).2.2.2.2.2 W _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        isplitl [Hq0]; · iexact Hq0
        isplitl [Hh0]; · iexact Hh0
        isplitl [Hh1]; · iexact Hh1
        isplitl [HW]; · iexact HW
        iintro ⟨H0, H1, H2, H3, ⟨%e4, H4⟩, H5, HS0, ⟨%es1, HS1⟩, Hq0, Hh0, Hh1, ⟨%W', HW'⟩⟩
        isplitl [HS0 HS1 Hg Hq0 Hh0 Hh1]
        · isplitl [HS0 HS1]
          · isplitl [HS0]; · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _)
        unfold owns; iexists _; isplitr
        swap; · iexact H5
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v10_1 (outsAt0 m c ((Fin.last cfg0.N).val - 1) (by rw [Fin.val_last]; have : cfg0.N = 32 := N_0; omega)).2.2.2.2
/-- `hbG0` at `main_v10_1`: `outsAt0`'s component. -/
theorem hbG0_1 (c : Dev nD) : hbG0 m c main_v10_1 = (outsAt0 m c ((Fin.last cfg0.N).val - 1) (by rw [Fin.val_last]; have : cfg0.N = 32 := N_0; omega)).2.2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_1 ((outsAt0 m c ((Fin.last cfg0.N).val - 1) (by rw [Fin.val_last]; have : cfg0.N = 32 := N_0; omega)).2.2.2.2)) := by
  unfold Pipeline.routed; rw [BI.bigSep_eq_bigSepL_of_eq [main_v10_1] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0) ∗ iprop(hbPt0 c hbM0_0 (V m c main_v9)) ∗ iprop(hbPt0 c hbM0_1 ((outsAt0 m c ((Fin.last cfg0.N).val - 1) (by rw [Fin.val_last]; have : cfg0.N = 32 := N_0; omega)).2.2.2.2))) := by
  rw [Pipeline.ΦDRG_eq, scopedRest0_eq, ownSems00_eq, hbmPts0_eq, heldG0_eq]; simp only [scM0_0, scM0_1, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiDRG0_out_eq]
  iintro ⟨⟨HS0, HS1⟩, Hg, Hq0, Hh0, Hh1⟩
  isplitl [HS0 HS1]
  · isplitl [HS0]
    · iexists _; iexact HS0
    iexists _; iexact HS1
  isplitl [Hg]; · iexact Hg
  isplitl [Hq0]
  · iexact Hq0
  isplitl [Hh0]
  · iexact Hh0
  iexact Hh1

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) ((θ_run defs _ _).mono (fun _ h => h.toR) (run_main m ρ))

/-- THE FRAME: `Cert.quiescent_InKernelIdeal`'s statement (Defs.lean) at any `F` — Proof.lean cites it at `Bits`:
    `theorem Cert.Proof.claim : Cert.Claim := ⟨Cert.InKernelIdeal.Gen.facts, fun m ρ _ => Cert.InKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.InDx

end
-- ==== Proof.InSame.lean ====
module

public import proofs.«01_k».proof.Defs
public import proofs.«01_k».proof.Proof.Gen.InKernel
public import proofs.«01_k».proof.Proof.Gen.InKernelIdeal

/-! The kernel printed at bit patterns and the kernel printed for reading over the extended reals have one body table. -/

@[expose] public section

noncomputable section

namespace Cert.InSame

open Idealize.ShloMosaic

/-- The bodies at the one label there is. -/
theorem body_eq (l : Cert.InKernel.Λ₀.Label) (a : Cert.InKernel.Λ₀.Args l) :
    Cert.InKernel.defs₀ (F := Bits) .tc l a = Cert.InKernelIdeal.defs₀ (F := Bits) .tc l a := by
  match l, a with
  | 0, (t, s) => rfl

theorem bodies_eq : Cert.InKernel.defs₀ (F := Bits) = Cert.InKernelIdeal.defs₀ (F := Bits) := by
  funext k l a
  cases k with
  | tc => exact body_eq l a
  | scScalar _ => rfl
  | scVector _ _ => rfl

theorem defs_eq : Cert.InKernel.defs (F := Bits) = Cert.InKernelIdeal.defs (F := Bits) :=
  congrArg (Pipeline.defs (Cert.InKernel.pcfgs (F := Bits))) bodies_eq

end Cert.InSame

end
-- ==== Proof.InValue.lean ====
module

public import proofs.«01_k».proof.Proof.InFrame
public import Idealize.ShloMosaic.Lib.Pipeline.Value

/-! What the arrays of the input projection's gradient hold after its run. The text follows the generated frame of this kernel; it is adapted for the operand that the kernel never reads and whose buffer is that of its second result. -/

@[expose] public section

noncomputable section

namespace Cert.InDxValue

open Cert.InDx

open Cert.InKernelIdeal Cert.InKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 32 = 0) (h1 : ¬t.val % 32 = 31) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1)) := by
  rw [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 32 = 0) (h1 : ¬t.val % 32 = 31) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2) := by
  rw [flushed4, outsAt0_B m c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 32 = 0) (h1 : t.val % 32 = 31) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2) := by
  rw [flushed4, outsAt0_C m c t h0 h1]

/-- The index map sends distinct grid points to distinct block indices (decided over the 32 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S16384x1024.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 32 = 0) (h1 : ¬t.val % 32 = 31) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (V m c main_v9) (V m c main_v10_1)) := by
  rw [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 32 = 0) (h1 : ¬t.val % 32 = 31) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2) := by
  rw [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 32 = 0) (h1 : t.val % 32 = 31) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (V m c main_v9) (outsAt0 m c (t.val - 1) (Nat.lt_of_le_of_lt (Nat.sub_le _ _) t.isLt)).2.2.2.2) := by
  rw [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S8x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePostRG cfgs (dats m) 0 R0 (V m) (hbG0 m) r) (c : Dev nD) :
    r.2.mem ((c : Thread nD τ).loc main_v10_0) = (dats m 0 c).arrAt 4 cfg0.N :=
  (h.toR c).1 4

/-- After the frame run, output window 5's array is `(dats m 0 c).arrAt 5 N`. -/
theorem post5 (r : PUnit × MemSt nD τ sig (Elt F)) (h : Pipeline.FramePostRG cfgs (dats m) 0 R0 (V m) (hbG0 m) r) (c : Dev nD) :
    r.2.mem ((c : Thread nD τ).loc main_v10_2) = (dats m 0 c).arrAt 5 cfg0.N :=
  (h.toR c).1 5

/-- After the frame run, argument `main_arg0` is as launched: input window 0 stages it and never writes it back. -/
theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).1 2).trans (((dats m 0 c).arrAt_in 2 rfl _).trans ((A_eq m c 2).trans (V_main_arg2 m c)))

/-- After the frame run, argument `main_arg3` is as launched: no window stages it, and the run leaves the region's other buffers as they were (it is none of `Gen.R0`, the buffers the body itself writes). -/
theorem kept_main_arg3 (r : PUnit × MemSt nD τ sig (Elt F)) (h : Pipeline.FramePostRG cfgs (dats m) 0 R0 (V m) (hbG0 m) r) (c : Dev nD) :
    r.2.mem ((c : Thread nD τ).loc main_arg3) = m ((c : Thread nD τ).loc main_arg3) :=
  ((h.toR c).2 main_arg3 (Finset.mem_sdiff.mpr ⟨Pipeline.mem_restRefs_of main_arg3 (by decide) (by decide), by decide⟩)).trans (V_main_arg3 m c)

/-- After the frame run, argument `main_arg4` is as launched: no window stages it, and the run leaves the region's other buffers as they were (it is none of `Gen.R0`, the buffers the body itself writes). -/
theorem kept_main_arg4 (r : PUnit × MemSt nD τ sig (Elt F)) (h : Pipeline.FramePostRG cfgs (dats m) 0 R0 (V m) (hbG0 m) r) (c : Dev nD) :
    r.2.mem ((c : Thread nD τ).loc main_arg4) = m ((c : Thread nD τ).loc main_arg4) :=
  ((h.toR c).2 main_arg4 (Finset.mem_sdiff.mpr ⟨Pipeline.mem_restRefs_of main_arg4 (by decide) (by decide), by decide⟩)).trans (V_main_arg4 m c)

/-- After the frame run, argument `main_arg5` is as launched: no window stages it, and the run leaves the region's other buffers as they were (it is none of `Gen.R0`, the buffers the body itself writes). -/
theorem kept_main_arg5 (r : PUnit × MemSt nD τ sig (Elt F)) (h : Pipeline.FramePostRG cfgs (dats m) 0 R0 (V m) (hbG0 m) r) (c : Dev nD) :
    r.2.mem ((c : Thread nD τ).loc main_arg5) = m ((c : Thread nD τ).loc main_arg5) :=
  ((h.toR c).2 main_arg5 (Finset.mem_sdiff.mpr ⟨Pipeline.mem_restRefs_of main_arg5 (by decide) (by decide), by decide⟩)).trans (V_main_arg5 m c)

/-- After the frame run, argument `main_arg6` is as launched: no window stages it, and the run leaves the region's other buffers as they were (it is none of `Gen.R0`, the buffers the body itself writes). -/
theorem kept_main_arg6 (r : PUnit × MemSt nD τ sig (Elt F)) (h : Pipeline.FramePostRG cfgs (dats m) 0 R0 (V m) (hbG0 m) r) (c : Dev nD) :
    r.2.mem ((c : Thread nD τ).loc main_arg6) = m ((c : Thread nD τ).loc main_arg6) :=
  ((h.toR c).2 main_arg6 (Finset.mem_sdiff.mpr ⟨Pipeline.mem_restRefs_of main_arg6 (by decide) (by decide), by decide⟩)).trans (V_main_arg6 m c)

/-- After the frame run, argument `main_arg7` is as launched: no window stages it, and the run leaves the region's other buffers as they were (it is none of `Gen.R0`, the buffers the body itself writes). -/
theorem kept_main_arg7 (r : PUnit × MemSt nD τ sig (Elt F)) (h : Pipeline.FramePostRG cfgs (dats m) 0 R0 (V m) (hbG0 m) r) (c : Dev nD) :
    r.2.mem ((c : Thread nD τ).loc main_arg7) = m ((c : Thread nD τ).loc main_arg7) :=
  ((h.toR c).2 main_arg7 (Finset.mem_sdiff.mpr ⟨Pipeline.mem_restRefs_of main_arg7 (by decide) (by decide), by decide⟩)).trans (V_main_arg7 m c)

/-- After the frame run, argument `main_arg8` is as launched: no window stages it, and the run leaves the region's other buffers as they were (it is none of `Gen.R0`, the buffers the body itself writes). -/
theorem kept_main_arg8 (r : PUnit × MemSt nD τ sig (Elt F)) (h : Pipeline.FramePostRG cfgs (dats m) 0 R0 (V m) (hbG0 m) r) (c : Dev nD) :
    r.2.mem ((c : Thread nD τ).loc main_arg8) = m ((c : Thread nD τ).loc main_arg8) :=
  ((h.toR c).2 main_arg8 (Finset.mem_sdiff.mpr ⟨Pipeline.mem_restRefs_of main_arg8 (by decide) (by decide), by decide⟩)).trans (V_main_arg8 m c)

/-- After the frame run, `main_v10_1`, a result left in HBM that the body's copies out of scratch write, holds what the LAST point left
    in it: `Gen.outsAt0`'s component for it there (the value post states it at `Gen.hbG0`, which `Gen.hbG0_1` unfolds). -/
theorem held_main_v10_1 (r : PUnit × MemSt nD τ sig (Elt F)) (h : Pipeline.FramePostRG cfgs (dats m) 0 R0 (V m) (hbG0 m) r) (c : Dev nD) :
    r.2.mem ((c : Thread nD τ).loc main_v10_1) = (outsAt0 m c ((Fin.last cfg0.N).val - 1) (by rw [Fin.val_last]; have : cfg0.N = 32 := N_0; omega)).2.2.2.2 :=
  (h.written c (by decide : main_v10_1 ∈ R0)).trans (hbG0_1 m c)

/-- The frame run with each output array after the run NAMED — `(dats m 0 c).arrAt w N`, which `blocks_w` / `entry_w` read —,
    the arguments unchanged; each result the body's copies out write at what the last point left in it. -/
theorem run_blocks : θ_run defs (onTc (τ := τ) (main (F := F))) ⟨m, fun _ => 0, ρ⟩ fun r => ∀ c : Dev nD,
      r.2.mem ((c : Thread nD τ).loc main_v10_0) = (dats m 0 c).arrAt 4 cfg0.N
      ∧ r.2.mem ((c : Thread nD τ).loc main_v10_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_v10_1) = (outsAt0 m c ((Fin.last cfg0.N).val - 1) (by rw [Fin.val_last]; have : cfg0.N = 32 := N_0; omega)).2.2.2.2 :=
  (θ_run defs _ _).mono (fun r h c => ⟨post4 m r h c,
      post5 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      held_main_v10_1 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S4x1024x768 .bf16) : Vec F S4x1024x768 .bf16 :=
  if h0 : n % 32 = 0 then
    if h1 : n % 32 = 31 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_v9) (V m c main_v10_1)
  else
    if h1 : n % 32 = 31 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (V m c main_v9) (outsAt0 m c ((⟨n, hb⟩ : Fin cfg0.N).val - 1) (Nat.lt_of_le_of_lt (Nat.sub_le _ _) (⟨n, hb⟩ : Fin cfg0.N).isLt)).2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (V m c main_v9) (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.1) 32 (fun n h => scAt0_0 m c n h (VS0_0.read (Elt F) VS0_0.junk)) (scAt0_0 m c)
    (fun n h hn => by
      have hN := lt_of_lt_of_eq h (show cfg0.N = 32 from N_0)
      by_cases h0 : n % 32 = 0 <;> by_cases h1 : n % 32 = 31
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 32 from N_0)
      by_cases h0 : (n + 1) % 32 = 0 <;> by_cases h1 : (n + 1) % 32 = 31
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S4x1024x768 .f32) : Vec F S4x1024x768 .f32 :=
  if h0 : n % 32 = 0 then
    if h1 : n % 32 = 31 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_v9) (V m c main_v10_1)
  else
    if h1 : n % 32 = 31 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (V m c main_v9) (outsAt0 m c ((⟨n, hb⟩ : Fin cfg0.N).val - 1) (Nat.lt_of_le_of_lt (Nat.sub_le _ _) (⟨n, hb⟩ : Fin cfg0.N).isLt)).2.2.2.2
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (V m c main_v9) (outsAt0 m c ((⟨n, hb⟩ : Fin cfg0.N).val - 1) (Nat.lt_of_le_of_lt (Nat.sub_le _ _) (⟨n, hb⟩ : Fin cfg0.N).isLt)).2.2.2.2

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.1 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2.2.1) 32 (fun n h => scAt0_1 m c n h (VS0_1.read (Elt F) VS0_1.junk)) (scAt0_1 m c)
    (fun n h hn => by
      have hN := lt_of_lt_of_eq h (show cfg0.N = 32 from N_0)
      by_cases h0 : n % 32 = 0 <;> by_cases h1 : n % 32 = 31
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 32 from N_0)
      by_cases h0 : (n + 1) % 32 = 0 <;> by_cases h1 : (n + 1) % 32 = 31
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

end Cert.InDxValue

end
-- ==== Proof.InPay.lean ====
module

public import proofs.«01_k».proof.Proof.Gen.InKernelIdeal.Skeleton
public import Idealize.ShloMosaic.Lib.Pointwise

/-! The values the kernel of the input projection's gradient computes at one grid point, read at an index over the
extended reals: one lemma per value, in the coordinates of its arguments. -/

@[expose] public section

noncomputable section

namespace Cert.InPay

open Idealize.ShloMosaic Cert.InKernelIdeal Cert.InKernelIdeal.Gen

/-- The number 1024 as the kernel writes it. -/
abbrev cN : EReal := Ideal.ofBits .f32 0x44800000#32
/-- The small constant added to the mean of squares. -/
abbrev cEps : EReal := Ideal.ofBits .f32 0x358637BD#32
/-- The number one as the kernel writes it. -/
abbrev cOne : EReal := Ideal.ofBits .f32 0x3F800000#32

/-- The reciprocal root of the mean of squares of a row of a block. -/
def rr (x : Fin 1024 → EReal) : EReal := Ideal.rsqrt (Ideal.div (∑ d : Fin 1024, x d * x d) cN + cEps)

theorem pay8_apply (x : FVec Ideal S512x1024 .f32) (r : Fin 512) :
    (k0_pay8 (F := Ideal) x (ix2 r (0 : Fin 1)) : EReal) = rr (fun d => x (ix2 r d)) := by
  pointwise [k0_pay8, rr]

theorem pay9_apply (x : FVec Ideal S512x1024 .f32) (r : Fin 512) (d : Fin 1024) :
    (k0_pay9 (F := Ideal) x (ix2 r d) : EReal) = x (ix2 r d) * rr (fun d => x (ix2 r d)) := by
  pointwise [k0_pay9]
  rw [pay8_apply x r]

theorem pay10_apply (v : FVec Ideal S8x1024 .f32) (d : Fin 1024) :
    (k0_pay10 (F := Ideal) v (ix2 (0 : Fin 1) d) : EReal) = cOne + v (ix2 (1 : Fin 8) d) := by
  pointwise [k0_pay10, k0_pay7]

theorem pay11_apply (v : FVec Ideal S8x1024 .f32) (x : FVec Ideal S512x1024 .f32) (r : Fin 512) (d : Fin 1024) :
    (k0_pay11 (F := Ideal) v x (ix2 r d) : EReal)
      = k0_pay9 (F := Ideal) x (ix2 r d) * v (ix2 (3 : Fin 8) d) * (cOne + v (ix2 (1 : Fin 8) d)) + v (ix2 (0 : Fin 8) d) := by
  pointwise [k0_pay11, k0_pay7, k0_pay10]

theorem pay12_apply (z : FVec Ideal S512x768 .bf16) (w : FVec Ideal S1x1024x768 .bf16) (r : Fin 512) (d : Fin 1024) :
    (k0_pay12 (F := Ideal) z w (ix2 r d) : EReal) = ∑ k : Fin 768, (z (ix2 r k) : EReal) * w (ix3 (0 : Fin 1) d k) := by
  pointwise [k0_pay12]

theorem pay13_apply (v : FVec Ideal S8x1024 .f32) (x : FVec Ideal S512x1024 .f32) (z : FVec Ideal S512x768 .bf16)
    (a : FVec Ideal S1x1024x768 .f32) (d : Fin 1024) (k : Fin 768) :
    (k0_pay13 (F := Ideal) v x z a (ix2 d k) : EReal)
      = (a (ix3 (0 : Fin 1) d k) : EReal) + ∑ r : Fin 512, (k0_pay11 (F := Ideal) v x (ix2 r d) : EReal) * z (ix2 r k) := by
  pointwise [k0_pay13]

theorem pay14_apply (a : FVec Ideal S1024x768 .f32) (d : Fin 1024) (k : Fin 768) :
    (k0_pay14 (F := Ideal) a (ix3 (0 : Fin 1) d k) : EReal) = a (ix2 d k) := by
  pointwise [k0_pay14]

theorem pay15_apply (h : FVec Ideal S512x1024 .bf16) (z : FVec Ideal S512x768 .bf16)
    (a : FVec Ideal S1x1024x768 .f32) (d : Fin 1024) (k : Fin 768) :
    (k0_pay15 (F := Ideal) h z a (ix3 (0 : Fin 1) d k) : EReal)
      = (a (ix3 (0 : Fin 1) d k) : EReal) + ∑ r : Fin 512, (h (ix2 r d) : EReal) * z (ix2 r k) := by
  pointwise [k0_pay15]

theorem pay17_apply (h : FVec Ideal S512x1024 .bf16) (z : FVec Ideal S512x768 .bf16)
    (a : FVec Ideal S1x1024x768 .f32) (d : Fin 1024) (k : Fin 768) :
    (k0_pay17 (F := Ideal) h z a (ix3 (0 : Fin 1) d k) : EReal)
      = (a (ix3 (0 : Fin 1) d k) : EReal) + ∑ r : Fin 512, (h (ix2 r d) : EReal) * z (ix2 r k) := by
  pointwise [k0_pay17]

theorem pay19_apply (h : FVec Ideal S512x1024 .bf16) (z : FVec Ideal S512x768 .bf16)
    (a : FVec Ideal S1x1024x768 .f32) (d : Fin 1024) (k : Fin 768) :
    (k0_pay19 (F := Ideal) h z a (ix3 (0 : Fin 1) d k) : EReal)
      = (a (ix3 (0 : Fin 1) d k) : EReal) + ∑ r : Fin 512, (h (ix2 r d) : EReal) * z (ix2 r k) := by
  pointwise [k0_pay19]

theorem pay16_apply (a : FVec Ideal S512x1024 .f32) (z1 : FVec Ideal S512x768 .bf16) (w1 : FVec Ideal S1x1024x768 .bf16)
    (z2 : FVec Ideal S512x768 .bf16) (w2 : FVec Ideal S1x1024x768 .bf16) (r : Fin 512) (d : Fin 1024) :
    (k0_pay16 (F := Ideal) a z1 w1 z2 w2 (ix2 r d) : EReal)
      = (a (ix2 r d) : EReal) + (∑ k : Fin 768, (z1 (ix2 r k) : EReal) * w1 (ix3 (0 : Fin 1) d k))
        + ∑ k : Fin 768, (z2 (ix2 r k) : EReal) * w2 (ix3 (0 : Fin 1) d k) := by
  pointwise [k0_pay16]

theorem pay18_apply (a : FVec Ideal S512x1024 .f32) (z : FVec Ideal S512x768 .bf16) (w : FVec Ideal S1x1024x768 .bf16)
    (r : Fin 512) (d : Fin 1024) :
    (k0_pay18 (F := Ideal) a z w (ix2 r d) : EReal)
      = (a (ix2 r d) : EReal) + ∑ k : Fin 768, (z (ix2 r k) : EReal) * w (ix3 (0 : Fin 1) d k) := by
  pointwise [k0_pay18]

theorem pay20_apply (v : FVec Ideal S8x1024 .f32) (s : FVec Ideal S1x1024 .f32) (d : Fin 1024) :
    (k0_pay20 (F := Ideal) v s (ix2 (0 : Fin 1) d) : EReal) = (v (ix2 (3 : Fin 8) d) : EReal) * s (ix2 (0 : Fin 1) d) := by
  pointwise [k0_pay20]

theorem pay21_apply (xh a : FVec Ideal S512x1024 .f32) (z : FVec Ideal S512x768 .bf16) (w : FVec Ideal S1x1024x768 .bf16)
    (r : Fin 512) (d : Fin 1024) :
    (k0_pay21 (F := Ideal) xh a z w (ix2 r d) : EReal) = (k0_pay18 (F := Ideal) a z w (ix2 r d) : EReal) * xh (ix2 r d) := by
  pointwise [k0_pay21]

theorem pay22_apply (a : FVec Ideal S512x1024 .f32) (z : FVec Ideal S512x768 .bf16) (w : FVec Ideal S1x1024x768 .bf16)
    (o : FVec Ideal S1x1024 .f32) (d : Fin 1024) :
    (k0_pay22 (F := Ideal) a z w o (ix2 (0 : Fin 1) d) : EReal)
      = (o (ix2 (0 : Fin 1) d) : EReal) + ∑ r : Fin 512, (k0_pay18 (F := Ideal) a z w (ix2 r d) : EReal) := by
  pointwise [k0_pay22]

theorem pay23_apply (xh a : FVec Ideal S512x1024 .f32) (z : FVec Ideal S512x768 .bf16) (w : FVec Ideal S1x1024x768 .bf16)
    (o : FVec Ideal S1x1024 .f32) (d : Fin 1024) :
    (k0_pay23 (F := Ideal) xh a z w o (ix2 (0 : Fin 1) d) : EReal)
      = (o (ix2 (0 : Fin 1) d) : EReal) + ∑ r : Fin 512, (k0_pay21 (F := Ideal) xh a z w (ix2 r d) : EReal) := by
  pointwise [k0_pay23]

theorem pay24_apply (v : FVec Ideal S8x1024 .f32) (s : FVec Ideal S1x1024 .f32) (a : FVec Ideal S512x1024 .f32)
    (z : FVec Ideal S512x768 .bf16) (w : FVec Ideal S1x1024x768 .bf16) (r : Fin 512) (d : Fin 1024) :
    (k0_pay24 (F := Ideal) v s a z w (ix2 r d) : EReal)
      = (k0_pay18 (F := Ideal) a z w (ix2 r d) : EReal) * ((v (ix2 (3 : Fin 8) d) : EReal) * s (ix2 (0 : Fin 1) d)) := by
  pointwise [k0_pay24, k0_pay20]

theorem pay25_apply (v : FVec Ideal S8x1024 .f32) (xh : FVec Ideal S512x1024 .f32) (s : FVec Ideal S1x1024 .f32)
    (a : FVec Ideal S512x1024 .f32) (z : FVec Ideal S512x768 .bf16) (w : FVec Ideal S1x1024x768 .bf16) (r : Fin 512) :
    (k0_pay25 (F := Ideal) v xh s a z w (ix2 r (0 : Fin 1)) : EReal)
      = ∑ d : Fin 1024, (k0_pay21 (F := Ideal) xh a z w (ix2 r d) : EReal) * ((v (ix2 (3 : Fin 8) d) : EReal) * s (ix2 (0 : Fin 1) d)) := by
  pointwise [k0_pay25, k0_pay20]

theorem pay1_apply (rs : FVec Ideal S512x1 .f32) (xh o g : FVec Ideal S512x1024 .f32) (q : FVec Ideal S512x1 .f32)
    (r : Fin 512) (d : Fin 1024) :
    (k0_pay1 (F := Ideal) rs xh o g q (ix2 r d) : EReal)
      = (o (ix2 r d) : EReal) + (rs (ix2 r (0 : Fin 1)) : EReal) * ((g (ix2 r d) : EReal)
          - (xh (ix2 r d) : EReal) * Ideal.div (q (ix2 r (0 : Fin 1))) cN) := by
  pointwise [k0_pay1]

theorem pay3_apply (s u : FVec Ideal S1x1024 .f32) (d : Fin 1024) :
    (k0_pay3 (F := Ideal) s u (ix2 (0 : Fin 1) d) : EReal) = (u (ix2 (0 : Fin 1) d) : EReal) * s (ix2 (0 : Fin 1) d) := by
  pointwise [k0_pay3, k0_pay2]

theorem pay4_apply (v : FVec Ideal S8x1024 .f32) (u : FVec Ideal S1x1024 .f32) (d : Fin 1024) :
    (k0_pay4 (F := Ideal) v u (ix2 (0 : Fin 1) d) : EReal) = (u (ix2 (0 : Fin 1) d) : EReal) * v (ix2 (3 : Fin 8) d) := by
  pointwise [k0_pay4, k0_pay2]

theorem pay5_apply (j : S4x1024x768.Idx) : (k0_pay5 (F := Ideal) j : EReal) = 0 := by
  pointwise [k0_pay5]

theorem pay6_apply (j : S8x1024.Idx) : (k0_pay6 (F := Ideal) j : EReal) = 0 := by
  pointwise [k0_pay6]

end Cert.InPay
-- ==== Proof.InRead.lean ====
module

public import proofs.«01_k».proof.Proof.InFrame
public import proofs.«01_k».proof.Proof.InPay
public import Idealize.ShloMosaic.Lib.Pipeline.Value
public import Idealize.ShloMosaic.Lib.Pipeline.ReadBack
public import Idealize.ShloMosaic.Lib.WritesUnit
public import Idealize.ShloMosaic.Lib.VecWindow

/-! What the body of the input projection's gradient leaves in each buffer, case by case, as values of its blocks. -/

@[expose] public section

set_option maxRecDepth 16384

noncomputable section

namespace Cert.InRead

open Cert.InKernelIdeal Cert.InKernelIdeal.Gen Cert.InDx Cert.InPay
open Idealize.ShloMosaic Idealize.ShloMosaic.TcCoe Idealize.ShloMosaic.Tactic Idealize.SL.Sem

variable (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg7 : Memref sig .tc .vmem S512x1024 .f32) (harg7 : arg7.IsWhole) (arg9 : Memref sig .tc .vmem S8x1024 .f32) (harg9 : arg9.IsWhole) (arg10 : Memref sig .tc .vmem S4x1024x768 .bf16) (harg10 : arg10.IsWhole) (arg11 : Memref sig .tc .vmem S4x1024x768 .f32) (harg11 : arg11.IsWhole)
  (x0 : Vec Ideal S512x3072 .bf16) (x1 : Vec Ideal S512x1024 .f32) (x2 : Vec Ideal S512x1024 .f32) (x3 : Vec Ideal S8x1024 .f32)
  (xo5 : Vec Ideal S8x1024 .f32) (xs0 : Vec Ideal S4x1024x768 .bf16) (xs1 : Vec Ideal S4x1024x768 .f32)
  (fh0 : HbBuf0 (F := Ideal) c hbM0_0) (fw1 : HbBuf0 (F := Ideal) c hbM0_1)

/-- Column `k` of piece `j` of a row of the incoming gradient's block. -/
def zz (x0 : Vec Ideal S512x3072 .bf16) (r : Fin 512) (j : Fin 4) (k : Fin 768) : EReal :=
  x0 (ix2 r (⟨768 * j.val + k.val, by omega⟩ : Fin 3072))

/-- The gradient of the normalised, modulated rows: a row of the incoming gradient against the four pieces of the weight. -/
def dh (x0 : Vec Ideal S512x3072 .bf16) (w : Vec Ideal S4x1024x768 .bf16) (r : Fin 512) (d : Fin 1024) : EReal :=
  ((∑ k : Fin 768, zz x0 r 0 k * w (ix3 (0 : Fin 4) d k)) + (∑ k : Fin 768, zz x0 r 1 k * w (ix3 (1 : Fin 4) d k))
    + (∑ k : Fin 768, zz x0 r 2 k * w (ix3 (2 : Fin 4) d k))) + ∑ k : Fin 768, zz x0 r 3 k * w (ix3 (3 : Fin 4) d k)

/-- The reciprocal root of a row's mean of squares. -/
def rs (x1 : Vec Ideal S512x1024 .f32) (r : Fin 512) : EReal := rr (fun d => x1 (ix2 r d))

/-- The normalised row. -/
def xh (x1 : Vec Ideal S512x1024 .f32) (r : Fin 512) (d : Fin 1024) : EReal := x1 (ix2 r d) * rs x1 r

/-- The gain of the normalised row: the weight by one plus the scale. -/
def gain (x3 : Vec Ideal S8x1024 .f32) (d : Fin 1024) : EReal := x3 (ix2 (3 : Fin 8) d) * (cOne + x3 (ix2 (1 : Fin 8) d))

/-- The normalised, modulated row. -/
def hh (x1 : Vec Ideal S512x1024 .f32) (x3 : Vec Ideal S8x1024 .f32) (r : Fin 512) (d : Fin 1024) : EReal :=
  xh x1 r d * x3 (ix2 (3 : Fin 8) d) * (cOne + x3 (ix2 (1 : Fin 8) d)) + x3 (ix2 (0 : Fin 8) d)

/-- The gradient of the input, one element. -/
def dx (x0 : Vec Ideal S512x3072 .bf16) (x1 x2 : Vec Ideal S512x1024 .f32) (x3 : Vec Ideal S8x1024 .f32)
    (w : Vec Ideal S4x1024x768 .bf16) (r : Fin 512) (d : Fin 1024) : EReal :=
  x2 (ix2 r d) + rs x1 r * (dh x0 w r d * gain x3 d
    - xh x1 r d * Ideal.div (∑ e : Fin 1024, dh x0 w r e * xh x1 r e * gain x3 e) cN)

theorem hz2 : (![0, 0] : Fin 2 → Nat) = fun _ => 0 := by decide

theorem dh_of (x0 : Vec Ideal S512x3072 .bf16) (w : Vec Ideal S4x1024x768 .bf16) (z0 z1 z2 z3 : FVec Ideal S512x768 .bf16)
    (w0 w1 w2 w3 : FVec Ideal S1x1024x768 .bf16) (r : Fin 512) (d : Fin 1024)
    (h0 : ∀ k, (z0 (ix2 r k) : EReal) = zz x0 r 0 k) (h1 : ∀ k, (z1 (ix2 r k) : EReal) = zz x0 r 1 k)
    (h2 : ∀ k, (z2 (ix2 r k) : EReal) = zz x0 r 2 k) (h3 : ∀ k, (z3 (ix2 r k) : EReal) = zz x0 r 3 k)
    (g0 : ∀ k, w0 (ix3 (0 : Fin 1) d k) = w (ix3 (0 : Fin 4) d k)) (g1 : ∀ k, w1 (ix3 (0 : Fin 1) d k) = w (ix3 (1 : Fin 4) d k))
    (g2 : ∀ k, w2 (ix3 (0 : Fin 1) d k) = w (ix3 (2 : Fin 4) d k)) (g3 : ∀ k, w3 (ix3 (0 : Fin 1) d k) = w (ix3 (3 : Fin 4) d k)) :
    (k0_pay18 (F := Ideal) (k0_pay16 (F := Ideal) (k0_pay12 (F := Ideal) z0 w0) z1 w1 z2 w2) z3 w3 (ix2 r d) : EReal) = dh x0 w r d := by
  rw [pay18_apply, pay16_apply, pay12_apply]
  simp only [h0, h1, h2, h3, g0, g1, g2, g3, dh]

theorem dx_of (x0 : Vec Ideal S512x3072 .bf16) (x1 x2 : Vec Ideal S512x1024 .f32) (x3 : Vec Ideal S8x1024 .f32)
    (w : Vec Ideal S4x1024x768 .bf16) (a : FVec Ideal S512x1024 .f32) (z : FVec Ideal S512x768 .bf16)
    (u : FVec Ideal S1x1024x768 .bf16) (h : ∀ r d, (k0_pay18 (F := Ideal) a z u (ix2 r d) : EReal) = dh x0 w r d)
    (r : Fin 512) (d : Fin 1024) :
    (k0_pay1 (F := Ideal) (k0_pay8 x1) (k0_pay9 x1) x2 (k0_pay24 (k0_pay7 x3) (k0_pay10 x3) a z u)
      (k0_pay25 (k0_pay7 x3) (k0_pay9 x1) (k0_pay10 x3) a z u) (ix2 r d) : EReal) = dx x0 x1 x2 x3 w r d := by
  have e7 : k0_pay7 (F := Ideal) x3 = x3 := shapeCast_self _ _
  rw [pay1_apply, pay8_apply, pay24_apply, pay25_apply, pay9_apply, e7]
  simp only [pay21_apply, pay9_apply, pay10_apply, h]
  rfl

/-- The pieces of the weight as the first point's copy lands them. -/
def wA (fh0 : HbBuf0 (F := Ideal) c hbM0_0) : Vec Ideal S4x1024x768 .bf16 :=
  View.read (Elt Ideal) (((Memref.whole main_v9).slice (Rect.unit ![0, 0, 0, 0] S1x4x1024x768.size inb_S1x4x1024x768_S1x4x1024x768_0_0_0_0) (fun _ => rfl)).squeeze
    S4x1024x768 squeezes_S1x4x1024x768_S4x1024x768).view fh0

section

variable {Val : EltTy → Type} {sig : RefSig} {κ : Kind} {sp : Space} {e : EltTy}

/-- The newest piece is the row that is read; -/
theorem row_hit (v : View sig κ sp S8x1024 e) (f : v.ty.Contents Val) {o : ℕ} (inb : ∀ a, (![o, 0] : Fin 2 → ℕ) a + S1x1024.size a ≤ S8x1024.size a)
    (w : (Rect.unit (s := S8x1024) ![o, 0] S1x1024.size inb).shape.Idx → Val e) (L : List (View.Piece Val S8x1024 e)) (q : Fin 8) (hq : q.val = o) (d : Fin 1024) :
    v.read Val (v.writes Val f (⟨Rect.unit ![o, 0] S1x1024.size inb, w⟩ :: L)) (ix2 q d) = w (ix2 (0 : Fin 1) d) :=
  View.read_writes_cons_unit_of_mem v f inb w L _ (ix2 (0 : Fin 1) d) rfl
    (Fin.forall_fin_two.mpr ⟨hq, show d.val = 0 + d.val from (Nat.zero_add _).symm⟩)

/-- or another row. -/
theorem row_miss (v : View sig κ sp S8x1024 e) (f : v.ty.Contents Val) {o : ℕ} (inb : ∀ a, (![o, 0] : Fin 2 → ℕ) a + S1x1024.size a ≤ S8x1024.size a)
    (w : (Rect.unit (s := S8x1024) ![o, 0] S1x1024.size inb).shape.Idx → Val e) (L : List (View.Piece Val S8x1024 e)) (q : Fin 8)
    (hq : q.val < o ∨ o + 1 ≤ q.val) (d : Fin 1024) :
    v.read Val (v.writes Val f (⟨Rect.unit ![o, 0] S1x1024.size inb, w⟩ :: L)) (ix2 q d) = v.read Val (v.writes Val f L) (ix2 q d) :=
  View.read_writes_cons_unit_of_not_mem v f inb w L _ rfl (0 : Fin 2) hq

/-- The oldest piece fills the buffer. -/
theorem fill_hit (v : View sig κ sp S8x1024 e) (f : v.ty.Contents Val) (inb : ∀ a, (![0, 0] : Fin 2 → ℕ) a + S8x1024.size a ≤ S8x1024.size a)
    (w : (Rect.unit (s := S8x1024) ![0, 0] S8x1024.size inb).shape.Idx → Val e) (L : List (View.Piece Val S8x1024 e)) (q : Fin 8) (d : Fin 1024) :
    v.read Val (v.writes Val f (⟨Rect.unit ![0, 0] S8x1024.size inb, w⟩ :: L)) (ix2 q d) = w (ix2 q d) :=
  View.read_writes_cons_unit_of_mem v f inb w L _ (ix2 q d) rfl
    (Fin.forall_fin_two.mpr ⟨(Nat.zero_add _).symm, (Nat.zero_add _).symm⟩)

/-- The newest piece is the plane that is read; -/
theorem plane_hit (v : View sig κ sp S4x1024x768 e) (f : v.ty.Contents Val) {o : ℕ} (inb : ∀ a, (![o, 0, 0] : Fin 3 → ℕ) a + S1x1024x768.size a ≤ S4x1024x768.size a)
    (w : (Rect.unit (s := S4x1024x768) ![o, 0, 0] S1x1024x768.size inb).shape.Idx → Val e) (L : List (View.Piece Val S4x1024x768 e)) (q : Fin 4) (hq : q.val = o)
    (d : Fin 1024) (k : Fin 768) :
    v.read Val (v.writes Val f (⟨Rect.unit ![o, 0, 0] S1x1024x768.size inb, w⟩ :: L)) (ix3 q d k) = w (ix3 (0 : Fin 1) d k) :=
  View.read_writes_cons_unit_of_mem v f inb w L _ (ix3 (0 : Fin 1) d k) rfl
    (Fin.forall_fin_succ.mpr ⟨hq, Fin.forall_fin_two.mpr ⟨show d.val = 0 + d.val from (Nat.zero_add _).symm, show k.val = 0 + k.val from (Nat.zero_add _).symm⟩⟩)

/-- or another plane. -/
theorem plane_miss (v : View sig κ sp S4x1024x768 e) (f : v.ty.Contents Val) {o : ℕ} (inb : ∀ a, (![o, 0, 0] : Fin 3 → ℕ) a + S1x1024x768.size a ≤ S4x1024x768.size a)
    (w : (Rect.unit (s := S4x1024x768) ![o, 0, 0] S1x1024x768.size inb).shape.Idx → Val e) (L : List (View.Piece Val S4x1024x768 e)) (q : Fin 4)
    (hq : q.val < o ∨ o + 1 ≤ q.val) (d : Fin 1024) (k : Fin 768) :
    v.read Val (v.writes Val f (⟨Rect.unit ![o, 0, 0] S1x1024x768.size inb, w⟩ :: L)) (ix3 q d k) = v.read Val (v.writes Val f L) (ix3 q d k) :=
  View.read_writes_cons_unit_of_not_mem v f inb w L _ rfl (0 : Fin 3) hq

end

/-- A load of the copied pieces is a load of the contents the copy landed. -/
theorem rc_whole {Val : EltTy → Type} [∀ e, Nonempty (Val e)] {sig : RefSig} {κ : Kind} {sp : Space} {S : Shape} {e : EltTy} (v : View sig κ sp S e) (w : (Rect.whole S).shape.Idx → Val e) (r : Rect S) :
    v.readCov [⟨Rect.whole S, w⟩] r.toLoadRect = View.ld (S := S) w r := by
  rw [View.readCov_eq_canon']
  funext j
  exact congrFun (View.canon_unit_zero (S := S) (off := fun _ => 0) rfl _ w) _

theorem out_A_4 (hc0 : cond0_0 i) (hc1 : ¬cond0_1 i) (r : Fin 512) (d : Fin 1024) : (out0_A_4 c i arg1 harg1 arg2 harg2 arg3 harg3 arg4 harg4 arg7 harg7 arg9 harg9 arg10 harg10 arg11 harg11 hc0 hc1 x0 x1 x2 x3 fh0 fw1 (ix2 r d) : EReal) = dx x0 x1 x2 x3 (wA c fh0) r d := by
  unfold out0_A_4
  rw [View.read_writes_eq_canon _ _ _ (cover0_A_4 c i arg1 harg1 arg2 harg2 arg3 harg3 arg4 harg4 arg7 harg7 arg9 harg9 arg10 harg10 arg11 harg11 hc0 hc1 x0 x1 x2 x3 fh0 fw1)]
  unfold kernelRun0_A
  dsimp only
  sl_unfold_words
  rw [View.canon_unit_zero (S := S512x1024) hz2]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2, rc_whole]
  refine dx_of x0 x1 x2 x3 (wA c fh0) _ _ _ (fun r d => dh_of x0 (wA c fh0) _ _ _ _ _ _ _ _ r d ?_ ?_ ?_ ?_ ?_ ?_ ?_ ?_) r d <;> intro k <;>
    (pointwise [zz, wA])

theorem sout_A_0 (hc0 : cond0_0 i) (hc1 : ¬cond0_1 i) : sout0_A_0 c i arg1 harg1 arg2 harg2 arg3 harg3 arg4 harg4 arg7 harg7 arg9 harg9 arg10 harg10 arg11 harg11 hc0 hc1 x0 x1 x2 x3 fh0 fw1 = wA c fh0 := by
  unfold sout0_A_0
  rw [View.read_writes_eq_canon _ _ _ (scover0_A_0 c i arg1 harg1 arg2 harg2 arg3 harg3 arg4 harg4 arg7 harg7 arg9 harg9 arg10 harg10 arg11 harg11 hc0 hc1 x0 x1 x2 x3 fh0 fw1)]
  unfold kernelRun0_A
  dsimp only
  sl_unfold_words
  exact View.canon_unit_zero rfl _ _

theorem wA_apply (j : Fin 4) (d : Fin 1024) (k : Fin 768) : wA c fh0 (ix3 j d k) = fh0 (ix4 (0 : Fin 1) j d k) := by
  have h : wA c fh0 = shapeCast S4x1024x768 (s := S1x4x1024x768) fh0 (by decide) :=
    Memref.read_squeeze_full (off := ![0, 0, 0, 0]) (Memref.whole main_v9) _ _ fh0
  rw [h]
  pointwise

theorem row0_of (x0 : Vec Ideal S512x3072 .bf16) (w : Vec Ideal S4x1024x768 .bf16) (a : FVec Ideal S512x1024 .f32) (z : FVec Ideal S512x768 .bf16)
    (u : FVec Ideal S1x1024x768 .bf16) (o : FVec Ideal S1x1024 .f32) (h : ∀ r d, (k0_pay18 (F := Ideal) a z u (ix2 r d) : EReal) = dh x0 w r d)
    (d : Fin 1024) (o' : EReal) (ho : o (ix2 (0 : Fin 1) d) = o') :
    (k0_pay22 (F := Ideal) a z u o (ix2 (0 : Fin 1) d) : EReal) = o' + ∑ r : Fin 512, dh x0 w r d := by
  rw [pay22_apply, ho]
  simp only [h]

theorem row1_of (x0 : Vec Ideal S512x3072 .bf16) (x1 : Vec Ideal S512x1024 .f32) (w : Vec Ideal S4x1024x768 .bf16) (a : FVec Ideal S512x1024 .f32) (z : FVec Ideal S512x768 .bf16)
    (u : FVec Ideal S1x1024x768 .bf16) (o : FVec Ideal S1x1024 .f32) (h : ∀ r d, (k0_pay18 (F := Ideal) a z u (ix2 r d) : EReal) = dh x0 w r d)
    (d : Fin 1024) (o' : EReal) (ho : o (ix2 (0 : Fin 1) d) = o') :
    (k0_pay23 (F := Ideal) (k0_pay9 x1) a z u o (ix2 (0 : Fin 1) d) : EReal) = o' + ∑ r : Fin 512, dh x0 w r d * xh x1 r d := by
  rw [pay23_apply, ho]
  simp only [pay21_apply, pay9_apply, h]
  rfl

theorem out_B_5_0 (hc0 : ¬cond0_0 i) (hc1 : ¬cond0_1 i) (d : Fin 1024) : (out0_B_5 c i arg1 harg1 arg2 harg2 arg3 harg3 arg4 harg4 arg7 harg7 arg9 harg9 arg10 harg10 arg11 harg11 hc0 hc1 x0 x1 x2 x3 xo5 xs0 xs1 fh0 fw1 (ix2 (0 : Fin 8) d) : EReal) = xo5 (ix2 (0 : Fin 8) d) + ∑ r : Fin 512, dh x0 xs0 r d := by
  unfold out0_B_5
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_miss _ _ _ _ _ _ (Or.inl (show (0 : ℕ) < 1 by decide)) d).trans ?_
  refine (row_hit (o := 0) _ _ _ _ _ _ rfl d).trans ?_
  refine row0_of x0 xs0 _ _ _ _ (fun r d => dh_of x0 xs0 _ _ _ _ _ _ _ _ r d ?_ ?_ ?_ ?_ ?_ ?_ ?_ ?_) d _ ?_
  all_goals (try intro k)
  all_goals pointwise [zz]

theorem out_B_5_1 (hc0 : ¬cond0_0 i) (hc1 : ¬cond0_1 i) (d : Fin 1024) : (out0_B_5 c i arg1 harg1 arg2 harg2 arg3 harg3 arg4 harg4 arg7 harg7 arg9 harg9 arg10 harg10 arg11 harg11 hc0 hc1 x0 x1 x2 x3 xo5 xs0 xs1 fh0 fw1 (ix2 (1 : Fin 8) d) : EReal) = xo5 (ix2 (1 : Fin 8) d) + ∑ r : Fin 512, dh x0 xs0 r d * xh x1 r d := by
  unfold out0_B_5
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_hit (o := 1) _ _ _ _ _ _ rfl d).trans ?_
  refine row1_of x0 x1 xs0 _ _ _ _ (fun r d => dh_of x0 xs0 _ _ _ _ _ _ _ _ r d ?_ ?_ ?_ ?_ ?_ ?_ ?_ ?_) d _ ?_
  all_goals (try intro k)
  all_goals pointwise [zz]

theorem out_B_5_r (hc0 : ¬cond0_0 i) (hc1 : ¬cond0_1 i) (q : Fin 8) (hq : 2 ≤ q.val) (d : Fin 1024) : (out0_B_5 c i arg1 harg1 arg2 harg2 arg3 harg3 arg4 harg4 arg7 harg7 arg9 harg9 arg10 harg10 arg11 harg11 hc0 hc1 x0 x1 x2 x3 xo5 xs0 xs1 fh0 fw1 (ix2 q d) : EReal) = xo5 (ix2 q d) := by
  unfold out0_B_5
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_miss _ _ _ _ _ _ (Or.inr hq) d).trans ?_
  refine (row_miss _ _ _ _ _ _ (Or.inr (by omega)) d).trans ?_
  rw [View.writes_nil, harg9.read_unread]

theorem plane_of14 (x0 : Vec Ideal S512x3072 .bf16) (x1 : Vec Ideal S512x1024 .f32) (x3 : Vec Ideal S8x1024 .f32) (z : FVec Ideal S512x768 .bf16)
    (a : FVec Ideal S1x1024x768 .f32) (j : Fin 4) (d : Fin 1024) (k : Fin 768) (a' : EReal) (hz : ∀ r, (z (ix2 r k) : EReal) = zz x0 r j k)
    (ha : a (ix3 (0 : Fin 1) d k) = a') :
    (k0_pay14 (F := Ideal) (k0_pay13 x3 x1 z a) (ix3 (0 : Fin 1) d k) : EReal) = a' + ∑ r : Fin 512, hh x1 x3 r d * zz x0 r j k := by
  rw [pay14_apply, pay13_apply, ha]
  simp only [pay11_apply, pay9_apply, hz]
  rfl

theorem plane_of15 (x0 : Vec Ideal S512x3072 .bf16) (x1 : Vec Ideal S512x1024 .f32) (x3 : Vec Ideal S8x1024 .f32) (z : FVec Ideal S512x768 .bf16)
    (a : FVec Ideal S1x1024x768 .f32) (j : Fin 4) (d : Fin 1024) (k : Fin 768) (a' : EReal) (hz : ∀ r, (z (ix2 r k) : EReal) = zz x0 r j k)
    (ha : a (ix3 (0 : Fin 1) d k) = a') :
    (k0_pay15 (F := Ideal) (k0_pay11 x3 x1) z a (ix3 (0 : Fin 1) d k) : EReal) = a' + ∑ r : Fin 512, hh x1 x3 r d * zz x0 r j k := by
  rw [pay15_apply, ha]
  simp only [pay11_apply, pay9_apply, hz]
  rfl

theorem plane_of17 (x0 : Vec Ideal S512x3072 .bf16) (x1 : Vec Ideal S512x1024 .f32) (x3 : Vec Ideal S8x1024 .f32) (z : FVec Ideal S512x768 .bf16)
    (a : FVec Ideal S1x1024x768 .f32) (j : Fin 4) (d : Fin 1024) (k : Fin 768) (a' : EReal) (hz : ∀ r, (z (ix2 r k) : EReal) = zz x0 r j k)
    (ha : a (ix3 (0 : Fin 1) d k) = a') :
    (k0_pay17 (F := Ideal) (k0_pay11 x3 x1) z a (ix3 (0 : Fin 1) d k) : EReal) = a' + ∑ r : Fin 512, hh x1 x3 r d * zz x0 r j k := by
  rw [pay17_apply, ha]
  simp only [pay11_apply, pay9_apply, hz]
  rfl

theorem plane_of19 (x0 : Vec Ideal S512x3072 .bf16) (x1 : Vec Ideal S512x1024 .f32) (x3 : Vec Ideal S8x1024 .f32) (z : FVec Ideal S512x768 .bf16)
    (a : FVec Ideal S1x1024x768 .f32) (j : Fin 4) (d : Fin 1024) (k : Fin 768) (a' : EReal) (hz : ∀ r, (z (ix2 r k) : EReal) = zz x0 r j k)
    (ha : a (ix3 (0 : Fin 1) d k) = a') :
    (k0_pay19 (F := Ideal) (k0_pay11 x3 x1) z a (ix3 (0 : Fin 1) d k) : EReal) = a' + ∑ r : Fin 512, hh x1 x3 r d * zz x0 r j k := by
  rw [pay19_apply, ha]
  simp only [pay11_apply, pay9_apply, hz]
  rfl

theorem out_C_5_0 (hc0 : ¬cond0_0 i) (hc1 : cond0_1 i) (d : Fin 1024) : (out0_C_5 c i arg1 harg1 arg2 harg2 arg3 harg3 arg4 harg4 arg7 harg7 arg9 harg9 arg10 harg10 arg11 harg11 hc0 hc1 x0 x1 x2 x3 xo5 xs0 xs1 fh0 fw1 (ix2 (0 : Fin 8) d) : EReal) = xo5 (ix2 (0 : Fin 8) d) + ∑ r : Fin 512, dh x0 xs0 r d := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_miss _ _ _ _ _ _ (Or.inl (show (0 : ℕ) < 1 by decide)) d).trans ?_
  refine (row_miss _ _ _ _ _ _ (Or.inl (show (0 : ℕ) < 2 by decide)) d).trans ?_
  refine (row_miss _ _ _ _ _ _ (Or.inl (show (0 : ℕ) < 1 by decide)) d).trans ?_
  refine (row_hit (o := 0) _ _ _ _ _ _ rfl d).trans ?_
  refine row0_of x0 xs0 _ _ _ _ (fun r d => dh_of x0 xs0 _ _ _ _ _ _ _ _ r d ?_ ?_ ?_ ?_ ?_ ?_ ?_ ?_) d _ ?_
  all_goals (try intro k)
  all_goals pointwise [zz]

theorem out_C_5_1 (hc0 : ¬cond0_0 i) (hc1 : cond0_1 i) (d : Fin 1024) : (out0_C_5 c i arg1 harg1 arg2 harg2 arg3 harg3 arg4 harg4 arg7 harg7 arg9 harg9 arg10 harg10 arg11 harg11 hc0 hc1 x0 x1 x2 x3 xo5 xs0 xs1 fh0 fw1 (ix2 (1 : Fin 8) d) : EReal) = (xo5 (ix2 (1 : Fin 8) d) + ∑ r : Fin 512, dh x0 xs0 r d * xh x1 r d) * x3 (ix2 (3 : Fin 8) d) := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_hit (o := 1) _ _ _ _ _ _ rfl d).trans ?_
  rw [pay4_apply]
  refine congrArg₂ (· * ·) (row1_of x0 x1 xs0 _ _ _ _ (fun r d => dh_of x0 xs0 _ _ _ _ _ _ _ _ r d ?_ ?_ ?_ ?_ ?_ ?_ ?_ ?_) d _ ?_) (congrFun (shapeCast_self _ _) _)
  all_goals (try intro k)
  all_goals pointwise [zz]

theorem out_C_5_2 (hc0 : ¬cond0_0 i) (hc1 : cond0_1 i) (d : Fin 1024) : (out0_C_5 c i arg1 harg1 arg2 harg2 arg3 harg3 arg4 harg4 arg7 harg7 arg9 harg9 arg10 harg10 arg11 harg11 hc0 hc1 x0 x1 x2 x3 xo5 xs0 xs1 fh0 fw1 (ix2 (2 : Fin 8) d) : EReal) = (xo5 (ix2 (1 : Fin 8) d) + ∑ r : Fin 512, dh x0 xs0 r d * xh x1 r d) * (cOne + x3 (ix2 (1 : Fin 8) d)) := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_miss _ _ _ _ _ _ (Or.inr (by decide)) d).trans ?_
  refine (row_hit (o := 2) _ _ _ _ _ _ rfl d).trans ?_
  rw [pay3_apply]
  refine congrArg₂ (· * ·) (row1_of x0 x1 xs0 _ _ _ _ (fun r d => dh_of x0 xs0 _ _ _ _ _ _ _ _ r d ?_ ?_ ?_ ?_ ?_ ?_ ?_ ?_) d _ ?_) (pay10_apply x3 d)
  all_goals (try intro k)
  all_goals pointwise [zz]

theorem out_C_5_r (hc0 : ¬cond0_0 i) (hc1 : cond0_1 i) (q : Fin 8) (hq : 3 ≤ q.val) (d : Fin 1024) : (out0_C_5 c i arg1 harg1 arg2 harg2 arg3 harg3 arg4 harg4 arg7 harg7 arg9 harg9 arg10 harg10 arg11 harg11 hc0 hc1 x0 x1 x2 x3 xo5 xs0 xs1 fh0 fw1 (ix2 q d) : EReal) = xo5 (ix2 q d) := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (row_miss _ _ _ _ _ _ (Or.inr (by omega)) d).trans ?_
  refine (row_miss _ _ _ _ _ _ (Or.inr (by omega)) d).trans ?_
  refine (row_miss _ _ _ _ _ _ (Or.inr (by omega)) d).trans ?_
  refine (row_miss _ _ _ _ _ _ (Or.inr (by omega)) d).trans ?_
  rw [View.writes_nil, harg9.read_unread]

theorem out_A_5_0 (hc0 : cond0_0 i) (hc1 : ¬cond0_1 i) (d : Fin 1024) : (out0_A_5 c i arg1 harg1 arg2 harg2 arg3 harg3 arg4 harg4 arg7 harg7 arg9 harg9 arg10 harg10 arg11 harg11 hc0 hc1 x0 x1 x2 x3 fh0 fw1 (ix2 (0 : Fin 8) d) : EReal) = 0 + ∑ r : Fin 512, dh x0 (wA c fh0) r d := by
  unfold out0_A_5
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2, rc_whole]
  refine (row_miss _ _ _ _ _ _ (Or.inl (show (0 : ℕ) < 1 by decide)) d).trans ?_
  refine (row_hit (o := 0) _ _ _ _ _ _ rfl d).trans ?_
  refine row0_of x0 (wA c fh0) _ _ _ _ (fun r d => dh_of x0 (wA c fh0) _ _ _ _ _ _ _ _ r d ?_ ?_ ?_ ?_ ?_ ?_ ?_ ?_) d _ ?_
  all_goals (try intro k)
  case refine_9 => exact pay6_apply _
  all_goals pointwise [zz, wA]

theorem out_A_5_1 (hc0 : cond0_0 i) (hc1 : ¬cond0_1 i) (d : Fin 1024) : (out0_A_5 c i arg1 harg1 arg2 harg2 arg3 harg3 arg4 harg4 arg7 harg7 arg9 harg9 arg10 harg10 arg11 harg11 hc0 hc1 x0 x1 x2 x3 fh0 fw1 (ix2 (1 : Fin 8) d) : EReal) = 0 + ∑ r : Fin 512, dh x0 (wA c fh0) r d * xh x1 r d := by
  unfold out0_A_5
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2, rc_whole]
  refine (row_hit (o := 1) _ _ _ _ _ _ rfl d).trans ?_
  refine row1_of x0 x1 (wA c fh0) _ _ _ _ (fun r d => dh_of x0 (wA c fh0) _ _ _ _ _ _ _ _ r d ?_ ?_ ?_ ?_ ?_ ?_ ?_ ?_) d _ ?_
  all_goals (try intro k)
  case refine_9 => exact pay6_apply _
  all_goals pointwise [zz, wA]

theorem out_A_5_r (hc0 : cond0_0 i) (hc1 : ¬cond0_1 i) (q : Fin 8) (hq : 2 ≤ q.val) (d : Fin 1024) : (out0_A_5 c i arg1 harg1 arg2 harg2 arg3 harg3 arg4 harg4 arg7 harg7 arg9 harg9 arg10 harg10 arg11 harg11 hc0 hc1 x0 x1 x2 x3 fh0 fw1 (ix2 q d) : EReal) = 0 := by
  unfold out0_A_5
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2, rc_whole]
  refine (row_miss _ _ _ _ _ _ (Or.inr (by omega)) d).trans ?_
  refine (row_miss _ _ _ _ _ _ (Or.inr (by omega)) d).trans ?_
  exact (fill_hit _ _ _ _ _ q d).trans (pay6_apply _)

theorem sout_A_1_0 (hc0 : cond0_0 i) (hc1 : ¬cond0_1 i) (d : Fin 1024) (k : Fin 768) :
    (sout0_A_1 c i arg1 harg1 arg2 harg2 arg3 harg3 arg4 harg4 arg7 harg7 arg9 harg9 arg10 harg10 arg11 harg11 hc0 hc1 x0 x1 x2 x3 fh0 fw1 (ix3 (0 : Fin 4) d k) : EReal) = 0 + ∑ r : Fin 512, hh x1 x3 r d * zz x0 r 0 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · exact pay5_apply _

theorem sout_A_1_1 (hc0 : cond0_0 i) (hc1 : ¬cond0_1 i) (d : Fin 1024) (k : Fin 768) :
    (sout0_A_1 c i arg1 harg1 arg2 harg2 arg3 harg3 arg4 harg4 arg7 harg7 arg9 harg9 arg10 harg10 arg11 harg11 hc0 hc1 x0 x1 x2 x3 fh0 fw1 (ix3 (1 : Fin 4) d k) : EReal) = 0 + ∑ r : Fin 512, hh x1 x3 r d * zz x0 r 1 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · exact pay5_apply _

theorem sout_A_1_2 (hc0 : cond0_0 i) (hc1 : ¬cond0_1 i) (d : Fin 1024) (k : Fin 768) :
    (sout0_A_1 c i arg1 harg1 arg2 harg2 arg3 harg3 arg4 harg4 arg7 harg7 arg9 harg9 arg10 harg10 arg11 harg11 hc0 hc1 x0 x1 x2 x3 fh0 fw1 (ix3 (2 : Fin 4) d k) : EReal) = 0 + ∑ r : Fin 512, hh x1 x3 r d * zz x0 r 2 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · exact pay5_apply _

theorem sout_A_1_3 (hc0 : cond0_0 i) (hc1 : ¬cond0_1 i) (d : Fin 1024) (k : Fin 768) :
    (sout0_A_1 c i arg1 harg1 arg2 harg2 arg3 harg3 arg4 harg4 arg7 harg7 arg9 harg9 arg10 harg10 arg11 harg11 hc0 hc1 x0 x1 x2 x3 fh0 fw1 (ix3 (3 : Fin 4) d k) : EReal) = 0 + ∑ r : Fin 512, hh x1 x3 r d * zz x0 r 3 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_hit (o := 3) _ _ _ _ _ _ rfl d k).trans ?_
  refine plane_of19 x0 x1 x3 _ _ 3 d k _ (fun r => ?_) ?_
  · pointwise [zz]
  · exact pay5_apply _

theorem sout_B_1_0 (hc0 : ¬cond0_0 i) (hc1 : ¬cond0_1 i) (d : Fin 1024) (k : Fin 768) :
    (sout0_B_1 c i arg1 harg1 arg2 harg2 arg3 harg3 arg4 harg4 arg7 harg7 arg9 harg9 arg10 harg10 arg11 harg11 hc0 hc1 x0 x1 x2 x3 xo5 xs0 xs1 fh0 fw1 (ix3 (0 : Fin 4) d k) : EReal) = xs1 (ix3 (0 : Fin 4) d k) + ∑ r : Fin 512, hh x1 x3 r d * zz x0 r 0 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · pointwise

theorem sout_B_1_1 (hc0 : ¬cond0_0 i) (hc1 : ¬cond0_1 i) (d : Fin 1024) (k : Fin 768) :
    (sout0_B_1 c i arg1 harg1 arg2 harg2 arg3 harg3 arg4 harg4 arg7 harg7 arg9 harg9 arg10 harg10 arg11 harg11 hc0 hc1 x0 x1 x2 x3 xo5 xs0 xs1 fh0 fw1 (ix3 (1 : Fin 4) d k) : EReal) = xs1 (ix3 (1 : Fin 4) d k) + ∑ r : Fin 512, hh x1 x3 r d * zz x0 r 1 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · pointwise

theorem sout_B_1_2 (hc0 : ¬cond0_0 i) (hc1 : ¬cond0_1 i) (d : Fin 1024) (k : Fin 768) :
    (sout0_B_1 c i arg1 harg1 arg2 harg2 arg3 harg3 arg4 harg4 arg7 harg7 arg9 harg9 arg10 harg10 arg11 harg11 hc0 hc1 x0 x1 x2 x3 xo5 xs0 xs1 fh0 fw1 (ix3 (2 : Fin 4) d k) : EReal) = xs1 (ix3 (2 : Fin 4) d k) + ∑ r : Fin 512, hh x1 x3 r d * zz x0 r 2 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · pointwise

theorem sout_B_1_3 (hc0 : ¬cond0_0 i) (hc1 : ¬cond0_1 i) (d : Fin 1024) (k : Fin 768) :
    (sout0_B_1 c i arg1 harg1 arg2 harg2 arg3 harg3 arg4 harg4 arg7 harg7 arg9 harg9 arg10 harg10 arg11 harg11 hc0 hc1 x0 x1 x2 x3 xo5 xs0 xs1 fh0 fw1 (ix3 (3 : Fin 4) d k) : EReal) = xs1 (ix3 (3 : Fin 4) d k) + ∑ r : Fin 512, hh x1 x3 r d * zz x0 r 3 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_hit (o := 3) _ _ _ _ _ _ rfl d k).trans ?_
  refine plane_of19 x0 x1 x3 _ _ 3 d k _ (fun r => ?_) ?_
  · pointwise [zz]
  · pointwise

theorem sout_C_1_0 (hc0 : ¬cond0_0 i) (hc1 : cond0_1 i) (d : Fin 1024) (k : Fin 768) :
    (sout0_C_1 c i arg1 harg1 arg2 harg2 arg3 harg3 arg4 harg4 arg7 harg7 arg9 harg9 arg10 harg10 arg11 harg11 hc0 hc1 x0 x1 x2 x3 xo5 xs0 xs1 fh0 fw1 (ix3 (0 : Fin 4) d k) : EReal) = xs1 (ix3 (0 : Fin 4) d k) + ∑ r : Fin 512, hh x1 x3 r d * zz x0 r 0 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · pointwise

theorem sout_C_1_1 (hc0 : ¬cond0_0 i) (hc1 : cond0_1 i) (d : Fin 1024) (k : Fin 768) :
    (sout0_C_1 c i arg1 harg1 arg2 harg2 arg3 harg3 arg4 harg4 arg7 harg7 arg9 harg9 arg10 harg10 arg11 harg11 hc0 hc1 x0 x1 x2 x3 xo5 xs0 xs1 fh0 fw1 (ix3 (1 : Fin 4) d k) : EReal) = xs1 (ix3 (1 : Fin 4) d k) + ∑ r : Fin 512, hh x1 x3 r d * zz x0 r 1 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · pointwise

theorem sout_C_1_2 (hc0 : ¬cond0_0 i) (hc1 : cond0_1 i) (d : Fin 1024) (k : Fin 768) :
    (sout0_C_1 c i arg1 harg1 arg2 harg2 arg3 harg3 arg4 harg4 arg7 harg7 arg9 harg9 arg10 harg10 arg11 harg11 hc0 hc1 x0 x1 x2 x3 xo5 xs0 xs1 fh0 fw1 (ix3 (2 : Fin 4) d k) : EReal) = xs1 (ix3 (2 : Fin 4) d k) + ∑ r : Fin 512, hh x1 x3 r d * zz x0 r 2 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · pointwise

theorem sout_C_1_3 (hc0 : ¬cond0_0 i) (hc1 : cond0_1 i) (d : Fin 1024) (k : Fin 768) :
    (sout0_C_1 c i arg1 harg1 arg2 harg2 arg3 harg3 arg4 harg4 arg7 harg7 arg9 harg9 arg10 harg10 arg11 harg11 hc0 hc1 x0 x1 x2 x3 xo5 xs0 xs1 fh0 fw1 (ix3 (3 : Fin 4) d k) : EReal) = xs1 (ix3 (3 : Fin 4) d k) + ∑ r : Fin 512, hh x1 x3 r d * zz x0 r 3 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine (plane_hit (o := 3) _ _ _ _ _ _ rfl d k).trans ?_
  refine plane_of19 x0 x1 x3 _ _ 3 d k _ (fun r => ?_) ?_
  · pointwise [zz]
  · pointwise

theorem re4 (hn : S4x1024x768.numel = S1x4x1024x768.numel) (j : Fin 4) (d : Fin 1024) (k : Fin 768) :
    (Shape.reshapeEquiv hn (ix3 j d k) : S1x4x1024x768.Idx) = ix4 (0 : Fin 1) j d k := by
  have h : shapeCast (s := S1x4x1024x768) S4x1024x768 (fun y => y) (by decide) (ix3 j d k) = ix4 (0 : Fin 1) j d k := by pointwise
  exact h

/-- Where the last point's copy of the accumulated weight gradient lands: the first of the two layers' places. -/
abbrev vW : View sig .tc .hbm S4x1024x768 .f32 :=
  (((Memref.whole main_v10_1).slice (Rect.unit ![0, 0, 0, 0] S1x4x1024x768.size inb_S2x4x1024x768_S1x4x1024x768_0_0_0_0) (fun _ => rfl)).squeeze
    S4x1024x768 squeezes_S1x4x1024x768_S4x1024x768).view

theorem emb4 (j : Fin 4) (d : Fin 1024) (k : Fin 768) : vW.emb (ix3 j d k) = ix4 (0 : Fin 2) j d k := by
  show (Rect.unit (s := S2x4x1024x768) ![0, 0, 0, 0] S1x4x1024x768.size inb_S2x4x1024x768_S1x4x1024x768_0_0_0_0).emb (Shape.reshapeEquiv _ (ix3 j d k)) = _
  rw [re4]
  funext a
  apply Fin.ext
  fin_cases a
  · rfl
  · exact (Nat.zero_add _).trans (Nat.one_mul _)
  · exact (Nat.zero_add _).trans (Nat.one_mul _)
  · exact (Nat.zero_add _).trans (Nat.one_mul _)

theorem hbw_C_1' (hc0 : ¬cond0_0 i) (hc1 : cond0_1 i) (j : Fin 4) (d : Fin 1024) (k : Fin 768) :
    (hbw0_C_1 c i arg1 harg1 arg2 harg2 arg3 harg3 arg4 harg4 arg7 harg7 arg9 harg9 arg10 harg10 arg11 harg11 hc0 hc1 x0 x1 x2 x3 xo5 xs0 xs1 fh0 fw1 (ix4 (1 : Fin 2) j d k) : EReal) = fw1 (ix4 (1 : Fin 2) j d k) := by
  unfold hbw0_C_1
  unfold kernelRun0_C
  dsimp only
  sl_unfold_words
  refine View.write_of_not_mem (v := vW) fw1 _ _ fun hm => ?_
  obtain ⟨x, _, hx⟩ := Finset.mem_map.mp hm
  obtain ⟨j', d', k', rfl⟩ : ∃ (j' : Fin 4) (d' : Fin 1024) (k' : Fin 768), x = ix3 j' d' k' := ⟨x 0, x 1, x 2, by funext a; fin_cases a <;> rfl⟩
  rw [emb4] at hx
  exact absurd (congrArg Fin.val (congrFun hx 0)) (show (0 : ℕ) ≠ 1 by decide)

theorem hbw_C_1_0 (hc0 : ¬cond0_0 i) (hc1 : cond0_1 i) (d : Fin 1024) (k : Fin 768) :
    (hbw0_C_1 c i arg1 harg1 arg2 harg2 arg3 harg3 arg4 harg4 arg7 harg7 arg9 harg9 arg10 harg10 arg11 harg11 hc0 hc1 x0 x1 x2 x3 xo5 xs0 xs1 fh0 fw1 (ix4 (0 : Fin 2) (0 : Fin 4) d k) : EReal) = xs1 (ix3 (0 : Fin 4) d k) + ∑ r : Fin 512, hh x1 x3 r d * zz x0 r 0 k := by
  unfold hbw0_C_1
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  generalize hW : View.read (Elt Ideal) arg11.view _ = W
  rw [← emb4]
  refine (View.write_emb_of_mem (v := vW) fw1 W (Finset.mem_univ _)).trans ?_
  rw [cast_eq, ← hW]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · pointwise

theorem hbw_C_1_1 (hc0 : ¬cond0_0 i) (hc1 : cond0_1 i) (d : Fin 1024) (k : Fin 768) :
    (hbw0_C_1 c i arg1 harg1 arg2 harg2 arg3 harg3 arg4 harg4 arg7 harg7 arg9 harg9 arg10 harg10 arg11 harg11 hc0 hc1 x0 x1 x2 x3 xo5 xs0 xs1 fh0 fw1 (ix4 (0 : Fin 2) (1 : Fin 4) d k) : EReal) = xs1 (ix3 (1 : Fin 4) d k) + ∑ r : Fin 512, hh x1 x3 r d * zz x0 r 1 k := by
  unfold hbw0_C_1
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  generalize hW : View.read (Elt Ideal) arg11.view _ = W
  rw [← emb4]
  refine (View.write_emb_of_mem (v := vW) fw1 W (Finset.mem_univ _)).trans ?_
  rw [cast_eq, ← hW]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · pointwise

theorem hbw_C_1_2 (hc0 : ¬cond0_0 i) (hc1 : cond0_1 i) (d : Fin 1024) (k : Fin 768) :
    (hbw0_C_1 c i arg1 harg1 arg2 harg2 arg3 harg3 arg4 harg4 arg7 harg7 arg9 harg9 arg10 harg10 arg11 harg11 hc0 hc1 x0 x1 x2 x3 xo5 xs0 xs1 fh0 fw1 (ix4 (0 : Fin 2) (2 : Fin 4) d k) : EReal) = xs1 (ix3 (2 : Fin 4) d k) + ∑ r : Fin 512, hh x1 x3 r d * zz x0 r 2 k := by
  unfold hbw0_C_1
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  generalize hW : View.read (Elt Ideal) arg11.view _ = W
  rw [← emb4]
  refine (View.write_emb_of_mem (v := vW) fw1 W (Finset.mem_univ _)).trans ?_
  rw [cast_eq, ← hW]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · pointwise

theorem hbw_C_1_3 (hc0 : ¬cond0_0 i) (hc1 : cond0_1 i) (d : Fin 1024) (k : Fin 768) :
    (hbw0_C_1 c i arg1 harg1 arg2 harg2 arg3 harg3 arg4 harg4 arg7 harg7 arg9 harg9 arg10 harg10 arg11 harg11 hc0 hc1 x0 x1 x2 x3 xo5 xs0 xs1 fh0 fw1 (ix4 (0 : Fin 2) (3 : Fin 4) d k) : EReal) = xs1 (ix3 (3 : Fin 4) d k) + ∑ r : Fin 512, hh x1 x3 r d * zz x0 r 3 k := by
  unfold hbw0_C_1
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  generalize hW : View.read (Elt Ideal) arg11.view _ = W
  rw [← emb4]
  refine (View.write_emb_of_mem (v := vW) fw1 W (Finset.mem_univ _)).trans ?_
  rw [cast_eq, ← hW]
  refine (plane_hit (o := 3) _ _ _ _ _ _ rfl d k).trans ?_
  refine plane_of19 x0 x1 x3 _ _ 3 d k _ (fun r => ?_) ?_
  · pointwise [zz]
  · pointwise

theorem out_B_4 (hc0 : ¬cond0_0 i) (hc1 : ¬cond0_1 i) (r : Fin 512) (d : Fin 1024) : (out0_B_4 c i arg1 harg1 arg2 harg2 arg3 harg3 arg4 harg4 arg7 harg7 arg9 harg9 arg10 harg10 arg11 harg11 hc0 hc1 x0 x1 x2 x3 xo5 xs0 xs1 fh0 fw1 (ix2 r d) : EReal) = dx x0 x1 x2 x3 xs0 r d := by
  unfold out0_B_4
  rw [View.read_writes_eq_canon _ _ _ (cover0_B_4 c i arg1 harg1 arg2 harg2 arg3 harg3 arg4 harg4 arg7 harg7 arg9 harg9 arg10 harg10 arg11 harg11 hc0 hc1 x0 x1 x2 x3 xo5 xs0 xs1 fh0 fw1)]
  unfold kernelRun0_B
  dsimp only
  sl_unfold_words
  rw [View.canon_unit_zero (S := S512x1024) hz2]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine dx_of x0 x1 x2 x3 xs0 _ _ _ (fun r d => dh_of x0 xs0 _ _ _ _ _ _ _ _ r d ?_ ?_ ?_ ?_ ?_ ?_ ?_ ?_) r d <;> intro k <;>
    pointwise [zz]

theorem out_C_4 (hc0 : ¬cond0_0 i) (hc1 : cond0_1 i) (r : Fin 512) (d : Fin 1024) : (out0_C_4 c i arg1 harg1 arg2 harg2 arg3 harg3 arg4 harg4 arg7 harg7 arg9 harg9 arg10 harg10 arg11 harg11 hc0 hc1 x0 x1 x2 x3 xo5 xs0 xs1 fh0 fw1 (ix2 r d) : EReal) = dx x0 x1 x2 x3 xs0 r d := by
  unfold out0_C_4
  rw [View.read_writes_eq_canon _ _ _ (cover0_C_4 c i arg1 harg1 arg2 harg2 arg3 harg3 arg4 harg4 arg7 harg7 arg9 harg9 arg10 harg10 arg11 harg11 hc0 hc1 x0 x1 x2 x3 xo5 xs0 xs1 fh0 fw1)]
  unfold kernelRun0_C
  dsimp only
  sl_unfold_words
  rw [View.canon_unit_zero (S := S512x1024) hz2]
  simp only [View.readAt_eq_ld, harg1.read_unread, harg2.read_unread, harg3.read_unread, harg4.read_unread, harg9.read_unread, harg10.read_unread, harg11.read_unread, View.ld_unit_zero (S := S512x1024) hz2, View.ld_unit_zero (S := S8x1024) hz2]
  refine dx_of x0 x1 x2 x3 xs0 _ _ _ (fun r d => dh_of x0 xs0 _ _ _ _ _ _ _ _ r d ?_ ?_ ?_ ?_ ?_ ?_ ?_ ?_) r d <;> intro k <;>
    pointwise [zz]

theorem sout_A_1 (hc0 : cond0_0 i) (hc1 : ¬cond0_1 i) (j : Fin 4) (d : Fin 1024) (k : Fin 768) :
    (sout0_A_1 c i arg1 harg1 arg2 harg2 arg3 harg3 arg4 harg4 arg7 harg7 arg9 harg9 arg10 harg10 arg11 harg11 hc0 hc1 x0 x1 x2 x3 fh0 fw1 (ix3 j d k) : EReal) = 0 + ∑ r : Fin 512, hh x1 x3 r d * zz x0 r j k := by
  match j with
  | 0 => exact sout_A_1_0 c i arg1 harg1 arg2 harg2 arg3 harg3 arg4 harg4 arg7 harg7 arg9 harg9 arg10 harg10 arg11 harg11 x0 x1 x2 x3 fh0 fw1 hc0 hc1 d k
  | 1 => exact sout_A_1_1 c i arg1 harg1 arg2 harg2 arg3 harg3 arg4 harg4 arg7 harg7 arg9 harg9 arg10 harg10 arg11 harg11 x0 x1 x2 x3 fh0 fw1 hc0 hc1 d k
  | 2 => exact sout_A_1_2 c i arg1 harg1 arg2 harg2 arg3 harg3 arg4 harg4 arg7 harg7 arg9 harg9 arg10 harg10 arg11 harg11 x0 x1 x2 x3 fh0 fw1 hc0 hc1 d k
  | 3 => exact sout_A_1_3 c i arg1 harg1 arg2 harg2 arg3 harg3 arg4 harg4 arg7 harg7 arg9 harg9 arg10 harg10 arg11 harg11 x0 x1 x2 x3 fh0 fw1 hc0 hc1 d k

theorem sout_B_1 (hc0 : ¬cond0_0 i) (hc1 : ¬cond0_1 i) (j : Fin 4) (d : Fin 1024) (k : Fin 768) :
    (sout0_B_1 c i arg1 harg1 arg2 harg2 arg3 harg3 arg4 harg4 arg7 harg7 arg9 harg9 arg10 harg10 arg11 harg11 hc0 hc1 x0 x1 x2 x3 xo5 xs0 xs1 fh0 fw1 (ix3 j d k) : EReal) = xs1 (ix3 j d k) + ∑ r : Fin 512, hh x1 x3 r d * zz x0 r j k := by
  match j with
  | 0 => exact sout_B_1_0 c i arg1 harg1 arg2 harg2 arg3 harg3 arg4 harg4 arg7 harg7 arg9 harg9 arg10 harg10 arg11 harg11 x0 x1 x2 x3 xo5 xs0 xs1 fh0 fw1 hc0 hc1 d k
  | 1 => exact sout_B_1_1 c i arg1 harg1 arg2 harg2 arg3 harg3 arg4 harg4 arg7 harg7 arg9 harg9 arg10 harg10 arg11 harg11 x0 x1 x2 x3 xo5 xs0 xs1 fh0 fw1 hc0 hc1 d k
  | 2 => exact sout_B_1_2 c i arg1 harg1 arg2 harg2 arg3 harg3 arg4 harg4 arg7 harg7 arg9 harg9 arg10 harg10 arg11 harg11 x0 x1 x2 x3 xo5 xs0 xs1 fh0 fw1 hc0 hc1 d k
  | 3 => exact sout_B_1_3 c i arg1 harg1 arg2 harg2 arg3 harg3 arg4 harg4 arg7 harg7 arg9 harg9 arg10 harg10 arg11 harg11 x0 x1 x2 x3 xo5 xs0 xs1 fh0 fw1 hc0 hc1 d k

theorem sout_C_1 (hc0 : ¬cond0_0 i) (hc1 : cond0_1 i) (j : Fin 4) (d : Fin 1024) (k : Fin 768) :
    (sout0_C_1 c i arg1 harg1 arg2 harg2 arg3 harg3 arg4 harg4 arg7 harg7 arg9 harg9 arg10 harg10 arg11 harg11 hc0 hc1 x0 x1 x2 x3 xo5 xs0 xs1 fh0 fw1 (ix3 j d k) : EReal) = xs1 (ix3 j d k) + ∑ r : Fin 512, hh x1 x3 r d * zz x0 r j k := by
  match j with
  | 0 => exact sout_C_1_0 c i arg1 harg1 arg2 harg2 arg3 harg3 arg4 harg4 arg7 harg7 arg9 harg9 arg10 harg10 arg11 harg11 x0 x1 x2 x3 xo5 xs0 xs1 fh0 fw1 hc0 hc1 d k
  | 1 => exact sout_C_1_1 c i arg1 harg1 arg2 harg2 arg3 harg3 arg4 harg4 arg7 harg7 arg9 harg9 arg10 harg10 arg11 harg11 x0 x1 x2 x3 xo5 xs0 xs1 fh0 fw1 hc0 hc1 d k
  | 2 => exact sout_C_1_2 c i arg1 harg1 arg2 harg2 arg3 harg3 arg4 harg4 arg7 harg7 arg9 harg9 arg10 harg10 arg11 harg11 x0 x1 x2 x3 xo5 xs0 xs1 fh0 fw1 hc0 hc1 d k
  | 3 => exact sout_C_1_3 c i arg1 harg1 arg2 harg2 arg3 harg3 arg4 harg4 arg7 harg7 arg9 harg9 arg10 harg10 arg11 harg11 x0 x1 x2 x3 xo5 xs0 xs1 fh0 fw1 hc0 hc1 d k

theorem hbw_C_1 (hc0 : ¬cond0_0 i) (hc1 : cond0_1 i) (j : Fin 4) (d : Fin 1024) (k : Fin 768) :
    (hbw0_C_1 c i arg1 harg1 arg2 harg2 arg3 harg3 arg4 harg4 arg7 harg7 arg9 harg9 arg10 harg10 arg11 harg11 hc0 hc1 x0 x1 x2 x3 xo5 xs0 xs1 fh0 fw1 (ix4 (0 : Fin 2) j d k) : EReal) = xs1 (ix3 j d k) + ∑ r : Fin 512, hh x1 x3 r d * zz x0 r j k := by
  match j with
  | 0 => exact hbw_C_1_0 c i arg1 harg1 arg2 harg2 arg3 harg3 arg4 harg4 arg7 harg7 arg9 harg9 arg10 harg10 arg11 harg11 x0 x1 x2 x3 xo5 xs0 xs1 fh0 fw1 hc0 hc1 d k
  | 1 => exact hbw_C_1_1 c i arg1 harg1 arg2 harg2 arg3 harg3 arg4 harg4 arg7 harg7 arg9 harg9 arg10 harg10 arg11 harg11 x0 x1 x2 x3 xo5 xs0 xs1 fh0 fw1 hc0 hc1 d k
  | 2 => exact hbw_C_1_2 c i arg1 harg1 arg2 harg2 arg3 harg3 arg4 harg4 arg7 harg7 arg9 harg9 arg10 harg10 arg11 harg11 x0 x1 x2 x3 xo5 xs0 xs1 fh0 fw1 hc0 hc1 d k
  | 3 => exact hbw_C_1_3 c i arg1 harg1 arg2 harg2 arg3 harg3 arg4 harg4 arg7 harg7 arg9 harg9 arg10 harg10 arg11 harg11 x0 x1 x2 x3 xo5 xs0 xs1 fh0 fw1 hc0 hc1 d k

theorem hbw_A_1 (hc0 : cond0_0 i) (hc1 : ¬cond0_1 i) : hbw0_A_1 c i arg1 harg1 arg2 harg2 arg3 harg3 arg4 harg4 arg7 harg7 arg9 harg9 arg10 harg10 arg11 harg11 hc0 hc1 x0 x1 x2 x3 fh0 fw1 = fw1 := rfl

theorem hbw_B_1 (hc0 : ¬cond0_0 i) (hc1 : ¬cond0_1 i) : hbw0_B_1 c i arg1 harg1 arg2 harg2 arg3 harg3 arg4 harg4 arg7 harg7 arg9 harg9 arg10 harg10 arg11 harg11 hc0 hc1 x0 x1 x2 x3 xo5 xs0 xs1 fh0 fw1 = fw1 := rfl

end Cert.InRead
-- ==== Proof.InOuts.lean ====
module

public import proofs.«01_k».proof.Proof.InRead

/-! What each point of the grid leaves in the windows, the two scratches and the held result: the weight's pieces in the
first scratch, the running sums of the weight gradient in the second, the running sums of the small gradients in the last
window. -/

@[expose] public section

set_option maxRecDepth 16384

noncomputable section

namespace Cert.InOuts

open Cert.InKernelIdeal Cert.InKernelIdeal.Gen Cert.InDx Cert.InPay Cert.InRead
open Idealize.ShloMosaic Idealize.ShloMosaic.TcCoe Idealize.SL.Sem

variable (m : (ℓ : Loc nD τ sig) → Buf (Elt Ideal) ℓ) (c : Dev nD)

/-- The weight's pieces. -/
def wW : Vec Ideal S4x1024x768 .bf16 := wA c (V m c main_v9)

/-- One block's part of the weight's gradient. -/
def gW (t : Fin cfg0.N) (j : Fin 4) (d : Fin 1024) (k : Fin 768) : EReal :=
  ∑ r : Fin 512, hh (iblk m c 1 t) (iblk m c 3 t) r d * zz (iblk m c 0 t) r j k

/-- One block's part of the shift's gradient. -/
def gS (t : Fin cfg0.N) (d : Fin 1024) : EReal := ∑ r : Fin 512, dh (iblk m c 0 t) (wW m c) r d

/-- One block's part of the sum of the gradient against the normalised rows. -/
def gN (t : Fin cfg0.N) (d : Fin 1024) : EReal := ∑ r : Fin 512, dh (iblk m c 0 t) (wW m c) r d * xh (iblk m c 1 t) r d

/-- A family over the points as a function of the point's number. -/
def ext (f : Fin cfg0.N → EReal) (n : ℕ) : EReal := if h : n < cfg0.N then f ⟨n, h⟩ else 0

theorem ext_eq (f : Fin cfg0.N → EReal) (n : ℕ) (h : n < cfg0.N) : ext f n = f ⟨n, h⟩ := dif_pos h

/-- The sum of a family up to a point. -/
def upto (f : Fin cfg0.N → EReal) (n : ℕ) : EReal := ∑ i ∈ Finset.range (n + 1), ext f i

theorem upto_zero (f : Fin cfg0.N → EReal) (h : 0 < cfg0.N) : upto f 0 = 0 + f ⟨0, h⟩ := by
  rw [upto, Finset.sum_range_one, ext_eq f 0 h, zero_add]

theorem upto_succ (f : Fin cfg0.N → EReal) (n : ℕ) (h : n + 1 < cfg0.N) : upto f (n + 1) = upto f n + f ⟨n + 1, h⟩ := by
  rw [upto, Finset.sum_range_succ, ext_eq f (n + 1) h, upto]

theorem upto_last (f : Fin cfg0.N → EReal) : upto f 31 = ∑ t : Fin cfg0.N, f t := by
  have h : ∑ t : Fin cfg0.N, f t = ∑ i ∈ Finset.range cfg0.N, ext f i := by
    rw [Finset.sum_range]
    exact Finset.sum_congr rfl fun t _ => (ext_eq f t.val t.isLt).symm
  rw [h, upto, show cfg0.N = 31 + 1 from N_0]

/-- What holds after every point but the last. -/
structure Inv (n : ℕ) (hn : n < cfg0.N) : Prop where
  w : (outsAt0 m c n hn).2.2.1 = wW m c
  acc : ∀ (j : Fin 4) (d : Fin 1024) (k : Fin 768), ((outsAt0 m c n hn).2.2.2.1 (ix3 j d k) : EReal) = upto (fun t => gW m c t j d k) n
  s0 : ∀ d : Fin 1024, ((outsAt0 m c n hn).2.1 (ix2 (0 : Fin 8) d) : EReal) = upto (fun t => gS m c t d) n
  s1 : ∀ d : Fin 1024, ((outsAt0 m c n hn).2.1 (ix2 (1 : Fin 8) d) : EReal) = upto (fun t => gN m c t d) n
  sr : ∀ (q : Fin 8) (_ : 2 ≤ q.val) (d : Fin 1024), ((outsAt0 m c n hn).2.1 (ix2 q d) : EReal) = 0
  held : (outsAt0 m c n hn).2.2.2.2 = V m c main_v10_1

theorem inv_zero (hn : 0 < cfg0.N) : Inv m c 0 hn := by
  have e := outsAt0_A m c ⟨0, hn⟩ (by dsimp only) (by dsimp only; omega)
  change outsAt0 m c 0 hn = _ at e
  refine ⟨?_, fun j d k => ?_, fun d => ?_, fun d => ?_, fun q hq d => ?_, ?_⟩ <;> rw [e] <;> dsimp only
  · exact sout_A_0 _ _ _ _ _ _ _ _ _ _ _ _ _ _ _ _ _ _ _ _ _ _ _ _ _ _
  · rw [upto_zero _ hn]
    exact sout_A_1 _ _ _ _ _ _ _ _ _ _ _ _ _ _ _ _ _ _ _ _ _ _ _ _ _ _ j d k
  · rw [upto_zero _ hn]
    exact out_A_5_0 _ _ _ _ _ _ _ _ _ _ _ _ _ _ _ _ _ _ _ _ _ _ _ _ _ _ d
  · rw [upto_zero _ hn]
    exact out_A_5_1 _ _ _ _ _ _ _ _ _ _ _ _ _ _ _ _ _ _ _ _ _ _ _ _ _ _ d
  · exact out_A_5_r _ _ _ _ _ _ _ _ _ _ _ _ _ _ _ _ _ _ _ _ _ _ _ _ _ _ q hq d
  · rfl

theorem inv_succ (n : ℕ) (hn : n + 1 < cfg0.N) (hl : n + 1 < 31) (ih : Inv m c n (Nat.lt_of_succ_lt hn)) : Inv m c (n + 1) hn := by
  have e := outsAt0_B m c ⟨n + 1, hn⟩ (by dsimp only; omega) (by dsimp only; omega)
  change outsAt0 m c (n + 1) hn = _ at e
  refine ⟨?_, fun j d k => ?_, fun d => ?_, fun d => ?_, fun q hq d => ?_, ?_⟩ <;> rw [e] <;> dsimp only
  · exact ih.w
  · rw [upto_succ _ n hn]
    refine (sout_B_1 _ _ _ _ _ _ _ _ _ _ _ _ _ _ _ _ _ _ _ _ _ _ _ _ _ _ _ _ _ j d k).trans (congrArg₂ (· + ·) (ih.acc j d k) ?_)
    rfl
  · rw [upto_succ _ n hn]
    refine (out_B_5_0 _ _ _ _ _ _ _ _ _ _ _ _ _ _ _ _ _ _ _ _ _ _ _ _ _ _ _ _ _ d).trans (congrArg₂ (· + ·) (ih.s0 d) ?_)
    rw [show (outsAt0 m c ((⟨n + 1, hn⟩ : Fin cfg0.N).val - 1) (Nat.lt_of_le_of_lt (Nat.sub_le _ _) hn)).2.2.1 = wW m c from ih.w]
    rfl
  · rw [upto_succ _ n hn]
    refine (out_B_5_1 _ _ _ _ _ _ _ _ _ _ _ _ _ _ _ _ _ _ _ _ _ _ _ _ _ _ _ _ _ d).trans (congrArg₂ (· + ·) (ih.s1 d) ?_)
    rw [show (outsAt0 m c ((⟨n + 1, hn⟩ : Fin cfg0.N).val - 1) (Nat.lt_of_le_of_lt (Nat.sub_le _ _) hn)).2.2.1 = wW m c from ih.w]
    rfl
  · exact (out_B_5_r _ _ _ _ _ _ _ _ _ _ _ _ _ _ _ _ _ _ _ _ _ _ _ _ _ _ _ _ _ q hq d).trans (ih.sr q hq d)
  · exact ih.held

theorem inv (n : ℕ) (hn : n < cfg0.N) (hl : n < 31) : Inv m c n hn := by
  induction n with
  | zero => exact inv_zero m c hn
  | succ n ih => exact inv_succ m c n hn hl (ih (Nat.lt_of_succ_lt hn) (Nat.lt_of_succ_lt hl))

/-- The block of the input's gradient a point leaves. -/
theorem dx_at (t : Fin cfg0.N) (r : Fin 512) (d : Fin 1024) :
    ((outsAt0 m c t.val t.isLt).1 (ix2 r d) : EReal) = dx (iblk m c 0 t) (iblk m c 1 t) (iblk m c 2 t) (iblk m c 3 t) (wW m c) r d := by
  have hN : t.val < 32 := lt_of_lt_of_eq t.isLt N_0
  by_cases h0 : t.val % 32 = 0
  · rw [outsAt0_A m c t h0 (by omega)]
    dsimp only
    exact out_A_4 _ _ _ _ _ _ _ _ _ _ _ _ _ _ _ _ _ _ _ _ _ _ _ _ _ _ r d
  · have hw : (outsAt0 m c (t.val - 1) (Nat.lt_of_le_of_lt (Nat.sub_le _ _) t.isLt)).2.2.1 = wW m c :=
      (inv m c (t.val - 1) _ (by omega)).w
    by_cases h1 : t.val % 32 = 31
    · rw [outsAt0_C m c t h0 h1]
      dsimp only
      refine (out_C_4 _ _ _ _ _ _ _ _ _ _ _ _ _ _ _ _ _ _ _ _ _ _ _ _ _ _ _ _ _ r d).trans ?_
      rw [hw]
    · rw [outsAt0_B m c t h0 h1]
      dsimp only
      refine (out_B_4 _ _ _ _ _ _ _ _ _ _ _ _ _ _ _ _ _ _ _ _ _ _ _ _ _ _ _ _ _ r d).trans ?_
      rw [hw]

theorem lt31 : 31 < cfg0.N := lt_of_lt_of_eq (show 31 < 32 by decide) N_0.symm

theorem last_inv : Inv m c 30 (Nat.lt_of_succ_lt lt31) := inv m c 30 _ (by decide)

/-- The held result after the last point: the weight's gradient in the first layer's place, -/
theorem held_last (j : Fin 4) (d : Fin 1024) (k : Fin 768) :
    ((outsAt0 m c 31 lt31).2.2.2.2 (ix4 (0 : Fin 2) j d k) : EReal) = ∑ t : Fin cfg0.N, gW m c t j d k := by
  have e := outsAt0_C m c ⟨31, lt31⟩ (by dsimp only; omega) (by dsimp only)
  change outsAt0 m c 31 lt31 = _ at e
  rw [e, ← upto_last, upto_succ _ 30 lt31]
  dsimp only
  exact (hbw_C_1 _ _ _ _ _ _ _ _ _ _ _ _ _ _ _ _ _ _ _ _ _ _ _ _ _ _ _ _ _ j d k).trans (congrArg₂ (· + ·) ((last_inv m c).acc j d k) rfl)

/-- and in the second what was there. -/
theorem held_last' (j : Fin 4) (d : Fin 1024) (k : Fin 768) :
    ((outsAt0 m c 31 lt31).2.2.2.2 (ix4 (1 : Fin 2) j d k) : EReal) = V m c main_v10_1 (ix4 (1 : Fin 2) j d k) := by
  have e := outsAt0_C m c ⟨31, lt31⟩ (by dsimp only; omega) (by dsimp only)
  change outsAt0 m c 31 lt31 = _ at e
  rw [e]
  dsimp only
  exact (hbw_C_1' _ _ _ _ _ _ _ _ _ _ _ _ _ _ _ _ _ _ _ _ _ _ _ _ _ _ _ _ _ j d k).trans (congrFun (last_inv m c).held _)

theorem sums0_last (d : Fin 1024) : ((outsAt0 m c 31 lt31).2.1 (ix2 (0 : Fin 8) d) : EReal) = ∑ t : Fin cfg0.N, gS m c t d := by
  have e := outsAt0_C m c ⟨31, lt31⟩ (by dsimp only; omega) (by dsimp only)
  change outsAt0 m c 31 lt31 = _ at e
  rw [e, ← upto_last, upto_succ _ 30 lt31]
  dsimp only
  refine (out_C_5_0 _ _ _ _ _ _ _ _ _ _ _ _ _ _ _ _ _ _ _ _ _ _ _ _ _ _ _ _ _ d).trans (congrArg₂ (· + ·) ((last_inv m c).s0 d) ?_)
  rw [show (outsAt0 m c ((⟨31, lt31⟩ : Fin cfg0.N).val - 1) (Nat.lt_of_le_of_lt (Nat.sub_le _ _) lt31)).2.2.1 = wW m c from (last_inv m c).w]
  rfl

theorem sums1_last (d : Fin 1024) : ((outsAt0 m c 31 lt31).2.1 (ix2 (1 : Fin 8) d) : EReal) = (∑ t : Fin cfg0.N, gN m c t d) * iblk m c 3 ⟨31, lt31⟩ (ix2 (3 : Fin 8) d) := by
  have e := outsAt0_C m c ⟨31, lt31⟩ (by dsimp only; omega) (by dsimp only)
  change outsAt0 m c 31 lt31 = _ at e
  rw [e, ← upto_last, upto_succ _ 30 lt31]
  dsimp only
  refine (out_C_5_1 _ _ _ _ _ _ _ _ _ _ _ _ _ _ _ _ _ _ _ _ _ _ _ _ _ _ _ _ _ d).trans (congrArg₂ (· * ·) (congrArg₂ (· + ·) ((last_inv m c).s1 d) ?_) rfl)
  rw [show (outsAt0 m c ((⟨31, lt31⟩ : Fin cfg0.N).val - 1) (Nat.lt_of_le_of_lt (Nat.sub_le _ _) lt31)).2.2.1 = wW m c from (last_inv m c).w]
  rfl

theorem sums2_last (d : Fin 1024) : ((outsAt0 m c 31 lt31).2.1 (ix2 (2 : Fin 8) d) : EReal) = (∑ t : Fin cfg0.N, gN m c t d) * (cOne + iblk m c 3 ⟨31, lt31⟩ (ix2 (1 : Fin 8) d)) := by
  have e := outsAt0_C m c ⟨31, lt31⟩ (by dsimp only; omega) (by dsimp only)
  change outsAt0 m c 31 lt31 = _ at e
  rw [e, ← upto_last, upto_succ _ 30 lt31]
  dsimp only
  refine (out_C_5_2 _ _ _ _ _ _ _ _ _ _ _ _ _ _ _ _ _ _ _ _ _ _ _ _ _ _ _ _ _ d).trans (congrArg₂ (· * ·) (congrArg₂ (· + ·) ((last_inv m c).s1 d) ?_) rfl)
  rw [show (outsAt0 m c ((⟨31, lt31⟩ : Fin cfg0.N).val - 1) (Nat.lt_of_le_of_lt (Nat.sub_le _ _) lt31)).2.2.1 = wW m c from (last_inv m c).w]
  rfl

theorem sumsr_last (q : Fin 8) (hq : 3 ≤ q.val) (d : Fin 1024) : ((outsAt0 m c 31 lt31).2.1 (ix2 q d) : EReal) = 0 := by
  have e := outsAt0_C m c ⟨31, lt31⟩ (by dsimp only; omega) (by dsimp only)
  change outsAt0 m c 31 lt31 = _ at e
  rw [e]
  dsimp only
  exact (out_C_5_r _ _ _ _ _ _ _ _ _ _ _ _ _ _ _ _ _ _ _ _ _ _ _ _ _ _ _ _ _ q hq d).trans ((last_inv m c).sr q (by omega) d)

end Cert.InOuts
-- ==== Proof.InIn.lean ====
module

public import proofs.«01_k».proof.Proof.InOuts
public import Idealize.ShloMosaic.Lib.Pipeline.ValueKit
public import Idealize.ShloMosaic.Lib.Pointwise

/-! The blocks the points read, entry by entry of the arguments: token `512 t + r` of the arrays cut by tokens, the small
vectors' rows, and the weight's four pieces. -/

@[expose] public section

set_option maxRecDepth 16384

noncomputable section

namespace Cert.InIn

open Cert.InKernelIdeal Cert.InKernelIdeal.Gen Cert.InDx Cert.InPay Cert.InRead Cert.InOuts
open Idealize.ShloMosaic Idealize.ShloMosaic.TcCoe Idealize.SL.Sem Idealize.ShloMosaic.StableHlo

variable (m : (ℓ : Loc nD τ sig) → Buf (Elt Ideal) ℓ) (c : Dev nD)

/-- The token of row `r` of block `t`. -/
def tok (t : Fin cfg0.N) (r : Fin 512) : Fin 16384 := ⟨t.val * 512 + r.val, by have := lt_of_lt_of_eq t.isLt N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])

theorem V_arg0 : V m c main_arg0 = m ((c : Thread nD τ).loc main_arg0) := by
  unfold V
  simp only [List.flatten_cons, List.flatten_nil, List.cons_append, List.nil_append, TRef.binary, TRef.unary, TRef.toBuf, TRef.ofBuf, cast_eq]
  after_results_simp

theorem V_arg1 : V m c main_arg1 = m ((c : Thread nD τ).loc main_arg1) := by
  unfold V
  simp only [List.flatten_cons, List.flatten_nil, List.cons_append, List.nil_append, TRef.binary, TRef.unary, TRef.toBuf, TRef.ofBuf, cast_eq]
  after_results_simp

theorem V_arg2 : V m c main_arg2 = m ((c : Thread nD τ).loc main_arg2) := by
  unfold V
  simp only [List.flatten_cons, List.flatten_nil, List.cons_append, List.nil_append, TRef.binary, TRef.unary, TRef.toBuf, TRef.ofBuf, cast_eq]
  after_results_simp

theorem V_carried : V m c main_v10_1 = m ((c : Thread nD τ).loc main_arg8) := by
  unfold V
  simp only [List.flatten_cons, List.flatten_nil, List.cons_append, List.nil_append, TRef.binary, TRef.unary, TRef.toBuf, TRef.ofBuf, cast_eq]
  after_results_simp <;> rfl

theorem V_w (j : Fin 4) (d : Fin 1024) (k : Fin 768) :
    (V m c main_v9 (ix4 (0 : Fin 1) j d k) : EReal) = m ((c : Thread nD τ).loc main_arg7) (ix2 d (⟨768 * j.val + k.val, by omega⟩ : Fin 3072)) := by
  have e : V m c main_v9 = broadcastInDim S1x4x1024x768 ![1, 2, 3] bcast_S4x1024x768_S1x4x1024x768_1_2_3 (truncf (F := Ideal) .bf16 (transpose S4x1024x768 [1, 0, 2] (shapeCast S1024x4x768 (m ((c : Thread nD τ).loc main_arg7)) shapeCasts_S1024x3072_S1024x4x768) transposes_S1024x4x768_S4x1024x768_1_0_2) bitsLt_bf16_f32) := by
    unfold V
    simp only [List.flatten_cons, List.flatten_nil, List.cons_append, List.nil_append, TRef.binary, TRef.unary, TRef.toBuf, TRef.ofBuf, cast_eq]
    after_results_simp <;> rfl
  rw [e]
  pointwise
  exact congrArg (fun q : Fin 3072 => m ((c : Thread nD τ).loc main_arg7) (ix2 d q)) (Fin.ext (by dsimp only; omega))

theorem V_vecs : V m c main_v5 = pad S8x1024 ![0, 0] ![4, 0] ![0, 0] (concatenate S4x1024 0
    [⟨S1x1024, broadcastInDim S1x1024 ![1] bcast_S1024_S1x1024_1 (m ((c : Thread nD τ).loc main_arg4))⟩,
     ⟨S1x1024, broadcastInDim S1x1024 ![1] bcast_S1024_S1x1024_1 (m ((c : Thread nD τ).loc main_arg5))⟩,
     ⟨S1x1024, broadcastInDim S1x1024 ![1] bcast_S1024_S1x1024_1 (m ((c : Thread nD τ).loc main_arg6))⟩,
     ⟨S1x1024, broadcastInDim S1x1024 ![1] bcast_S1024_S1x1024_1 (m ((c : Thread nD τ).loc main_arg3))⟩] concatenates_S1x1024_S1x1024_S1x1024_S1x1024_S4x1024_d0) (sitofp (F := Ideal) .f32 (constantI S_ 32 0#32)) pads_S4x1024_S8x1024_040_000 h_S_ := by
  unfold V
  simp only [List.flatten_cons, List.flatten_nil, List.cons_append, List.nil_append, TRef.binary, TRef.unary, TRef.toBuf, TRef.ofBuf, cast_eq]
  after_results_simp <;> (try dsimp only [Matrix.cons_val]) <;> (try after_results_simp) <;> rfl

theorem iblk0_at (t : Fin cfg0.N) (r : Fin 512) (k : Fin 3072) :
    iblk m c 0 t (ix2 r k) = m ((c : Thread nD τ).loc main_arg0) (ix2 (tok t r) k) := by
  rw [← V_arg0 m c]
  blk_ext! [iblk, index0, tok]

theorem iblk1_at (t : Fin cfg0.N) (r : Fin 512) (d : Fin 1024) :
    iblk m c 1 t (ix2 r d) = m ((c : Thread nD τ).loc main_arg1) (ix2 (tok t r) d) := by
  rw [← V_arg1 m c]
  blk_ext! [iblk, index1, tok]

theorem iblk2_at (t : Fin cfg0.N) (r : Fin 512) (d : Fin 1024) :
    iblk m c 2 t (ix2 r d) = m ((c : Thread nD τ).loc main_arg2) (ix2 (tok t r) d) := by
  rw [← V_arg2 m c]
  blk_ext! [iblk, index2, tok]

theorem iblk3_at (t : Fin cfg0.N) (q : Fin 8) (d : Fin 1024) :
    iblk m c 3 t (ix2 q d) = V m c main_v5 (ix2 q d) := by
  blk_ext! [iblk, index3]

end Cert.InIn
-- ==== Proof.InSpec.lean ====
module

public import proofs.«01_k».proof.Proof.InPay
public import Idealize.ShloMosaic.Lib.Pointwise

/-! The step by tokens: the gradient of the normalised, modulated rows, of the input, of the weight and of the small vectors,
as sums over the 16384 tokens and the 3072 columns. -/

@[expose] public section

noncomputable section

namespace Cert.InSpec

open Cert.InPay Idealize.ShloMosaic

variable (z : Fin 16384 → Fin 3072 → EReal) (x o : Fin 16384 → Fin 1024 → EReal) (g b s : Fin 1024 → EReal)
  (w : Fin 1024 → Fin 3072 → EReal)

/-- The column of the whole weight that is column `k` of piece `j`. -/
def col (j : Fin 4) (k : Fin 768) : Fin 3072 := ⟨768 * j.val + k.val, by omega⟩

/-- The gradient of the modulated rows. -/
def DH (n : Fin 16384) (d : Fin 1024) : EReal := ∑ k : Fin 3072, z n k * w d k

/-- The normalised rows. -/
def XH (n : Fin 16384) (d : Fin 1024) : EReal := x n d * rr (x n)

/-- The modulated rows. -/
def HH (n : Fin 16384) (d : Fin 1024) : EReal := XH x n d * g d * (cOne + s d) + b d

/-- The input's gradient. -/
def DX (n : Fin 16384) (d : Fin 1024) : EReal :=
  o n d + rr (x n) * (DH z w n d * (g d * (cOne + s d))
    - XH x n d * Ideal.div (∑ e : Fin 1024, DH z w n e * XH x n e * (g e * (cOne + s e))) cN)

/-- The weight's gradient, by pieces. -/
def GW (j : Fin 4) (d : Fin 1024) (k : Fin 768) : EReal := ∑ n : Fin 16384, HH x g b s n d * z n (col j k)

/-- The shift's gradient. -/
def SS (d : Fin 1024) : EReal := ∑ n : Fin 16384, DH z w n d

/-- The sum of the gradient against the normalised rows. -/
def SN (d : Fin 1024) : EReal := ∑ n : Fin 16384, DH z w n d * XH x n d

/-- A sum over the 3072 columns is one over the four pieces. -/
theorem sum_col (f : Fin 3072 → EReal) : ∑ k : Fin 3072, f k
    = ((∑ k : Fin 768, f (col 0 k)) + (∑ k : Fin 768, f (col 1 k)) + (∑ k : Fin 768, f (col 2 k))) + ∑ k : Fin 768, f (col 3 k) := by
  rw [Fin.sum_univ_tiles 4 768 (by decide) f, Fin.sum_univ_four]
  rfl

end Cert.InSpec
-- ==== Proof.InTok.lean ====
module

public import proofs.«01_k».proof.Proof.InIn
public import proofs.«01_k».proof.Proof.InSpec

/-! The kernel's three results by tokens. -/

@[expose] public section

set_option maxRecDepth 16384

noncomputable section

namespace Cert.InTok

open Cert.InKernelIdeal Cert.InKernelIdeal.Gen Cert.InDx Cert.InPay Cert.InRead Cert.InOuts Cert.InSpec
open Idealize.ShloMosaic Idealize.ShloMosaic.TcCoe Idealize.SL.Sem
open Cert.InIn (tok)

variable (m : (ℓ : Loc nD τ sig) → Buf (Elt Ideal) ℓ) (c : Dev nD)

def az (n : Fin 16384) (k : Fin 3072) : EReal := m ((c : Thread nD τ).loc main_arg0) (ix2 n k)
def ax (n : Fin 16384) (d : Fin 1024) : EReal := m ((c : Thread nD τ).loc main_arg1) (ix2 n d)
def ao (n : Fin 16384) (d : Fin 1024) : EReal := m ((c : Thread nD τ).loc main_arg2) (ix2 n d)
def ag (d : Fin 1024) : EReal := m ((c : Thread nD τ).loc main_arg3) (ix1 d)
def ab (d : Fin 1024) : EReal := m ((c : Thread nD τ).loc main_arg4) (ix1 d)
def as' (d : Fin 1024) : EReal := m ((c : Thread nD τ).loc main_arg5) (ix1 d)
def aw (d : Fin 1024) (k : Fin 3072) : EReal := m ((c : Thread nD τ).loc main_arg7) (ix2 d k)

theorem vec0 (t : Fin cfg0.N) (d : Fin 1024) : (iblk m c 3 t (ix2 (0 : Fin 8) d) : EReal) = ab m c d := by
  rw [Cert.InIn.iblk3_at, Cert.InIn.V_vecs]
  pointwise
  rfl

theorem vec1 (t : Fin cfg0.N) (d : Fin 1024) : (iblk m c 3 t (ix2 (1 : Fin 8) d) : EReal) = as' m c d := by
  rw [Cert.InIn.iblk3_at, Cert.InIn.V_vecs]
  pointwise
  rfl

theorem vec3 (t : Fin cfg0.N) (d : Fin 1024) : (iblk m c 3 t (ix2 (3 : Fin 8) d) : EReal) = ag m c d := by
  rw [Cert.InIn.iblk3_at, Cert.InIn.V_vecs]
  pointwise
  rfl

theorem w_at (j : Fin 4) (d : Fin 1024) (k : Fin 768) : (wW m c (ix3 j d k) : EReal) = aw m c d (col j k) := by
  unfold wW
  exact (wA_apply c _ j d k).trans (Cert.InIn.V_w m c j d k)

theorem zz_at (t : Fin cfg0.N) (r : Fin 512) (j : Fin 4) (k : Fin 768) : zz (iblk m c 0 t) r j k = az m c (tok t r) (col j k) := by
  unfold zz
  exact Cert.InIn.iblk0_at m c t r (col j k)

theorem dh_at (t : Fin cfg0.N) (r : Fin 512) (d : Fin 1024) : dh (iblk m c 0 t) (wW m c) r d = DH (az m c) (aw m c) (tok t r) d := by
  unfold dh DH
  rw [sum_col]
  simp only [zz_at, w_at]

theorem rs_at (t : Fin cfg0.N) (r : Fin 512) : rs (iblk m c 1 t) r = rr (ax m c (tok t r)) := by
  unfold rs
  exact congrArg rr (funext fun d => Cert.InIn.iblk1_at m c t r d)

theorem xh_at (t : Fin cfg0.N) (r : Fin 512) (d : Fin 1024) : xh (iblk m c 1 t) r d = XH (ax m c) (tok t r) d := by
  unfold xh XH
  rw [rs_at, Cert.InIn.iblk1_at]
  rfl

theorem hh_at (t : Fin cfg0.N) (r : Fin 512) (d : Fin 1024) :
    hh (iblk m c 1 t) (iblk m c 3 t) r d = HH (ax m c) (ag m c) (ab m c) (as' m c) (tok t r) d := by
  unfold hh HH
  rw [xh_at, vec0, vec1, vec3]

theorem dx_tok (t : Fin cfg0.N) (r : Fin 512) (d : Fin 1024) :
    dx (iblk m c 0 t) (iblk m c 1 t) (iblk m c 2 t) (iblk m c 3 t) (wW m c) r d
      = DX (az m c) (ax m c) (ao m c) (ag m c) (as' m c) (aw m c) (tok t r) d := by
  unfold dx DX gain
  simp only [xh_at, vec1, vec3, dh_at, rs_at, Cert.InIn.iblk2_at]
  rfl

/-- A sum over the points and the rows of a block is one over the tokens. -/
theorem sum_tok (f : Fin 16384 → EReal) : ∑ t : Fin cfg0.N, ∑ r : Fin 512, f (tok t r) = ∑ n : Fin 16384, f n := by
  have h : ∀ N : ℕ, N = 32 → ∀ F : (t : Fin N) → Fin 512 → Fin 16384, (∀ t r, (F t r).val = t.val * 512 + r.val) →
      ∑ t : Fin N, ∑ r : Fin 512, f (F t r) = ∑ n : Fin 16384, f n := by
    intro N hN F hF
    subst hN
    rw [Fin.sum_univ_tiles 32 512 (by decide) f]
    exact Finset.sum_congr rfl fun t _ => Finset.sum_congr rfl fun r _ => congrArg f (Fin.ext (hF t r))
  exact h _ N_0 tok fun _ _ => rfl

theorem gw_tok (j : Fin 4) (d : Fin 1024) (k : Fin 768) :
    ∑ t : Fin cfg0.N, gW m c t j d k = GW (az m c) (ax m c) (ag m c) (ab m c) (as' m c) j d k := by
  unfold gW GW
  simp only [hh_at, zz_at]
  exact sum_tok fun n => HH (ax m c) (ag m c) (ab m c) (as' m c) n d * az m c n (col j k)

theorem ss_tok (d : Fin 1024) : ∑ t : Fin cfg0.N, gS m c t d = SS (az m c) (aw m c) d := by
  unfold gS SS
  simp only [dh_at]
  exact sum_tok fun n => DH (az m c) (aw m c) n d

theorem sn_tok (d : Fin 1024) : ∑ t : Fin cfg0.N, gN m c t d = SN (az m c) (ax m c) (aw m c) d := by
  unfold gN SN
  simp only [dh_at, xh_at]
  exact sum_tok fun n => DH (az m c) (aw m c) n d * XH (ax m c) n d

/-- The input's gradient, as an array. -/
def arrX : S16384x1024.Idx → EReal := fun i => DX (az m c) (ax m c) (ao m c) (ag m c) (as' m c) (aw m c) (i 0) (i 1)

/-- The small gradients, as an array. -/
def arrS : S8x1024.Idx → EReal := fun i =>
  if (i 0).val = 0 then SS (az m c) (aw m c) (i 1)
  else if (i 0).val = 1 then SN (az m c) (ax m c) (aw m c) (i 1) * ag m c (i 1)
  else if (i 0).val = 2 then SN (az m c) (ax m c) (aw m c) (i 1) * (cOne + as' m c (i 1)) else 0

/-- The weight's gradient in the first layer's place of the carried array, as an array. -/
def arrW : S2x4x1024x768.Idx → EReal := fun i =>
  if (i 0).val = 0 then GW (az m c) (ax m c) (ag m c) (ab m c) (as' m c) (i 1) (i 2) (i 3)
  else m ((c : Thread nD τ).loc main_arg8) i

theorem emb_x (t : Fin cfg0.N) (r : Fin 512) (d : Fin 1024) : ((cfg0.win 4).blk t).view.emb (ix2 r d) = ix2 (tok t r) d := by
  blk_ext! [Cert.InIn.index4, tok]

theorem final_x : (dats m 0 c).arrAt 4 cfg0.N = arrX m c := by
  refine (dats m 0 c).arrAt_eq_of_covers 4 _ (by decide +kernel) fun t hf y => ?_
  rw [after0_4]
  obtain ⟨r, d, rfl⟩ : ∃ (r : Fin 512) (d : Fin 1024), y = ix2 r d := ⟨y 0, y 1, by funext a; fin_cases a <;> rfl⟩
  rw [emb_x]
  exact (dx_at m c t r d).trans (dx_tok m c t r d)

theorem final_s : (dats m 0 c).arrAt 5 cfg0.N = arrS m c := by
  refine (dats m 0 c).arrAt_eq_of_after_last 5 ⟨31, lt31⟩ (by decide +kernel) _ fun y => ?_
  rw [after0_5]
  obtain ⟨q, d, rfl⟩ : ∃ (q : Fin 8) (d : Fin 1024), y = ix2 q d := ⟨y 0, y 1, by funext a; fin_cases a <;> rfl⟩
  show ((outsAt0 m c 31 lt31).2.1 (ix2 q d) : EReal) = arrS m c (ix2 q d)
  unfold arrS
  by_cases h0 : q.val = 0
  · obtain rfl : q = 0 := Fin.ext h0
    exact (sums0_last m c d).trans (ss_tok m c d)
  by_cases h1 : q.val = 1
  · obtain rfl : q = 1 := Fin.ext h1
    refine (sums1_last m c d).trans ?_
    rw [sn_tok, vec3]
    rfl
  by_cases h2 : q.val = 2
  · obtain rfl : q = 2 := Fin.ext h2
    refine (sums2_last m c d).trans ?_
    rw [sn_tok, vec1]
    rfl
  rw [sumsr_last m c q (by omega) d]
  exact ((if_neg h0).trans ((if_neg h1).trans (if_neg h2))).symm

theorem final_w : (outsAt0 m c 31 lt31).2.2.2.2 = arrW m c := by
  funext i
  obtain ⟨l, j, d, k, rfl⟩ : ∃ (l : Fin 2) (j : Fin 4) (d : Fin 1024) (k : Fin 768), i = ix4 l j d k :=
    ⟨i 0, i 1, i 2, i 3, by funext a; fin_cases a <;> rfl⟩
  unfold arrW
  match l with
  | 0 => exact (held_last m c j d k).trans (gw_tok m c j d k)
  | 1 =>
    refine (held_last' m c j d k).trans ?_
    rw [Cert.InIn.V_carried]
    rfl

end Cert.InTok
-- ==== Proof.InMath.lean ====
module

public import proofs.«01_k».proof.Proof.InSpec

/-! The arithmetic on the extended reals that turns the kernel's sums into the derivative's. -/

@[expose] public section

noncomputable section

namespace Cert.InMath

open Cert.InPay Cert.InSpec Idealize.ShloMosaic

/-- Minus one half, as the derivative of the reciprocal root has it. -/
abbrev cMinus : EReal := Ideal.ofBits .f32 0xBF000000#32

theorem cN_eq : cN = ((1024 : ℝ) : EReal) := by
  simp [Ideal.ofBits, Ideal.ieee, -EReal.coe_mul]; norm_num

theorem cMinus_eq : cMinus = ((-(1 / 2) : ℝ) : EReal) := by
  simp [Ideal.ofBits, Ideal.ieee, -EReal.coe_mul]; norm_num

theorem cOne_eq : cOne = ((1 : ℝ) : EReal) := by
  simp [Ideal.ofBits, Ideal.ieee, -EReal.coe_mul]

theorem cEps_eq : ∃ e : ℝ, 0 < e ∧ cEps = (e : EReal) := by
  have h : ∃ e : ℝ, cEps = (e : EReal) ∧ 0 < e := by
    simp only [Ideal.ofBits, Ideal.ieee]
    norm_num
    refine ⟨_, rfl, ?_⟩
    rw [if_neg (by decide)]
    positivity
  obtain ⟨e, h1, h2⟩ := h
  exact ⟨e, h2, h1⟩

theorem div_cN (a : EReal) : Ideal.div a cN = a * ((1 / 1024 : ℝ) : EReal) := by
  rw [cN_eq, Ideal.div, if_neg (by norm_num), ← EReal.coe_inv, one_div]

/-- The sum of reals, in the extended reals. -/
theorem coe_total {ι : Type} (S : Finset ι) (f : ι → ℝ) : ((∑ i ∈ S, f i : ℝ) : EReal) = ∑ i ∈ S, (f i : EReal) := by
  induction S using Finset.cons_induction with
  | empty => simp
  | cons i S hi ih => rw [Finset.sum_cons, Finset.sum_cons, EReal.coe_add, ih]

/-- The mean of squares of a row, with the small constant. -/
def ss (x : Fin 1024 → EReal) : EReal := Ideal.div (∑ d : Fin 1024, x d * x d) cN + cEps

theorem sq_nonneg' (a : EReal) : 0 ≤ a * a := by
  rcases le_total 0 a with h | h
  · exact mul_nonneg h h
  · exact EReal.mul_nonneg_iff.mpr (Or.inr ⟨h, h⟩)

theorem sum_sq_nonneg (x : Fin 1024 → EReal) : 0 ≤ ∑ d : Fin 1024, x d * x d := Finset.sum_nonneg fun d _ => sq_nonneg' (x d)

/-- Either the row is real and so are its mean of squares and the reciprocal root, both positive, or the root is zero. -/
theorem row_cases (x : Fin 1024 → EReal) :
    (∃ σ : ℝ, 0 < σ ∧ ss x = (σ : EReal) ∧ rr x = (((Real.sqrt σ)⁻¹ : ℝ) : EReal) ∧ ∀ d, ∃ a : ℝ, x d = (a : EReal)) ∨ (ss x = ⊤ ∧ rr x = 0) := by
  obtain ⟨e, he, hE⟩ := cEps_eq
  have hr : rr x = Ideal.rsqrt (ss x) := rfl
  have h0 := sum_sq_nonneg x
  by_cases ht : ∑ d : Fin 1024, x d * x d = ⊤
  · right
    have hs : ss x = ⊤ := by
      rw [ss, div_cN, ht, hE, EReal.top_mul_coe_of_pos (by norm_num), EReal.top_add_coe]
    exact ⟨hs, by rw [hr, hs]; simp⟩
  · left
    obtain ⟨q, hq⟩ : ∃ q : ℝ, ∑ d : Fin 1024, x d * x d = (q : EReal) :=
      ⟨_, (EReal.coe_toReal ht (ne_of_gt (lt_of_lt_of_le EReal.bot_lt_zero h0))).symm⟩
    have hq0 : 0 ≤ q := by rw [hq] at h0; exact_mod_cast h0
    have hs : ss x = ((q * (1 / 1024) + e : ℝ) : EReal) := by
      rw [ss, div_cN, hq, hE, ← EReal.coe_mul, ← EReal.coe_add]
    have hp : 0 < q * (1 / 1024) + e := by positivity
    refine ⟨_, hp, hs, ?_, fun d => ?_⟩
    · rw [hr, hs, Ideal.rsqrt_coe, if_neg (not_lt.mpr hp.le), if_neg hp.ne']
    · have hd : x d * x d ≤ (q : EReal) := by
        rw [← hq]
        exact Finset.single_le_sum (f := fun d => x d * x d) (fun d _ => sq_nonneg' (x d)) (Finset.mem_univ d)
      refine ⟨_, (EReal.coe_toReal ?_ ?_).symm⟩
      · intro h
        rw [h, EReal.top_mul_top] at hd
        exact absurd hd (not_le.mpr (EReal.coe_lt_top q))
      · intro h
        rw [h, EReal.bot_mul_bot] at hd
        exact absurd hd (not_le.mpr (EReal.coe_lt_top q))

/-- Multiplying by a nonnegative real distributes over a sum. -/
theorem sum_mul_coe {ι : Type} (S : Finset ι) (f : ι → EReal) (ρ : ℝ) (h : 0 ≤ ρ) : ∑ i ∈ S, f i * (ρ : EReal) = (∑ i ∈ S, f i) * (ρ : EReal) := by
  induction S using Finset.cons_induction with
  | empty => simp
  | cons i S hi ih => rw [Finset.sum_cons, Finset.sum_cons, ih, EReal.right_distrib_of_nonneg_of_ne_top (by exact_mod_cast h) (EReal.coe_ne_top ρ)]

theorem twice (y : EReal) : y + y = y * ((2 : ℝ) : EReal) := by
  induction y with
  | bot => rw [EReal.bot_mul_coe_of_pos (by norm_num), EReal.bot_add]
  | top => rw [EReal.top_mul_coe_of_pos (by norm_num), EReal.top_add_top]
  | coe y => rw [← EReal.coe_add, ← EReal.coe_mul, mul_two]

/-- The input's gradient: the kernel's order of the factors against the derivative's. -/
theorem dx_eq (x h p : Fin 1024 → EReal) (o : EReal) (d : Fin 1024) :
    o + rr x * (h d * p d - x d * rr x * Ideal.div (∑ e : Fin 1024, h e * (x e * rr x) * p e) cN)
      = (o + h d * p d * rr x + x d * Ideal.div ((∑ e : Fin 1024, x e * (h e * p e)) * (cMinus * Ideal.div (rr x) (ss x))) cN)
        + Ideal.div ((∑ e : Fin 1024, x e * (h e * p e)) * (cMinus * Ideal.div (rr x) (ss x))) cN * x d := by
  rcases row_cases x with ⟨σ, hσ, hs, hr, -⟩ | ⟨hs, hr⟩
  · have hsq : Real.sqrt σ * Real.sqrt σ = σ := Real.mul_self_sqrt hσ.le
    have hpos : 0 < Real.sqrt σ := Real.sqrt_pos.mpr hσ
    generalize hρ : (Real.sqrt σ)⁻¹ = ρ at hr
    have hρ0 : 0 < ρ := hρ ▸ inv_pos.mpr hpos
    have hinv : σ⁻¹ = ρ * ρ := by rw [← hρ, ← hsq, mul_inv]; rw [hsq]
    have hdiv : Ideal.div (ρ : EReal) (σ : EReal) = ((ρ * (ρ * ρ) : ℝ) : EReal) := by
      rw [Ideal.div, if_neg (by exact_mod_cast hσ.ne'), ← EReal.coe_inv, hinv, ← EReal.coe_mul]
    rw [hr, hs, hdiv, cMinus_eq, div_cN, div_cN]
    rw [show ∑ e : Fin 1024, h e * (x e * (ρ : EReal)) * p e = (∑ e : Fin 1024, x e * (h e * p e)) * (ρ : EReal) from by
      rw [← sum_mul_coe _ _ ρ hρ0.le]
      exact Finset.sum_congr rfl fun e _ => by ac_rfl]
    generalize ∑ e : Fin 1024, x e * (h e * p e) = S
    generalize h d * p d = G
    generalize x d = X
    rw [add_assoc (o + G * (ρ : EReal)), mul_comm _ X, twice, sub_eq_add_neg,
      EReal.left_distrib_of_nonneg_of_ne_top (by exact_mod_cast hρ0.le) (EReal.coe_ne_top ρ), ← add_assoc, mul_comm (ρ : EReal) G]
    congr 1
    rw [← EReal.coe_mul]
    have e1 : (ρ : EReal) * -(X * (ρ : EReal) * (S * (ρ : EReal) * ((1 / 1024 : ℝ) : EReal)))
        = X * S * ((-(ρ * ρ * ρ * (1 / 1024)) : ℝ) : EReal) := by
      rw [mul_neg, EReal.coe_neg, mul_neg]
      congr 1
      push_cast
      ac_rfl
    have e2 : X * (S * ((-(1 / 2) * (ρ * (ρ * ρ)) : ℝ) : EReal) * ((1 / 1024 : ℝ) : EReal)) * ((2 : ℝ) : EReal)
        = X * S * ((-(1 / 2) * (ρ * (ρ * ρ)) * (1 / 1024) * 2 : ℝ) : EReal) := by
      rw [EReal.coe_mul (_ * _) 2, EReal.coe_mul (-(1 / 2) * (ρ * (ρ * ρ))) (1 / 1024)]
      ac_rfl
    rw [e1, e2]
    congr 2
    ring
  · have hz : Ideal.div 0 (⊤ : EReal) = 0 := by rw [Ideal.div, if_neg (by simp), zero_mul]
    have hz' : Ideal.div 0 cN = 0 := by rw [div_cN, zero_mul]
    rw [hr, hs, hz]
    simp [hz']

/-- Products with a real factor go through a sum of reals. -/
theorem sum_mul_real {n : ℕ} (f : Fin n → EReal) (hf : ∀ i, ∃ a : ℝ, f i = (a : EReal)) (γ : ℝ) :
    (∑ i : Fin n, f i) * (γ : EReal) = ∑ i : Fin n, f i * (γ : EReal) := by
  choose a ha using hf
  simp only [ha]
  rw [← coe_total]
  simp only [← EReal.coe_mul]
  rw [← coe_total, Finset.sum_mul]

theorem xh_real (x : Fin 16384 → Fin 1024 → EReal) (n : Fin 16384) (d : Fin 1024) : ∃ a : ℝ, XH x n d = (a : EReal) := by
  unfold XH
  rcases row_cases (x n) with ⟨σ, -, -, hr, hx⟩ | ⟨-, hr⟩
  · obtain ⟨a, ha⟩ := hx d
    exact ⟨a * (Real.sqrt σ)⁻¹, by rw [hr, ha, EReal.coe_mul]⟩
  · exact ⟨0, by rw [hr, mul_zero]; rfl⟩

theorem dh_real (z : Fin 16384 → Fin 3072 → EReal) (w : Fin 1024 → Fin 3072 → EReal) (hz : ∀ n k, ∃ a : ℝ, z n k = (a : EReal))
    (hw : ∀ d k, ∃ a : ℝ, w d k = (a : EReal)) (n : Fin 16384) (d : Fin 1024) : ∃ a : ℝ, DH z w n d = (a : EReal) := by
  choose a ha using hz n
  choose b hb using hw d
  exact ⟨∑ k, a k * b k, by unfold DH; simp only [ha, hb, ← EReal.coe_mul]; rw [← coe_total]⟩

/-- A sum of products of reals times a real factor. -/
theorem sn_mul (z : Fin 16384 → Fin 3072 → EReal) (x : Fin 16384 → Fin 1024 → EReal) (w : Fin 1024 → Fin 3072 → EReal)
    (hz : ∀ n k, ∃ a : ℝ, z n k = (a : EReal)) (hw : ∀ d k, ∃ a : ℝ, w d k = (a : EReal)) (d : Fin 1024) (y : EReal)
    (hy : ∃ a : ℝ, y = (a : EReal)) : SN z x w d * y = ∑ n : Fin 16384, DH z w n d * XH x n d * y := by
  obtain ⟨γ, rfl⟩ := hy
  refine sum_mul_real _ (fun n => ?_) γ
  obtain ⟨a, ha⟩ := dh_real z w hz hw n d
  obtain ⟨b, hb⟩ := xh_real x n d
  exact ⟨a * b, by rw [ha, hb, EReal.coe_mul]⟩

end Cert.InMath
-- ==== Proof.InRef.lean ====
module

public import proofs.«01_k».proof.Proof.InMath
public import proofs.«01_k».proof.Proof.Gen.InReferenceIdeal.Read

/-! The reference's three results by tokens: the derivative of the normalised, modulated product, and where the kernel's order
of the factors gives the same. -/

@[expose] public section

set_option maxRecDepth 16384

noncomputable section

namespace Cert.InRef

open Cert.InReferenceIdeal Cert.InReferenceIdeal.Gen Cert.InReferenceIdeal.Read Cert.InPay Cert.InSpec Cert.InMath
open Idealize.ShloMosaic Idealize.ShloMosaic.TcCoe

variable (x0 : (⟨S16384x3072, .bf16⟩ : BufTy).Contents (Elt Ideal)) (x1 x2 : (⟨S16384x1024, .f32⟩ : BufTy).Contents (Elt Ideal))
  (x3 x4 x5 : (⟨S1024, .f32⟩ : BufTy).Contents (Elt Ideal)) (x7 : (⟨S1024x3072, .f32⟩ : BufTy).Contents (Elt Ideal))
  (x8 : (⟨S2x4x1024x768, .f32⟩ : BufTy).Contents (Elt Ideal))

/-- An array of two axes as a function of its two coordinates, and a vector of its one. -/
abbrev two {a b : ℕ} (x : Shape.Idx ⟨2, ![a, b]⟩ → EReal) (i : Fin a) (j : Fin b) : EReal := x (ix2 i j)
abbrev one {a : ℕ} (x : Shape.Idx ⟨1, ![a]⟩ → EReal) (i : Fin a) : EReal := x (ix1 i)

theorem c1 : (cOne : EReal) = 1 := by rw [cOne_eq]; rfl

theorem v6_at (n : Fin 16384) : (val_main_v6 (F := Ideal) x1 (ix2 n (0 : Fin 1)) : EReal) = ss (two x1 n) := by
  pointwise [val_main_v6, val_main_v4, val_main_v5, val_main_v3, val_main_v2, val_main_v1, val_main_v0, val_main_cst, val_main_cst_0, val_main_cst_1]
  rfl

theorem v7_at (n : Fin 16384) : (val_main_v7 (F := Ideal) x1 (ix2 n (0 : Fin 1)) : EReal) = rr (two x1 n) := by
  pointwise [val_main_v7, val_main_v6, val_main_v4, val_main_v5, val_main_v3, val_main_v2, val_main_v1, val_main_v0, val_main_cst, val_main_cst_0, val_main_cst_1]
  rfl

theorem v12_at (n : Fin 16384) (d : Fin 1024) : (val_main_v12 (F := Ideal) x1 (ix2 n d) : EReal) = XH (two x1) n d := by
  pointwise [val_main_v12, val_main_v11]
  rw [v7_at]
  rfl

theorem v23_at (n : Fin 16384) (d : Fin 1024) :
    (val_main_v23 (F := Ideal) x1 x3 x4 x5 (ix2 n d) : EReal) = HH (two x1) (one x3) (one x4) (one x5) n d := by
  pointwise [val_main_v23, val_main_v22, val_main_v21, val_main_v20, val_main_v19, val_main_v18, val_main_v17, val_main_v16, val_main_v15, val_main_v14, val_main_v13, val_main_cst_3]
  rw [v12_at, ← c1]
  rfl

theorem v28_at (n : Fin 16384) (d : Fin 1024) : (val_main_v28 (F := Ideal) x0 x7 (ix2 n d) : EReal) = DH (two x0) (two x7) n d := by
  pointwise [val_main_v28, val_main_v25]
  rfl

theorem v36_at (n : Fin 16384) (d : Fin 1024) :
    (val_main_v36 (F := Ideal) x0 x5 x7 (ix2 n d) : EReal) = DH (two x0) (two x7) n d * (cOne + one x5 d) := by
  pointwise [val_main_v36, val_main_v35, val_main_v18, val_main_v17, val_main_v16, val_main_cst_3]
  rw [v28_at]

theorem v42_at (n : Fin 16384) (d : Fin 1024) :
    (val_main_v42 (F := Ideal) x0 x3 x5 x7 (ix2 n d) : EReal) = DH (two x0) (two x7) n d * (one x3 d * (cOne + one x5 d)) := by
  pointwise [val_main_v42, val_main_v41, val_main_v13]
  rw [v36_at, mul_assoc, ← c1]
  exact congrArg (DH (two x0) (two x7) n d * ·) (mul_comm _ _)

theorem v45_at (n : Fin 16384) : (val_main_v45 (F := Ideal) x0 x1 x3 x5 x7 (ix1 n) : EReal)
    = ∑ e : Fin 1024, two x1 n e * (DH (two x0) (two x7) n e * (one x3 e * (cOne + one x5 e))) := by
  pointwise [val_main_v45, val_main_v44, val_main_cst_10]
  simp only [v42_at, c1]

theorem v53_at (n : Fin 16384) : (val_main_v53 (F := Ideal) x0 x1 x3 x5 x7 (ix1 n) : EReal)
    = Ideal.div ((∑ e : Fin 1024, two x1 n e * (DH (two x0) (two x7) n e * (one x3 e * (cOne + one x5 e))))
        * (cMinus * Ideal.div (rr (two x1 n)) (ss (two x1 n)))) cN := by
  pointwise [val_main_v53, val_main_v52, val_main_v51, val_main_cst_11, val_main_cst_12, val_main_v50, val_main_v46, val_main_v10, val_main_v9, val_main_v8, val_main_cst_2]
  rw [Fin.sum_univ_one, v7_at, v6_at, v45_at, ← c1]

/-- The input's gradient. -/
theorem dx_at (n : Fin 16384) (d : Fin 1024) : (val_main_v58 (F := Ideal) x0 x1 x2 x3 x5 x7 (ix2 n d) : EReal)
    = DX (two x0) (two x1) (two x2) (one x3) (one x5) (two x7) n d := by
  pointwise [val_main_v58, val_main_v57, val_main_v56, val_main_v55, val_main_v54, val_main_v49, val_main_v48, val_main_v47]
  rw [v53_at, v42_at, v7_at]
  exact (dx_eq (two x1 n) (DH (two x0) (two x7) n) (fun e => one x3 e * (cOne + one x5 e)) (two x2 n d) d).symm

/-- The weight's gradient. -/
theorem gw_at (j : Fin 4) (d : Fin 1024) (k : Fin 768) :
    (val_main_v63 (F := Ideal) x0 x1 x3 x4 x5 x8 (ix4 (0 : Fin 2) j d k) : EReal)
      = GW (two x0) (two x1) (one x3) (one x4) (one x5) j d k := by
  pointwise [val_main_v63, val_main_v61, val_main_v60, val_main_v59, val_main_v27, val_main_v26, val_main_v25]
  simp only [v23_at]
  unfold GW
  refine Finset.sum_congr rfl fun n _ => ?_
  rw [mul_comm]
  exact congrArg (fun q : Fin 3072 => HH (two x1) (one x3) (one x4) (one x5) n d * x0 (ix2 n q)) (Fin.ext (by simp only [col]; omega))

theorem gw_at' (j : Fin 4) (d : Fin 1024) (k : Fin 768) :
    (val_main_v63 (F := Ideal) x0 x1 x3 x4 x5 x8 (ix4 (1 : Fin 2) j d k) : EReal) = x8 (ix4 (1 : Fin 2) j d k) := by
  pointwise [val_main_v63, val_main_v62]

/-- The shift's gradient. -/
theorem s0_at (d : Fin 1024) : (val_main_v68 (F := Ideal) x0 x1 x3 x5 x7 (ix2 (0 : Fin 8) d) : EReal) = SS (two x0) (two x7) d := by
  pointwise [val_main_v68, val_main_v67, val_main_v64, val_main_v31, val_main_v30, val_main_v29, val_main_cst_4, val_main_cst_5]
  rw [Fin.sum_univ_one]
  simp only [v28_at]
  rfl

section
variable (hz : ∀ n k, ∃ a : ℝ, two x0 n k = (a : EReal)) (hw : ∀ d k, ∃ a : ℝ, two x7 d k = (a : EReal))
include hz hw

/-- The scale's gradient: the weight goes through the sum of reals. -/
theorem s1_at (hg : ∀ d, ∃ a : ℝ, one x3 d = (a : EReal)) (d : Fin 1024) :
    (val_main_v68 (F := Ideal) x0 x1 x3 x5 x7 (ix2 (1 : Fin 8) d) : EReal) = SN (two x0) (two x1) (two x7) d * one x3 d := by
  rw [sn_mul (two x0) (two x1) (two x7) hz hw d _ (hg d)]
  pointwise [val_main_v68, val_main_v67, val_main_v65, val_main_v37, val_main_v34, val_main_v33, val_main_v32, val_main_v15, val_main_v14, val_main_v13, val_main_cst_6, val_main_cst_7]
  rw [Fin.sum_univ_one]
  simp only [v28_at, v12_at]
  refine Finset.sum_congr rfl fun n _ => ?_
  rw [mul_comm, mul_assoc]

/-- The norm weight's gradient: the gain goes through the sum of reals. -/
theorem s2_at (hs : ∀ d, ∃ a : ℝ, one x5 d = (a : EReal)) (d : Fin 1024) :
    (val_main_v68 (F := Ideal) x0 x1 x3 x5 x7 (ix2 (2 : Fin 8) d) : EReal) = SN (two x0) (two x1) (two x7) d * (cOne + one x5 d) := by
  obtain ⟨a, ha⟩ := hs d
  rw [sn_mul (two x0) (two x1) (two x7) hz hw d _ ⟨1 + a, by rw [cOne_eq, ha, EReal.coe_add]⟩]
  pointwise [val_main_v68, val_main_v67, val_main_v66, val_main_v43, val_main_v40, val_main_v39, val_main_v38, val_main_cst_8, val_main_cst_9]
  rw [Fin.sum_univ_one]
  simp only [v36_at, v12_at]
  refine Finset.sum_congr rfl fun n _ => ?_
  rw [← mul_assoc, mul_comm (XH _ _ _), c1]
end

/-- The other rows are zero. -/
theorem sr_at (q : Fin 8) (hq : 3 ≤ q.val) (d : Fin 1024) : (val_main_v68 (F := Ideal) x0 x1 x3 x5 x7 (ix2 q d) : EReal) = 0 := by
  obtain rfl | rfl | rfl | rfl | rfl : q = 3 ∨ q = 4 ∨ q = 5 ∨ q = 6 ∨ q = 7 := by omega
  all_goals
    pointwise [val_main_v68, val_main_call0_v0, val_main_c]
    show (((0#32 : BitVec 32).toInt : ℝ) : EReal) = 0
    simp

end Cert.InRef
-- ==== Proof.InClaim.lean ====
module

public import proofs.«01_k».proof.Defs
public import proofs.«01_k».proof.Proof.InValue
public import proofs.«01_k».proof.Proof.InTok
public import proofs.«01_k».proof.Proof.InRef
public import proofs.«01_k».proof.Proof.Gen.Pre_finite
public import proofs.«01_k».proof.Proof.Gen.InReferenceIdeal.Run

/-! The kernel's arrays and the reference's arrays are the same where the entries of four arguments are finite. -/

@[expose] public section

set_option maxRecDepth 16384

noncomputable section

namespace Cert.InClaim

open Cert.InKernelIdeal Cert.InKernelIdeal.Gen Cert.InPay Cert.InSpec Cert.InTok Cert.InRef
open Cert.InReferenceIdeal.Read (val_main_v58 val_main_v63 val_main_v68 val_main_v58_eq val_main_v63_eq val_main_v68_eq)
open Idealize.ShloMosaic Idealize.ShloMosaic.TcCoe Idealize.SL.Sem

/-- A number whose size is under infinity is a real. -/
theorem real_of (a : EReal) (h : (FloatOps.cmpf (F := Ideal) (φ := .f32) .olt (FloatOps.hostAbsf (F := Ideal) (φ := .f32) a) (Ideal.ofBits .f32 0x7F800000#32) : BitVec 1) = 1#1) :
    ∃ r : ℝ, a = (r : EReal) := by
  have hi : Ideal.ofBits .f32 0x7F800000#32 = ⊤ := by simp [Ideal.ofBits, Ideal.ieee]
  have h' : max a (-a) < ⊤ := by
    by_contra hn
    have h0 : (Ideal.cmp .olt (max a (-a)) (Ideal.ofBits .f32 0x7F800000#32)) = 1#1 := h
    rw [hi] at h0
    simp [Ideal.cmp, hn] at h0
  induction a with
  | bot => simp at h'
  | top => simp at h'
  | coe r => exact ⟨r, rfl⟩

variable (m : (ℓ : Loc nD τ sig) → Buf (Elt Ideal) ℓ) (c : Dev nD)

theorem real_z (h : Cert.Pre_InKernelIdeal_finite m) (n : Fin 16384) (k : Fin 3072) : ∃ r : ℝ, az m c n k = (r : EReal) :=
  real_of _ (congrFun (h c).1 (ix2 n k))
theorem real_g (h : Cert.Pre_InKernelIdeal_finite m) (d : Fin 1024) : ∃ r : ℝ, ag m c d = (r : EReal) :=
  real_of _ (congrFun (h c).2.1 (ix1 d))
theorem real_s (h : Cert.Pre_InKernelIdeal_finite m) (d : Fin 1024) : ∃ r : ℝ, as' m c d = (r : EReal) :=
  real_of _ (congrFun (h c).2.2.1 (ix1 d))
theorem real_w (h : Cert.Pre_InKernelIdeal_finite m) (d : Fin 1024) (k : Fin 3072) : ∃ r : ℝ, aw m c d k = (r : EReal) :=
  real_of _ (congrFun (h c).2.2.2 (ix2 d k))

abbrev r0 := m ((c : Thread nD τ).loc main_arg0)
abbrev r1 := m ((c : Thread nD τ).loc main_arg1)
abbrev r2 := m ((c : Thread nD τ).loc main_arg2)
abbrev r3 := m ((c : Thread nD τ).loc main_arg3)
abbrev r4 := m ((c : Thread nD τ).loc main_arg4)
abbrev r5 := m ((c : Thread nD τ).loc main_arg5)
abbrev r7 := m ((c : Thread nD τ).loc main_arg7)
abbrev r8 := m ((c : Thread nD τ).loc main_arg8)

theorem ref_x : val_main_v58 (F := Ideal) (r0 m c) (r1 m c) (r2 m c) (r3 m c) (r5 m c) (r7 m c) = arrX m c := by
  funext i
  obtain ⟨n, d, rfl⟩ : ∃ (n : Fin 16384) (d : Fin 1024), i = ix2 n d := ⟨i 0, i 1, eq_ix2 i⟩
  exact dx_at _ _ _ _ _ _ n d

theorem ref_w : val_main_v63 (F := Ideal) (r0 m c) (r1 m c) (r3 m c) (r4 m c) (r5 m c) (r8 m c) = arrW m c := by
  funext i
  obtain ⟨l, j, d, k, rfl⟩ : ∃ (l : Fin 2) (j : Fin 4) (d : Fin 1024) (k : Fin 768), i = ix4 l j d k :=
    ⟨i 0, i 1, i 2, i 3, eq_ix4 i⟩
  match l with
  | 0 => exact gw_at _ _ _ _ _ _ j d k
  | 1 => exact gw_at' _ _ _ _ _ _ j d k

theorem ref_s (h : Cert.Pre_InKernelIdeal_finite m) :
    val_main_v68 (F := Ideal) (r0 m c) (r1 m c) (r3 m c) (r5 m c) (r7 m c) = arrS m c := by
  funext i
  obtain ⟨q, d, rfl⟩ : ∃ (q : Fin 8) (d : Fin 1024), i = ix2 q d := ⟨i 0, i 1, eq_ix2 i⟩
  by_cases h0 : q.val = 0
  · obtain rfl : q = 0 := Fin.ext h0
    exact s0_at _ _ _ _ _ d
  by_cases h1 : q.val = 1
  · obtain rfl : q = 1 := Fin.ext h1
    exact s1_at _ _ _ _ _ (real_z m c h) (real_w m c h) (real_g m c h) d
  by_cases h2 : q.val = 2
  · obtain rfl : q = 2 := Fin.ext h2
    exact s2_at _ _ _ _ _ (real_z m c h) (real_w m c h) (real_s m c h) d
  refine (sr_at _ _ _ _ _ q (by omega) d).trans ?_
  exact ((if_neg h0).trans ((if_neg h1).trans (if_neg h2))).symm

/-- The kernel and the reference leave the same three arrays. -/
theorem same : Cert.algebraic_InKernelIdeal_InReferenceIdeal_pre_finite := by
  intro m g m' g' hp hm
  refine ⟨fun c => arrX m c, fun c => arrW m c, fun c => arrS m c, ?_, ?_⟩
  · refine (θ_run Cert.InKernelIdeal.defs _ _).mono (fun r h c => ?_) (Cert.InDxValue.run_blocks (F := Ideal) m g)
    obtain ⟨hx, hs, k0, k1, k2, k3, k4, k5, k6, k7, k8, hw⟩ := h c
    exact ⟨hx.trans (final_x m c), hw.trans (final_w m c), hs.trans (final_s m c), k0, k1, k2, k3, k4, k5, k6, k7, k8⟩
  · refine (θ_run Cert.InReferenceIdeal.defs _ _).mono (fun r h c => ?_) (Cert.InReferenceIdeal.Value.run (F := Ideal) m' g')
    obtain ⟨hx, hw, hs, hk⟩ := h c
    obtain ⟨a0, a1, a2, a3, a4, a5, a6, a7, a8⟩ := hm c
    refine ⟨hx.trans ?_, hw.trans ?_, hs.trans ?_, hk⟩
    · rw [val_main_v58_eq, a0, a1, a2, a3, a5, a7]
      exact ref_x m c
    · refine (val_main_v63_eq _ _ _ _ _ _).trans ?_
      rw [a0, a1, a3, a4, a5, a8]
      exact ref_w m c
    · refine (val_main_v68_eq _ _ _ _ _).trans ?_
      rw [a0, a1, a3, a5, a7]
      exact ref_s m c hp

end Cert.InClaim
-- ==== Proof.LastSame.lean ====
module

public import proofs.«01_k».proof.Defs
public import proofs.«01_k».proof.Proof.Gen.LastKernel
public import proofs.«01_k».proof.Proof.Gen.LastKernelIdeal

/-! The last layer's kernel printed at bit patterns and printed for reading over the extended reals has one body table. -/

@[expose] public section

noncomputable section

namespace Cert.LastSame

open Idealize.ShloMosaic

/-- The bodies at the one label there is. -/
theorem body_eq (l : Cert.LastKernel.Λ₀.Label) (a : Cert.LastKernel.Λ₀.Args l) :
    Cert.LastKernel.defs₀ (F := Bits) .tc l a = Cert.LastKernelIdeal.defs₀ (F := Bits) .tc l a := by
  match l, a with
  | 0, (t, s) => rfl

theorem bodies_eq : Cert.LastKernel.defs₀ (F := Bits) = Cert.LastKernelIdeal.defs₀ (F := Bits) := by
  funext k l a
  cases k with
  | tc => exact body_eq l a
  | scScalar _ => rfl
  | scVector _ _ => rfl

theorem defs_eq : Cert.LastKernel.defs (F := Bits) = Cert.LastKernelIdeal.defs (F := Bits) :=
  congrArg (Pipeline.defs (Cert.LastKernel.pcfgs (F := Bits))) bodies_eq

end Cert.LastSame

end
-- ==== Proof.LastRead.lean ====
module

public import proofs.«01_k».proof.Proof.InRead
public import proofs.«01_k».proof.Proof.Gen.LastKernelIdeal.Frame

/-! What the body of the input projection's gradient leaves in each buffer when it runs for the last layer, which comes first and
has no carried array: the same values of its blocks, and the held result gets the second place. -/

@[expose] public section

set_option maxRecDepth 16384

noncomputable section

namespace Cert.LastRead

open Cert.LastKernelIdeal Cert.LastKernelIdeal.Gen Cert.InPay
open Cert.InRead (zz dh rs xh gain hh dx hz2 dh_of dx_of row0_of row1_of row_hit row_miss fill_hit plane_hit plane_miss rc_whole plane_of14 plane_of15 plane_of17 plane_of19 re4)
open Idealize.ShloMosaic Idealize.ShloMosaic.TcCoe Idealize.ShloMosaic.Tactic Idealize.SL.Sem

variable (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg6 : Memref sig .tc .vmem S512x1024 .f32) (harg6 : arg6.IsWhole) (arg8 : Memref sig .tc .vmem S8x1024 .f32) (harg8 : arg8.IsWhole) (arg9 : Memref sig .tc .vmem S4x1024x768 .bf16) (harg9 : arg9.IsWhole) (arg10 : Memref sig .tc .vmem S4x1024x768 .f32) (harg10 : arg10.IsWhole)
  (x0 : Vec Ideal S512x3072 .bf16) (x1 : Vec Ideal S512x1024 .f32) (x2 : Vec Ideal S512x1024 .f32) (x3 : Vec Ideal S8x1024 .f32)
  (xo5 : Vec Ideal S8x1024 .f32) (xs0 : Vec Ideal S4x1024x768 .bf16) (xs1 : Vec Ideal S4x1024x768 .f32)
  (fh0 : HbBuf0 (F := Ideal) c hbM0_0) (fw1 : HbBuf0 (F := Ideal) c hbM0_1)

/-! The payloads are those of the other layer's program. -/

theorem p1 : @Cert.LastKernelIdeal.Gen.k0_pay1 Ideal _ = @Cert.InKernelIdeal.Gen.k0_pay1 Ideal _ := rfl
theorem p2 : @Cert.LastKernelIdeal.Gen.k0_pay2 Ideal = @Cert.InKernelIdeal.Gen.k0_pay2 Ideal := rfl
theorem p3 : @Cert.LastKernelIdeal.Gen.k0_pay3 Ideal _ = @Cert.InKernelIdeal.Gen.k0_pay3 Ideal _ := rfl
theorem p4 : @Cert.LastKernelIdeal.Gen.k0_pay4 Ideal _ = @Cert.InKernelIdeal.Gen.k0_pay4 Ideal _ := rfl
theorem p5 : @Cert.LastKernelIdeal.Gen.k0_pay5 Ideal _ = @Cert.InKernelIdeal.Gen.k0_pay5 Ideal _ := rfl
theorem p6 : @Cert.LastKernelIdeal.Gen.k0_pay6 Ideal _ = @Cert.InKernelIdeal.Gen.k0_pay6 Ideal _ := rfl
theorem p7 : @Cert.LastKernelIdeal.Gen.k0_pay7 Ideal = @Cert.InKernelIdeal.Gen.k0_pay7 Ideal := rfl
theorem p8 : @Cert.LastKernelIdeal.Gen.k0_pay8 Ideal _ = @Cert.InKernelIdeal.Gen.k0_pay8 Ideal _ := rfl
theorem p9 : @Cert.LastKernelIdeal.Gen.k0_pay9 Ideal _ = @Cert.InKernelIdeal.Gen.k0_pay9 Ideal _ := rfl
theorem p10 : @Cert.LastKernelIdeal.Gen.k0_pay10 Ideal _ = @Cert.InKernelIdeal.Gen.k0_pay10 Ideal _ := rfl
theorem p11 : @Cert.LastKernelIdeal.Gen.k0_pay11 Ideal _ = @Cert.InKernelIdeal.Gen.k0_pay11 Ideal _ := rfl
theorem p12 : @Cert.LastKernelIdeal.Gen.k0_pay12 Ideal _ = @Cert.InKernelIdeal.Gen.k0_pay12 Ideal _ := rfl
theorem p13 : @Cert.LastKernelIdeal.Gen.k0_pay13 Ideal _ = @Cert.InKernelIdeal.Gen.k0_pay13 Ideal _ := rfl
theorem p14 : @Cert.LastKernelIdeal.Gen.k0_pay14 Ideal = @Cert.InKernelIdeal.Gen.k0_pay14 Ideal := rfl
theorem p15 : @Cert.LastKernelIdeal.Gen.k0_pay15 Ideal _ = @Cert.InKernelIdeal.Gen.k0_pay15 Ideal _ := rfl
theorem p16 : @Cert.LastKernelIdeal.Gen.k0_pay16 Ideal _ = @Cert.InKernelIdeal.Gen.k0_pay16 Ideal _ := rfl
theorem p17 : @Cert.LastKernelIdeal.Gen.k0_pay17 Ideal _ = @Cert.InKernelIdeal.Gen.k0_pay17 Ideal _ := rfl
theorem p18 : @Cert.LastKernelIdeal.Gen.k0_pay18 Ideal _ = @Cert.InKernelIdeal.Gen.k0_pay18 Ideal _ := rfl
theorem p19 : @Cert.LastKernelIdeal.Gen.k0_pay19 Ideal _ = @Cert.InKernelIdeal.Gen.k0_pay19 Ideal _ := rfl
theorem p20 : @Cert.LastKernelIdeal.Gen.k0_pay20 Ideal _ = @Cert.InKernelIdeal.Gen.k0_pay20 Ideal _ := rfl
theorem p21 : @Cert.LastKernelIdeal.Gen.k0_pay21 Ideal _ = @Cert.InKernelIdeal.Gen.k0_pay21 Ideal _ := rfl
theorem p22 : @Cert.LastKernelIdeal.Gen.k0_pay22 Ideal _ = @Cert.InKernelIdeal.Gen.k0_pay22 Ideal _ := rfl
theorem p23 : @Cert.LastKernelIdeal.Gen.k0_pay23 Ideal _ = @Cert.InKernelIdeal.Gen.k0_pay23 Ideal _ := rfl
theorem p24 : @Cert.LastKernelIdeal.Gen.k0_pay24 Ideal _ = @Cert.InKernelIdeal.Gen.k0_pay24 Ideal _ := rfl
theorem p25 : @Cert.LastKernelIdeal.Gen.k0_pay25 Ideal _ = @Cert.InKernelIdeal.Gen.k0_pay25 Ideal _ := rfl

/-- The pieces of the weight as the first point's copy lands them. -/
def wA (fh0 : HbBuf0 (F := Ideal) c hbM0_0) : Vec Ideal S4x1024x768 .bf16 :=
  View.read (Elt Ideal) (((Memref.whole main_v9).slice (Rect.unit ![0, 0, 0, 0] S1x4x1024x768.size inb_S1x4x1024x768_S1x4x1024x768_0_0_0_0) (fun _ => rfl)).squeeze
    S4x1024x768 squeezes_S1x4x1024x768_S4x1024x768).view fh0

theorem out_A_4 (hc0 : cond0_0 i) (hc1 : ¬cond0_1 i) (r : Fin 512) (d : Fin 1024) : (out0_A_4 c i arg1 harg1 arg2 harg2 arg3 harg3 arg4 harg4 arg6 harg6 arg8 harg8 arg9 harg9 arg10 harg10 hc0 hc1 x0 x1 x2 x3 fh0 fw1 (ix2 r d) : EReal) = dx x0 x1 x2 x3 (wA c fh0) r d := by
  unfold out0_A_4
  rw [View.read_writes_eq_canon _ _ _ (cover0_A_4 c i arg1 harg1 arg2 harg2 arg3 harg3 arg4 harg4 arg6 harg6 arg8 harg8 arg9 harg9 arg10 harg10 hc0 hc1 x0 x1 x2 x3 fh0 fw1)]
  unfold kernelRun0_A
  dsimp only
  sl_unfold_words
  rw [View.canon_unit_zero (S := S512x1024) hz2]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, rc_whole, p1, p2, p3, p4, p5, p6, p7, p8, p9, p10, p11, p12, p13, p14, p15, p16, p17, p18, p19, p20, p21, p22, p23, p24, p25]
  refine dx_of x0 x1 x2 x3 (wA c fh0) _ _ _ (fun r d => dh_of x0 (wA c fh0) _ _ _ _ _ _ _ _ r d ?_ ?_ ?_ ?_ ?_ ?_ ?_ ?_) r d <;> intro k <;>
    (pointwise [zz, wA])

theorem sout_A_0 (hc0 : cond0_0 i) (hc1 : ¬cond0_1 i) : sout0_A_0 c i arg1 harg1 arg2 harg2 arg3 harg3 arg4 harg4 arg6 harg6 arg8 harg8 arg9 harg9 arg10 harg10 hc0 hc1 x0 x1 x2 x3 fh0 fw1 = wA c fh0 := by
  unfold sout0_A_0
  rw [View.read_writes_eq_canon _ _ _ (scover0_A_0 c i arg1 harg1 arg2 harg2 arg3 harg3 arg4 harg4 arg6 harg6 arg8 harg8 arg9 harg9 arg10 harg10 hc0 hc1 x0 x1 x2 x3 fh0 fw1)]
  unfold kernelRun0_A
  dsimp only
  sl_unfold_words
  exact View.canon_unit_zero rfl _ _

theorem wA_apply (j : Fin 4) (d : Fin 1024) (k : Fin 768) : wA c fh0 (ix3 j d k) = fh0 (ix4 (0 : Fin 1) j d k) := by
  have h : wA c fh0 = shapeCast S4x1024x768 (s := S1x4x1024x768) fh0 (by decide) :=
    Memref.read_squeeze_full (off := ![0, 0, 0, 0]) (Memref.whole main_v9) _ _ fh0
  rw [h]
  pointwise

theorem out_B_5_0 (hc0 : ¬cond0_0 i) (hc1 : ¬cond0_1 i) (d : Fin 1024) : (out0_B_5 c i arg1 harg1 arg2 harg2 arg3 harg3 arg4 harg4 arg6 harg6 arg8 harg8 arg9 harg9 arg10 harg10 hc0 hc1 x0 x1 x2 x3 xo5 xs0 xs1 fh0 fw1 (ix2 (0 : Fin 8) d) : EReal) = xo5 (ix2 (0 : Fin 8) d) + ∑ r : Fin 512, dh x0 xs0 r d := by
  unfold out0_B_5
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_miss _ _ _ _ _ _ (Or.inl (show (0 : ℕ) < 1 by decide)) d).trans ?_
  refine (row_hit (o := 0) _ _ _ _ _ _ rfl d).trans ?_
  refine row0_of x0 xs0 _ _ _ _ (fun r d => dh_of x0 xs0 _ _ _ _ _ _ _ _ r d ?_ ?_ ?_ ?_ ?_ ?_ ?_ ?_) d _ ?_
  all_goals (try intro k)
  all_goals pointwise [zz]

theorem out_B_5_1 (hc0 : ¬cond0_0 i) (hc1 : ¬cond0_1 i) (d : Fin 1024) : (out0_B_5 c i arg1 harg1 arg2 harg2 arg3 harg3 arg4 harg4 arg6 harg6 arg8 harg8 arg9 harg9 arg10 harg10 hc0 hc1 x0 x1 x2 x3 xo5 xs0 xs1 fh0 fw1 (ix2 (1 : Fin 8) d) : EReal) = xo5 (ix2 (1 : Fin 8) d) + ∑ r : Fin 512, dh x0 xs0 r d * xh x1 r d := by
  unfold out0_B_5
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_hit (o := 1) _ _ _ _ _ _ rfl d).trans ?_
  refine row1_of x0 x1 xs0 _ _ _ _ (fun r d => dh_of x0 xs0 _ _ _ _ _ _ _ _ r d ?_ ?_ ?_ ?_ ?_ ?_ ?_ ?_) d _ ?_
  all_goals (try intro k)
  all_goals pointwise [zz]

theorem out_B_5_r (hc0 : ¬cond0_0 i) (hc1 : ¬cond0_1 i) (q : Fin 8) (hq : 2 ≤ q.val) (d : Fin 1024) : (out0_B_5 c i arg1 harg1 arg2 harg2 arg3 harg3 arg4 harg4 arg6 harg6 arg8 harg8 arg9 harg9 arg10 harg10 hc0 hc1 x0 x1 x2 x3 xo5 xs0 xs1 fh0 fw1 (ix2 q d) : EReal) = xo5 (ix2 q d) := by
  unfold out0_B_5
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_miss _ _ _ _ _ _ (Or.inr hq) d).trans ?_
  refine (row_miss _ _ _ _ _ _ (Or.inr (by omega)) d).trans ?_
  rw [View.writes_nil, harg8.read_unread]

theorem out_C_5_0 (hc0 : ¬cond0_0 i) (hc1 : cond0_1 i) (d : Fin 1024) : (out0_C_5 c i arg1 harg1 arg2 harg2 arg3 harg3 arg4 harg4 arg6 harg6 arg8 harg8 arg9 harg9 arg10 harg10 hc0 hc1 x0 x1 x2 x3 xo5 xs0 xs1 fh0 fw1 (ix2 (0 : Fin 8) d) : EReal) = xo5 (ix2 (0 : Fin 8) d) + ∑ r : Fin 512, dh x0 xs0 r d := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_miss _ _ _ _ _ _ (Or.inl (show (0 : ℕ) < 1 by decide)) d).trans ?_
  refine (row_miss _ _ _ _ _ _ (Or.inl (show (0 : ℕ) < 2 by decide)) d).trans ?_
  refine (row_miss _ _ _ _ _ _ (Or.inl (show (0 : ℕ) < 1 by decide)) d).trans ?_
  refine (row_hit (o := 0) _ _ _ _ _ _ rfl d).trans ?_
  refine row0_of x0 xs0 _ _ _ _ (fun r d => dh_of x0 xs0 _ _ _ _ _ _ _ _ r d ?_ ?_ ?_ ?_ ?_ ?_ ?_ ?_) d _ ?_
  all_goals (try intro k)
  all_goals pointwise [zz]

theorem out_C_5_1 (hc0 : ¬cond0_0 i) (hc1 : cond0_1 i) (d : Fin 1024) : (out0_C_5 c i arg1 harg1 arg2 harg2 arg3 harg3 arg4 harg4 arg6 harg6 arg8 harg8 arg9 harg9 arg10 harg10 hc0 hc1 x0 x1 x2 x3 xo5 xs0 xs1 fh0 fw1 (ix2 (1 : Fin 8) d) : EReal) = (xo5 (ix2 (1 : Fin 8) d) + ∑ r : Fin 512, dh x0 xs0 r d * xh x1 r d) * x3 (ix2 (3 : Fin 8) d) := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_hit (o := 1) _ _ _ _ _ _ rfl d).trans ?_
  rw [pay4_apply]
  refine congrArg₂ (· * ·) (row1_of x0 x1 xs0 _ _ _ _ (fun r d => dh_of x0 xs0 _ _ _ _ _ _ _ _ r d ?_ ?_ ?_ ?_ ?_ ?_ ?_ ?_) d _ ?_) (congrFun (shapeCast_self _ _) _)
  all_goals (try intro k)
  all_goals pointwise [zz]

theorem out_C_5_2 (hc0 : ¬cond0_0 i) (hc1 : cond0_1 i) (d : Fin 1024) : (out0_C_5 c i arg1 harg1 arg2 harg2 arg3 harg3 arg4 harg4 arg6 harg6 arg8 harg8 arg9 harg9 arg10 harg10 hc0 hc1 x0 x1 x2 x3 xo5 xs0 xs1 fh0 fw1 (ix2 (2 : Fin 8) d) : EReal) = (xo5 (ix2 (1 : Fin 8) d) + ∑ r : Fin 512, dh x0 xs0 r d * xh x1 r d) * (cOne + x3 (ix2 (1 : Fin 8) d)) := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_miss _ _ _ _ _ _ (Or.inr (by decide)) d).trans ?_
  refine (row_hit (o := 2) _ _ _ _ _ _ rfl d).trans ?_
  rw [pay3_apply]
  refine congrArg₂ (· * ·) (row1_of x0 x1 xs0 _ _ _ _ (fun r d => dh_of x0 xs0 _ _ _ _ _ _ _ _ r d ?_ ?_ ?_ ?_ ?_ ?_ ?_ ?_) d _ ?_) (pay10_apply x3 d)
  all_goals (try intro k)
  all_goals pointwise [zz]

theorem out_C_5_r (hc0 : ¬cond0_0 i) (hc1 : cond0_1 i) (q : Fin 8) (hq : 3 ≤ q.val) (d : Fin 1024) : (out0_C_5 c i arg1 harg1 arg2 harg2 arg3 harg3 arg4 harg4 arg6 harg6 arg8 harg8 arg9 harg9 arg10 harg10 hc0 hc1 x0 x1 x2 x3 xo5 xs0 xs1 fh0 fw1 (ix2 q d) : EReal) = xo5 (ix2 q d) := by
  unfold out0_C_5
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (row_miss _ _ _ _ _ _ (Or.inr (by omega)) d).trans ?_
  refine (row_miss _ _ _ _ _ _ (Or.inr (by omega)) d).trans ?_
  refine (row_miss _ _ _ _ _ _ (Or.inr (by omega)) d).trans ?_
  refine (row_miss _ _ _ _ _ _ (Or.inr (by omega)) d).trans ?_
  rw [View.writes_nil, harg8.read_unread]

theorem out_A_5_0 (hc0 : cond0_0 i) (hc1 : ¬cond0_1 i) (d : Fin 1024) : (out0_A_5 c i arg1 harg1 arg2 harg2 arg3 harg3 arg4 harg4 arg6 harg6 arg8 harg8 arg9 harg9 arg10 harg10 hc0 hc1 x0 x1 x2 x3 fh0 fw1 (ix2 (0 : Fin 8) d) : EReal) = 0 + ∑ r : Fin 512, dh x0 (wA c fh0) r d := by
  unfold out0_A_5
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, rc_whole, p1, p2, p3, p4, p5, p6, p7, p8, p9, p10, p11, p12, p13, p14, p15, p16, p17, p18, p19, p20, p21, p22, p23, p24, p25]
  refine (row_miss _ _ _ _ _ _ (Or.inl (show (0 : ℕ) < 1 by decide)) d).trans ?_
  refine (row_hit (o := 0) _ _ _ _ _ _ rfl d).trans ?_
  refine row0_of x0 (wA c fh0) _ _ _ _ (fun r d => dh_of x0 (wA c fh0) _ _ _ _ _ _ _ _ r d ?_ ?_ ?_ ?_ ?_ ?_ ?_ ?_) d _ ?_
  all_goals (try intro k)
  case refine_9 => exact pay6_apply _
  all_goals pointwise [zz, wA]

theorem out_A_5_1 (hc0 : cond0_0 i) (hc1 : ¬cond0_1 i) (d : Fin 1024) : (out0_A_5 c i arg1 harg1 arg2 harg2 arg3 harg3 arg4 harg4 arg6 harg6 arg8 harg8 arg9 harg9 arg10 harg10 hc0 hc1 x0 x1 x2 x3 fh0 fw1 (ix2 (1 : Fin 8) d) : EReal) = 0 + ∑ r : Fin 512, dh x0 (wA c fh0) r d * xh x1 r d := by
  unfold out0_A_5
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, rc_whole, p1, p2, p3, p4, p5, p6, p7, p8, p9, p10, p11, p12, p13, p14, p15, p16, p17, p18, p19, p20, p21, p22, p23, p24, p25]
  refine (row_hit (o := 1) _ _ _ _ _ _ rfl d).trans ?_
  refine row1_of x0 x1 (wA c fh0) _ _ _ _ (fun r d => dh_of x0 (wA c fh0) _ _ _ _ _ _ _ _ r d ?_ ?_ ?_ ?_ ?_ ?_ ?_ ?_) d _ ?_
  all_goals (try intro k)
  case refine_9 => exact pay6_apply _
  all_goals pointwise [zz, wA]

theorem out_A_5_r (hc0 : cond0_0 i) (hc1 : ¬cond0_1 i) (q : Fin 8) (hq : 2 ≤ q.val) (d : Fin 1024) : (out0_A_5 c i arg1 harg1 arg2 harg2 arg3 harg3 arg4 harg4 arg6 harg6 arg8 harg8 arg9 harg9 arg10 harg10 hc0 hc1 x0 x1 x2 x3 fh0 fw1 (ix2 q d) : EReal) = 0 := by
  unfold out0_A_5
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, rc_whole, p1, p2, p3, p4, p5, p6, p7, p8, p9, p10, p11, p12, p13, p14, p15, p16, p17, p18, p19, p20, p21, p22, p23, p24, p25]
  refine (row_miss _ _ _ _ _ _ (Or.inr (by omega)) d).trans ?_
  refine (row_miss _ _ _ _ _ _ (Or.inr (by omega)) d).trans ?_
  exact (fill_hit _ _ _ _ _ q d).trans (pay6_apply _)

theorem sout_A_1_0 (hc0 : cond0_0 i) (hc1 : ¬cond0_1 i) (d : Fin 1024) (k : Fin 768) :
    (sout0_A_1 c i arg1 harg1 arg2 harg2 arg3 harg3 arg4 harg4 arg6 harg6 arg8 harg8 arg9 harg9 arg10 harg10 hc0 hc1 x0 x1 x2 x3 fh0 fw1 (ix3 (0 : Fin 4) d k) : EReal) = 0 + ∑ r : Fin 512, hh x1 x3 r d * zz x0 r 0 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · exact pay5_apply _

theorem sout_A_1_1 (hc0 : cond0_0 i) (hc1 : ¬cond0_1 i) (d : Fin 1024) (k : Fin 768) :
    (sout0_A_1 c i arg1 harg1 arg2 harg2 arg3 harg3 arg4 harg4 arg6 harg6 arg8 harg8 arg9 harg9 arg10 harg10 hc0 hc1 x0 x1 x2 x3 fh0 fw1 (ix3 (1 : Fin 4) d k) : EReal) = 0 + ∑ r : Fin 512, hh x1 x3 r d * zz x0 r 1 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · exact pay5_apply _

theorem sout_A_1_2 (hc0 : cond0_0 i) (hc1 : ¬cond0_1 i) (d : Fin 1024) (k : Fin 768) :
    (sout0_A_1 c i arg1 harg1 arg2 harg2 arg3 harg3 arg4 harg4 arg6 harg6 arg8 harg8 arg9 harg9 arg10 harg10 hc0 hc1 x0 x1 x2 x3 fh0 fw1 (ix3 (2 : Fin 4) d k) : EReal) = 0 + ∑ r : Fin 512, hh x1 x3 r d * zz x0 r 2 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · exact pay5_apply _

theorem sout_A_1_3 (hc0 : cond0_0 i) (hc1 : ¬cond0_1 i) (d : Fin 1024) (k : Fin 768) :
    (sout0_A_1 c i arg1 harg1 arg2 harg2 arg3 harg3 arg4 harg4 arg6 harg6 arg8 harg8 arg9 harg9 arg10 harg10 hc0 hc1 x0 x1 x2 x3 fh0 fw1 (ix3 (3 : Fin 4) d k) : EReal) = 0 + ∑ r : Fin 512, hh x1 x3 r d * zz x0 r 3 k := by
  unfold sout0_A_1
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_hit (o := 3) _ _ _ _ _ _ rfl d k).trans ?_
  refine plane_of19 x0 x1 x3 _ _ 3 d k _ (fun r => ?_) ?_
  · pointwise [zz]
  · exact pay5_apply _

theorem sout_B_1_0 (hc0 : ¬cond0_0 i) (hc1 : ¬cond0_1 i) (d : Fin 1024) (k : Fin 768) :
    (sout0_B_1 c i arg1 harg1 arg2 harg2 arg3 harg3 arg4 harg4 arg6 harg6 arg8 harg8 arg9 harg9 arg10 harg10 hc0 hc1 x0 x1 x2 x3 xo5 xs0 xs1 fh0 fw1 (ix3 (0 : Fin 4) d k) : EReal) = xs1 (ix3 (0 : Fin 4) d k) + ∑ r : Fin 512, hh x1 x3 r d * zz x0 r 0 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · pointwise

theorem sout_B_1_1 (hc0 : ¬cond0_0 i) (hc1 : ¬cond0_1 i) (d : Fin 1024) (k : Fin 768) :
    (sout0_B_1 c i arg1 harg1 arg2 harg2 arg3 harg3 arg4 harg4 arg6 harg6 arg8 harg8 arg9 harg9 arg10 harg10 hc0 hc1 x0 x1 x2 x3 xo5 xs0 xs1 fh0 fw1 (ix3 (1 : Fin 4) d k) : EReal) = xs1 (ix3 (1 : Fin 4) d k) + ∑ r : Fin 512, hh x1 x3 r d * zz x0 r 1 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · pointwise

theorem sout_B_1_2 (hc0 : ¬cond0_0 i) (hc1 : ¬cond0_1 i) (d : Fin 1024) (k : Fin 768) :
    (sout0_B_1 c i arg1 harg1 arg2 harg2 arg3 harg3 arg4 harg4 arg6 harg6 arg8 harg8 arg9 harg9 arg10 harg10 hc0 hc1 x0 x1 x2 x3 xo5 xs0 xs1 fh0 fw1 (ix3 (2 : Fin 4) d k) : EReal) = xs1 (ix3 (2 : Fin 4) d k) + ∑ r : Fin 512, hh x1 x3 r d * zz x0 r 2 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · pointwise

theorem sout_B_1_3 (hc0 : ¬cond0_0 i) (hc1 : ¬cond0_1 i) (d : Fin 1024) (k : Fin 768) :
    (sout0_B_1 c i arg1 harg1 arg2 harg2 arg3 harg3 arg4 harg4 arg6 harg6 arg8 harg8 arg9 harg9 arg10 harg10 hc0 hc1 x0 x1 x2 x3 xo5 xs0 xs1 fh0 fw1 (ix3 (3 : Fin 4) d k) : EReal) = xs1 (ix3 (3 : Fin 4) d k) + ∑ r : Fin 512, hh x1 x3 r d * zz x0 r 3 k := by
  unfold sout0_B_1
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_hit (o := 3) _ _ _ _ _ _ rfl d k).trans ?_
  refine plane_of19 x0 x1 x3 _ _ 3 d k _ (fun r => ?_) ?_
  · pointwise [zz]
  · pointwise

theorem sout_C_1_0 (hc0 : ¬cond0_0 i) (hc1 : cond0_1 i) (d : Fin 1024) (k : Fin 768) :
    (sout0_C_1 c i arg1 harg1 arg2 harg2 arg3 harg3 arg4 harg4 arg6 harg6 arg8 harg8 arg9 harg9 arg10 harg10 hc0 hc1 x0 x1 x2 x3 xo5 xs0 xs1 fh0 fw1 (ix3 (0 : Fin 4) d k) : EReal) = xs1 (ix3 (0 : Fin 4) d k) + ∑ r : Fin 512, hh x1 x3 r d * zz x0 r 0 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · pointwise

theorem sout_C_1_1 (hc0 : ¬cond0_0 i) (hc1 : cond0_1 i) (d : Fin 1024) (k : Fin 768) :
    (sout0_C_1 c i arg1 harg1 arg2 harg2 arg3 harg3 arg4 harg4 arg6 harg6 arg8 harg8 arg9 harg9 arg10 harg10 hc0 hc1 x0 x1 x2 x3 xo5 xs0 xs1 fh0 fw1 (ix3 (1 : Fin 4) d k) : EReal) = xs1 (ix3 (1 : Fin 4) d k) + ∑ r : Fin 512, hh x1 x3 r d * zz x0 r 1 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · pointwise

theorem sout_C_1_2 (hc0 : ¬cond0_0 i) (hc1 : cond0_1 i) (d : Fin 1024) (k : Fin 768) :
    (sout0_C_1 c i arg1 harg1 arg2 harg2 arg3 harg3 arg4 harg4 arg6 harg6 arg8 harg8 arg9 harg9 arg10 harg10 hc0 hc1 x0 x1 x2 x3 xo5 xs0 xs1 fh0 fw1 (ix3 (2 : Fin 4) d k) : EReal) = xs1 (ix3 (2 : Fin 4) d k) + ∑ r : Fin 512, hh x1 x3 r d * zz x0 r 2 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · pointwise

theorem sout_C_1_3 (hc0 : ¬cond0_0 i) (hc1 : cond0_1 i) (d : Fin 1024) (k : Fin 768) :
    (sout0_C_1 c i arg1 harg1 arg2 harg2 arg3 harg3 arg4 harg4 arg6 harg6 arg8 harg8 arg9 harg9 arg10 harg10 hc0 hc1 x0 x1 x2 x3 xo5 xs0 xs1 fh0 fw1 (ix3 (3 : Fin 4) d k) : EReal) = xs1 (ix3 (3 : Fin 4) d k) + ∑ r : Fin 512, hh x1 x3 r d * zz x0 r 3 k := by
  unfold sout0_C_1
  unfold kernelRun0_C
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine (plane_hit (o := 3) _ _ _ _ _ _ rfl d k).trans ?_
  refine plane_of19 x0 x1 x3 _ _ 3 d k _ (fun r => ?_) ?_
  · pointwise [zz]
  · pointwise

/-- Where the last point's copy of the accumulated weight gradient lands: the second of the two layers' places. -/
abbrev vW : View sig .tc .hbm S4x1024x768 .f32 :=
  (((Memref.whole main_v10_1).slice (Rect.unit ![1, 0, 0, 0] S1x4x1024x768.size inb_S2x4x1024x768_S1x4x1024x768_1_0_0_0) (fun _ => rfl)).squeeze
    S4x1024x768 squeezes_S1x4x1024x768_S4x1024x768).view

theorem emb4 (j : Fin 4) (d : Fin 1024) (k : Fin 768) : vW.emb (ix3 j d k) = ix4 (1 : Fin 2) j d k := by
  show (Rect.unit (s := S2x4x1024x768) ![1, 0, 0, 0] S1x4x1024x768.size inb_S2x4x1024x768_S1x4x1024x768_1_0_0_0).emb (Shape.reshapeEquiv _ (ix3 j d k)) = _
  rw [re4]
  funext a
  apply Fin.ext
  fin_cases a
  · rfl
  · exact (Nat.zero_add _).trans (Nat.one_mul _)
  · exact (Nat.zero_add _).trans (Nat.one_mul _)
  · exact (Nat.zero_add _).trans (Nat.one_mul _)

theorem hbw_C_1_0 (hc0 : ¬cond0_0 i) (hc1 : cond0_1 i) (d : Fin 1024) (k : Fin 768) :
    (hbw0_C_1 c i arg1 harg1 arg2 harg2 arg3 harg3 arg4 harg4 arg6 harg6 arg8 harg8 arg9 harg9 arg10 harg10 hc0 hc1 x0 x1 x2 x3 xo5 xs0 xs1 fh0 fw1 (ix4 (1 : Fin 2) (0 : Fin 4) d k) : EReal) = xs1 (ix3 (0 : Fin 4) d k) + ∑ r : Fin 512, hh x1 x3 r d * zz x0 r 0 k := by
  unfold hbw0_C_1
  unfold kernelRun0_C
  dsimp only
  sl_unfold_words
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  generalize hW : View.read (Elt Ideal) arg10.view _ = W
  rw [← emb4]
  refine (View.write_emb_of_mem (v := vW) fw1 W (Finset.mem_univ _)).trans ?_
  rw [cast_eq, ← hW]
  refine (plane_miss _ _ _ _ _ _ (Or.inl (by decide)) d k).trans ?_
  refine (plane_miss _ _ _ _ _ _ (Or.inl (by decide)) d k).trans ?_
  refine (plane_miss _ _ _ _ _ _ (Or.inl (by decide)) d k).trans ?_
  refine (plane_hit (o := 0) _ _ _ _ _ _ rfl d k).trans ?_
  refine plane_of14 x0 x1 x3 _ _ 0 d k _ (fun r => ?_) ?_
  · pointwise [zz]
  · pointwise

theorem hbw_C_1_1 (hc0 : ¬cond0_0 i) (hc1 : cond0_1 i) (d : Fin 1024) (k : Fin 768) :
    (hbw0_C_1 c i arg1 harg1 arg2 harg2 arg3 harg3 arg4 harg4 arg6 harg6 arg8 harg8 arg9 harg9 arg10 harg10 hc0 hc1 x0 x1 x2 x3 xo5 xs0 xs1 fh0 fw1 (ix4 (1 : Fin 2) (1 : Fin 4) d k) : EReal) = xs1 (ix3 (1 : Fin 4) d k) + ∑ r : Fin 512, hh x1 x3 r d * zz x0 r 1 k := by
  unfold hbw0_C_1
  unfold kernelRun0_C
  dsimp only
  sl_unfold_words
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  generalize hW : View.read (Elt Ideal) arg10.view _ = W
  rw [← emb4]
  refine (View.write_emb_of_mem (v := vW) fw1 W (Finset.mem_univ _)).trans ?_
  rw [cast_eq, ← hW]
  refine (plane_miss _ _ _ _ _ _ (Or.inl (by decide)) d k).trans ?_
  refine (plane_miss _ _ _ _ _ _ (Or.inl (by decide)) d k).trans ?_
  refine (plane_hit (o := 1) _ _ _ _ _ _ rfl d k).trans ?_
  refine plane_of15 x0 x1 x3 _ _ 1 d k _ (fun r => ?_) ?_
  · pointwise [zz]
  · pointwise

theorem hbw_C_1_2 (hc0 : ¬cond0_0 i) (hc1 : cond0_1 i) (d : Fin 1024) (k : Fin 768) :
    (hbw0_C_1 c i arg1 harg1 arg2 harg2 arg3 harg3 arg4 harg4 arg6 harg6 arg8 harg8 arg9 harg9 arg10 harg10 hc0 hc1 x0 x1 x2 x3 xo5 xs0 xs1 fh0 fw1 (ix4 (1 : Fin 2) (2 : Fin 4) d k) : EReal) = xs1 (ix3 (2 : Fin 4) d k) + ∑ r : Fin 512, hh x1 x3 r d * zz x0 r 2 k := by
  unfold hbw0_C_1
  unfold kernelRun0_C
  dsimp only
  sl_unfold_words
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  generalize hW : View.read (Elt Ideal) arg10.view _ = W
  rw [← emb4]
  refine (View.write_emb_of_mem (v := vW) fw1 W (Finset.mem_univ _)).trans ?_
  rw [cast_eq, ← hW]
  refine (plane_miss _ _ _ _ _ _ (Or.inl (by decide)) d k).trans ?_
  refine (plane_hit (o := 2) _ _ _ _ _ _ rfl d k).trans ?_
  refine plane_of17 x0 x1 x3 _ _ 2 d k _ (fun r => ?_) ?_
  · pointwise [zz]
  · pointwise

theorem hbw_C_1_3 (hc0 : ¬cond0_0 i) (hc1 : cond0_1 i) (d : Fin 1024) (k : Fin 768) :
    (hbw0_C_1 c i arg1 harg1 arg2 harg2 arg3 harg3 arg4 harg4 arg6 harg6 arg8 harg8 arg9 harg9 arg10 harg10 hc0 hc1 x0 x1 x2 x3 xo5 xs0 xs1 fh0 fw1 (ix4 (1 : Fin 2) (3 : Fin 4) d k) : EReal) = xs1 (ix3 (3 : Fin 4) d k) + ∑ r : Fin 512, hh x1 x3 r d * zz x0 r 3 k := by
  unfold hbw0_C_1
  unfold kernelRun0_C
  dsimp only
  sl_unfold_words
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  generalize hW : View.read (Elt Ideal) arg10.view _ = W
  rw [← emb4]
  refine (View.write_emb_of_mem (v := vW) fw1 W (Finset.mem_univ _)).trans ?_
  rw [cast_eq, ← hW]
  refine (plane_hit (o := 3) _ _ _ _ _ _ rfl d k).trans ?_
  refine plane_of19 x0 x1 x3 _ _ 3 d k _ (fun r => ?_) ?_
  · pointwise [zz]
  · pointwise

theorem out_B_4 (hc0 : ¬cond0_0 i) (hc1 : ¬cond0_1 i) (r : Fin 512) (d : Fin 1024) : (out0_B_4 c i arg1 harg1 arg2 harg2 arg3 harg3 arg4 harg4 arg6 harg6 arg8 harg8 arg9 harg9 arg10 harg10 hc0 hc1 x0 x1 x2 x3 xo5 xs0 xs1 fh0 fw1 (ix2 r d) : EReal) = dx x0 x1 x2 x3 xs0 r d := by
  unfold out0_B_4
  rw [View.read_writes_eq_canon _ _ _ (cover0_B_4 c i arg1 harg1 arg2 harg2 arg3 harg3 arg4 harg4 arg6 harg6 arg8 harg8 arg9 harg9 arg10 harg10 hc0 hc1 x0 x1 x2 x3 xo5 xs0 xs1 fh0 fw1)]
  unfold kernelRun0_B
  dsimp only
  sl_unfold_words
  rw [View.canon_unit_zero (S := S512x1024) hz2]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine dx_of x0 x1 x2 x3 xs0 _ _ _ (fun r d => dh_of x0 xs0 _ _ _ _ _ _ _ _ r d ?_ ?_ ?_ ?_ ?_ ?_ ?_ ?_) r d <;> intro k <;>
    pointwise [zz]

theorem out_C_4 (hc0 : ¬cond0_0 i) (hc1 : cond0_1 i) (r : Fin 512) (d : Fin 1024) : (out0_C_4 c i arg1 harg1 arg2 harg2 arg3 harg3 arg4 harg4 arg6 harg6 arg8 harg8 arg9 harg9 arg10 harg10 hc0 hc1 x0 x1 x2 x3 xo5 xs0 xs1 fh0 fw1 (ix2 r d) : EReal) = dx x0 x1 x2 x3 xs0 r d := by
  unfold out0_C_4
  rw [View.read_writes_eq_canon _ _ _ (cover0_C_4 c i arg1 harg1 arg2 harg2 arg3 harg3 arg4 harg4 arg6 harg6 arg8 harg8 arg9 harg9 arg10 harg10 hc0 hc1 x0 x1 x2 x3 xo5 xs0 xs1 fh0 fw1)]
  unfold kernelRun0_C
  dsimp only
  sl_unfold_words
  rw [View.canon_unit_zero (S := S512x1024) hz2]
  simp only [View.readAt_eq_ld, harg1.read_unread, harg2.read_unread, harg3.read_unread, harg4.read_unread, harg8.read_unread, harg9.read_unread, harg10.read_unread, View.ld_unit_zero (S := S512x1024) hz2, View.ld_unit_zero (S := S8x1024) hz2, p1, p2, p3, p4, p5, p6, p7, p8, p9, p10, p11, p12, p13, p14, p15, p16, p17, p18, p19, p20, p21, p22, p23, p24, p25]
  refine dx_of x0 x1 x2 x3 xs0 _ _ _ (fun r d => dh_of x0 xs0 _ _ _ _ _ _ _ _ r d ?_ ?_ ?_ ?_ ?_ ?_ ?_ ?_) r d <;> intro k <;>
    pointwise [zz]

theorem sout_A_1 (hc0 : cond0_0 i) (hc1 : ¬cond0_1 i) (j : Fin 4) (d : Fin 1024) (k : Fin 768) :
    (sout0_A_1 c i arg1 harg1 arg2 harg2 arg3 harg3 arg4 harg4 arg6 harg6 arg8 harg8 arg9 harg9 arg10 harg10 hc0 hc1 x0 x1 x2 x3 fh0 fw1 (ix3 j d k) : EReal) = 0 + ∑ r : Fin 512, hh x1 x3 r d * zz x0 r j k := by
  match j with
  | 0 => exact sout_A_1_0 c i arg1 harg1 arg2 harg2 arg3 harg3 arg4 harg4 arg6 harg6 arg8 harg8 arg9 harg9 arg10 harg10 x0 x1 x2 x3 fh0 fw1 hc0 hc1 d k
  | 1 => exact sout_A_1_1 c i arg1 harg1 arg2 harg2 arg3 harg3 arg4 harg4 arg6 harg6 arg8 harg8 arg9 harg9 arg10 harg10 x0 x1 x2 x3 fh0 fw1 hc0 hc1 d k
  | 2 => exact sout_A_1_2 c i arg1 harg1 arg2 harg2 arg3 harg3 arg4 harg4 arg6 harg6 arg8 harg8 arg9 harg9 arg10 harg10 x0 x1 x2 x3 fh0 fw1 hc0 hc1 d k
  | 3 => exact sout_A_1_3 c i arg1 harg1 arg2 harg2 arg3 harg3 arg4 harg4 arg6 harg6 arg8 harg8 arg9 harg9 arg10 harg10 x0 x1 x2 x3 fh0 fw1 hc0 hc1 d k

theorem sout_B_1 (hc0 : ¬cond0_0 i) (hc1 : ¬cond0_1 i) (j : Fin 4) (d : Fin 1024) (k : Fin 768) :
    (sout0_B_1 c i arg1 harg1 arg2 harg2 arg3 harg3 arg4 harg4 arg6 harg6 arg8 harg8 arg9 harg9 arg10 harg10 hc0 hc1 x0 x1 x2 x3 xo5 xs0 xs1 fh0 fw1 (ix3 j d k) : EReal) = xs1 (ix3 j d k) + ∑ r : Fin 512, hh x1 x3 r d * zz x0 r j k := by
  match j with
  | 0 => exact sout_B_1_0 c i arg1 harg1 arg2 harg2 arg3 harg3 arg4 harg4 arg6 harg6 arg8 harg8 arg9 harg9 arg10 harg10 x0 x1 x2 x3 xo5 xs0 xs1 fh0 fw1 hc0 hc1 d k
  | 1 => exact sout_B_1_1 c i arg1 harg1 arg2 harg2 arg3 harg3 arg4 harg4 arg6 harg6 arg8 harg8 arg9 harg9 arg10 harg10 x0 x1 x2 x3 xo5 xs0 xs1 fh0 fw1 hc0 hc1 d k
  | 2 => exact sout_B_1_2 c i arg1 harg1 arg2 harg2 arg3 harg3 arg4 harg4 arg6 harg6 arg8 harg8 arg9 harg9 arg10 harg10 x0 x1 x2 x3 xo5 xs0 xs1 fh0 fw1 hc0 hc1 d k
  | 3 => exact sout_B_1_3 c i arg1 harg1 arg2 harg2 arg3 harg3 arg4 harg4 arg6 harg6 arg8 harg8 arg9 harg9 arg10 harg10 x0 x1 x2 x3 xo5 xs0 xs1 fh0 fw1 hc0 hc1 d k

theorem sout_C_1 (hc0 : ¬cond0_0 i) (hc1 : cond0_1 i) (j : Fin 4) (d : Fin 1024) (k : Fin 768) :
    (sout0_C_1 c i arg1 harg1 arg2 harg2 arg3 harg3 arg4 harg4 arg6 harg6 arg8 harg8 arg9 harg9 arg10 harg10 hc0 hc1 x0 x1 x2 x3 xo5 xs0 xs1 fh0 fw1 (ix3 j d k) : EReal) = xs1 (ix3 j d k) + ∑ r : Fin 512, hh x1 x3 r d * zz x0 r j k := by
  match j with
  | 0 => exact sout_C_1_0 c i arg1 harg1 arg2 harg2 arg3 harg3 arg4 harg4 arg6 harg6 arg8 harg8 arg9 harg9 arg10 harg10 x0 x1 x2 x3 xo5 xs0 xs1 fh0 fw1 hc0 hc1 d k
  | 1 => exact sout_C_1_1 c i arg1 harg1 arg2 harg2 arg3 harg3 arg4 harg4 arg6 harg6 arg8 harg8 arg9 harg9 arg10 harg10 x0 x1 x2 x3 xo5 xs0 xs1 fh0 fw1 hc0 hc1 d k
  | 2 => exact sout_C_1_2 c i arg1 harg1 arg2 harg2 arg3 harg3 arg4 harg4 arg6 harg6 arg8 harg8 arg9 harg9 arg10 harg10 x0 x1 x2 x3 xo5 xs0 xs1 fh0 fw1 hc0 hc1 d k
  | 3 => exact sout_C_1_3 c i arg1 harg1 arg2 harg2 arg3 harg3 arg4 harg4 arg6 harg6 arg8 harg8 arg9 harg9 arg10 harg10 x0 x1 x2 x3 xo5 xs0 xs1 fh0 fw1 hc0 hc1 d k

theorem hbw_C_1 (hc0 : ¬cond0_0 i) (hc1 : cond0_1 i) (j : Fin 4) (d : Fin 1024) (k : Fin 768) :
    (hbw0_C_1 c i arg1 harg1 arg2 harg2 arg3 harg3 arg4 harg4 arg6 harg6 arg8 harg8 arg9 harg9 arg10 harg10 hc0 hc1 x0 x1 x2 x3 xo5 xs0 xs1 fh0 fw1 (ix4 (1 : Fin 2) j d k) : EReal) = xs1 (ix3 j d k) + ∑ r : Fin 512, hh x1 x3 r d * zz x0 r j k := by
  match j with
  | 0 => exact hbw_C_1_0 c i arg1 harg1 arg2 harg2 arg3 harg3 arg4 harg4 arg6 harg6 arg8 harg8 arg9 harg9 arg10 harg10 x0 x1 x2 x3 xo5 xs0 xs1 fh0 fw1 hc0 hc1 d k
  | 1 => exact hbw_C_1_1 c i arg1 harg1 arg2 harg2 arg3 harg3 arg4 harg4 arg6 harg6 arg8 harg8 arg9 harg9 arg10 harg10 x0 x1 x2 x3 xo5 xs0 xs1 fh0 fw1 hc0 hc1 d k
  | 2 => exact hbw_C_1_2 c i arg1 harg1 arg2 harg2 arg3 harg3 arg4 harg4 arg6 harg6 arg8 harg8 arg9 harg9 arg10 harg10 x0 x1 x2 x3 xo5 xs0 xs1 fh0 fw1 hc0 hc1 d k
  | 3 => exact hbw_C_1_3 c i arg1 harg1 arg2 harg2 arg3 harg3 arg4 harg4 arg6 harg6 arg8 harg8 arg9 harg9 arg10 harg10 x0 x1 x2 x3 xo5 xs0 xs1 fh0 fw1 hc0 hc1 d k

end Cert.LastRead
-- ==== Proof.LastOuts.lean ====
module

public import proofs.«01_k».proof.Proof.LastRead

/-! What each point of the grid leaves in the windows, the two scratches and the held result: the weight's pieces in the
first scratch, the running sums of the weight gradient in the second, the running sums of the small gradients in the last
window. -/

@[expose] public section

set_option maxRecDepth 16384

noncomputable section

namespace Cert.LastOuts

open Cert.LastKernelIdeal Cert.LastKernelIdeal.Gen Cert.InPay Cert.LastRead
open Cert.InRead (zz dh rs xh gain hh dx)
open Idealize.ShloMosaic Idealize.ShloMosaic.TcCoe Idealize.SL.Sem

variable (m : (ℓ : Loc nD τ sig) → Buf (Elt Ideal) ℓ) (c : Dev nD)

/-- The weight's pieces. -/
def wW : Vec Ideal S4x1024x768 .bf16 := wA c (V m c main_v9)

/-- One block's part of the weight's gradient. -/
def gW (t : Fin cfg0.N) (j : Fin 4) (d : Fin 1024) (k : Fin 768) : EReal :=
  ∑ r : Fin 512, hh (iblk m c 1 t) (iblk m c 3 t) r d * zz (iblk m c 0 t) r j k

/-- One block's part of the shift's gradient. -/
def gS (t : Fin cfg0.N) (d : Fin 1024) : EReal := ∑ r : Fin 512, dh (iblk m c 0 t) (wW m c) r d

/-- One block's part of the sum of the gradient against the normalised rows. -/
def gN (t : Fin cfg0.N) (d : Fin 1024) : EReal := ∑ r : Fin 512, dh (iblk m c 0 t) (wW m c) r d * xh (iblk m c 1 t) r d

/-- A family over the points as a function of the point's number. -/
def ext (f : Fin cfg0.N → EReal) (n : ℕ) : EReal := if h : n < cfg0.N then f ⟨n, h⟩ else 0

theorem ext_eq (f : Fin cfg0.N → EReal) (n : ℕ) (h : n < cfg0.N) : ext f n = f ⟨n, h⟩ := dif_pos h

/-- The sum of a family up to a point. -/
def upto (f : Fin cfg0.N → EReal) (n : ℕ) : EReal := ∑ i ∈ Finset.range (n + 1), ext f i

theorem upto_zero (f : Fin cfg0.N → EReal) (h : 0 < cfg0.N) : upto f 0 = 0 + f ⟨0, h⟩ := by
  rw [upto, Finset.sum_range_one, ext_eq f 0 h, zero_add]

theorem upto_succ (f : Fin cfg0.N → EReal) (n : ℕ) (h : n + 1 < cfg0.N) : upto f (n + 1) = upto f n + f ⟨n + 1, h⟩ := by
  rw [upto, Finset.sum_range_succ, ext_eq f (n + 1) h, upto]

theorem upto_last (f : Fin cfg0.N → EReal) : upto f 31 = ∑ t : Fin cfg0.N, f t := by
  have h : ∑ t : Fin cfg0.N, f t = ∑ i ∈ Finset.range cfg0.N, ext f i := by
    rw [Finset.sum_range]
    exact Finset.sum_congr rfl fun t _ => (ext_eq f t.val t.isLt).symm
  rw [h, upto, show cfg0.N = 31 + 1 from N_0]

/-- What holds after every point but the last. -/
structure Inv (n : ℕ) (hn : n < cfg0.N) : Prop where
  w : (outsAt0 m c n hn).2.2.1 = wW m c
  acc : ∀ (j : Fin 4) (d : Fin 1024) (k : Fin 768), ((outsAt0 m c n hn).2.2.2.1 (ix3 j d k) : EReal) = upto (fun t => gW m c t j d k) n
  s0 : ∀ d : Fin 1024, ((outsAt0 m c n hn).2.1 (ix2 (0 : Fin 8) d) : EReal) = upto (fun t => gS m c t d) n
  s1 : ∀ d : Fin 1024, ((outsAt0 m c n hn).2.1 (ix2 (1 : Fin 8) d) : EReal) = upto (fun t => gN m c t d) n
  sr : ∀ (q : Fin 8) (_ : 2 ≤ q.val) (d : Fin 1024), ((outsAt0 m c n hn).2.1 (ix2 q d) : EReal) = 0

theorem inv_zero (hn : 0 < cfg0.N) : Inv m c 0 hn := by
  have e := outsAt0_A m c ⟨0, hn⟩ (by dsimp only) (by dsimp only; omega)
  change outsAt0 m c 0 hn = _ at e
  refine ⟨?_, fun j d k => ?_, fun d => ?_, fun d => ?_, fun q hq d => ?_⟩ <;> rw [e] <;> dsimp only
  · exact sout_A_0 _ _ _ _ _ _ _ _ _ _ _ _ _ _ _ _ _ _ _ _ _ _ _ _ _ _
  · rw [upto_zero _ hn]
    exact sout_A_1 _ _ _ _ _ _ _ _ _ _ _ _ _ _ _ _ _ _ _ _ _ _ _ _ _ _ j d k
  · rw [upto_zero _ hn]
    exact out_A_5_0 _ _ _ _ _ _ _ _ _ _ _ _ _ _ _ _ _ _ _ _ _ _ _ _ _ _ d
  · rw [upto_zero _ hn]
    exact out_A_5_1 _ _ _ _ _ _ _ _ _ _ _ _ _ _ _ _ _ _ _ _ _ _ _ _ _ _ d
  · exact out_A_5_r _ _ _ _ _ _ _ _ _ _ _ _ _ _ _ _ _ _ _ _ _ _ _ _ _ _ q hq d

theorem inv_succ (n : ℕ) (hn : n + 1 < cfg0.N) (hl : n + 1 < 31) (ih : Inv m c n (Nat.lt_of_succ_lt hn)) : Inv m c (n + 1) hn := by
  have e := outsAt0_B m c ⟨n + 1, hn⟩ (by dsimp only; omega) (by dsimp only; omega)
  change outsAt0 m c (n + 1) hn = _ at e
  refine ⟨?_, fun j d k => ?_, fun d => ?_, fun d => ?_, fun q hq d => ?_⟩ <;> rw [e] <;> dsimp only
  · exact ih.w
  · rw [upto_succ _ n hn]
    refine (sout_B_1 _ _ _ _ _ _ _ _ _ _ _ _ _ _ _ _ _ _ _ _ _ _ _ _ _ _ _ _ _ j d k).trans (congrArg₂ (· + ·) (ih.acc j d k) ?_)
    rfl
  · rw [upto_succ _ n hn]
    refine (out_B_5_0 _ _ _ _ _ _ _ _ _ _ _ _ _ _ _ _ _ _ _ _ _ _ _ _ _ _ _ _ _ d).trans (congrArg₂ (· + ·) (ih.s0 d) ?_)
    rw [show (outsAt0 m c ((⟨n + 1, hn⟩ : Fin cfg0.N).val - 1) (Nat.lt_of_le_of_lt (Nat.sub_le _ _) hn)).2.2.1 = wW m c from ih.w]
    rfl
  · rw [upto_succ _ n hn]
    refine (out_B_5_1 _ _ _ _ _ _ _ _ _ _ _ _ _ _ _ _ _ _ _ _ _ _ _ _ _ _ _ _ _ d).trans (congrArg₂ (· + ·) (ih.s1 d) ?_)
    rw [show (outsAt0 m c ((⟨n + 1, hn⟩ : Fin cfg0.N).val - 1) (Nat.lt_of_le_of_lt (Nat.sub_le _ _) hn)).2.2.1 = wW m c from ih.w]
    rfl
  · exact (out_B_5_r _ _ _ _ _ _ _ _ _ _ _ _ _ _ _ _ _ _ _ _ _ _ _ _ _ _ _ _ _ q hq d).trans (ih.sr q hq d)

theorem inv (n : ℕ) (hn : n < cfg0.N) (hl : n < 31) : Inv m c n hn := by
  induction n with
  | zero => exact inv_zero m c hn
  | succ n ih => exact inv_succ m c n hn hl (ih (Nat.lt_of_succ_lt hn) (Nat.lt_of_succ_lt hl))

/-- The block of the input's gradient a point leaves. -/
theorem dx_at (t : Fin cfg0.N) (r : Fin 512) (d : Fin 1024) :
    ((outsAt0 m c t.val t.isLt).1 (ix2 r d) : EReal) = dx (iblk m c 0 t) (iblk m c 1 t) (iblk m c 2 t) (iblk m c 3 t) (wW m c) r d := by
  have hN : t.val < 32 := lt_of_lt_of_eq t.isLt N_0
  by_cases h0 : t.val % 32 = 0
  · rw [outsAt0_A m c t h0 (by omega)]
    dsimp only
    exact out_A_4 _ _ _ _ _ _ _ _ _ _ _ _ _ _ _ _ _ _ _ _ _ _ _ _ _ _ r d
  · have hw : (outsAt0 m c (t.val - 1) (Nat.lt_of_le_of_lt (Nat.sub_le _ _) t.isLt)).2.2.1 = wW m c :=
      (inv m c (t.val - 1) _ (by omega)).w
    by_cases h1 : t.val % 32 = 31
    · rw [outsAt0_C m c t h0 h1]
      dsimp only
      refine (out_C_4 _ _ _ _ _ _ _ _ _ _ _ _ _ _ _ _ _ _ _ _ _ _ _ _ _ _ _ _ _ r d).trans ?_
      rw [hw]
    · rw [outsAt0_B m c t h0 h1]
      dsimp only
      refine (out_B_4 _ _ _ _ _ _ _ _ _ _ _ _ _ _ _ _ _ _ _ _ _ _ _ _ _ _ _ _ _ r d).trans ?_
      rw [hw]

theorem lt31 : 31 < cfg0.N := lt_of_lt_of_eq (show 31 < 32 by decide) N_0.symm

theorem last_inv : Inv m c 30 (Nat.lt_of_succ_lt lt31) := inv m c 30 _ (by decide)

/-- The held result after the last point: the weight's gradient in the second layer's place. -/
theorem held_last (j : Fin 4) (d : Fin 1024) (k : Fin 768) :
    ((outsAt0 m c 31 lt31).2.2.2.2 (ix4 (1 : Fin 2) j d k) : EReal) = ∑ t : Fin cfg0.N, gW m c t j d k := by
  have e := outsAt0_C m c ⟨31, lt31⟩ (by dsimp only; omega) (by dsimp only)
  change outsAt0 m c 31 lt31 = _ at e
  rw [e, ← upto_last, upto_succ _ 30 lt31]
  dsimp only
  exact (hbw_C_1 _ _ _ _ _ _ _ _ _ _ _ _ _ _ _ _ _ _ _ _ _ _ _ _ _ _ _ _ _ j d k).trans (congrArg₂ (· + ·) ((last_inv m c).acc j d k) rfl)

theorem sums0_last (d : Fin 1024) : ((outsAt0 m c 31 lt31).2.1 (ix2 (0 : Fin 8) d) : EReal) = ∑ t : Fin cfg0.N, gS m c t d := by
  have e := outsAt0_C m c ⟨31, lt31⟩ (by dsimp only; omega) (by dsimp only)
  change outsAt0 m c 31 lt31 = _ at e
  rw [e, ← upto_last, upto_succ _ 30 lt31]
  dsimp only
  refine (out_C_5_0 _ _ _ _ _ _ _ _ _ _ _ _ _ _ _ _ _ _ _ _ _ _ _ _ _ _ _ _ _ d).trans (congrArg₂ (· + ·) ((last_inv m c).s0 d) ?_)
  rw [show (outsAt0 m c ((⟨31, lt31⟩ : Fin cfg0.N).val - 1) (Nat.lt_of_le_of_lt (Nat.sub_le _ _) lt31)).2.2.1 = wW m c from (last_inv m c).w]
  rfl

theorem sums1_last (d : Fin 1024) : ((outsAt0 m c 31 lt31).2.1 (ix2 (1 : Fin 8) d) : EReal) = (∑ t : Fin cfg0.N, gN m c t d) * iblk m c 3 ⟨31, lt31⟩ (ix2 (3 : Fin 8) d) := by
  have e := outsAt0_C m c ⟨31, lt31⟩ (by dsimp only; omega) (by dsimp only)
  change outsAt0 m c 31 lt31 = _ at e
  rw [e, ← upto_last, upto_succ _ 30 lt31]
  dsimp only
  refine (out_C_5_1 _ _ _ _ _ _ _ _ _ _ _ _ _ _ _ _ _ _ _ _ _ _ _ _ _ _ _ _ _ d).trans (congrArg₂ (· * ·) (congrArg₂ (· + ·) ((last_inv m c).s1 d) ?_) rfl)
  rw [show (outsAt0 m c ((⟨31, lt31⟩ : Fin cfg0.N).val - 1) (Nat.lt_of_le_of_lt (Nat.sub_le _ _) lt31)).2.2.1 = wW m c from (last_inv m c).w]
  rfl

theorem sums2_last (d : Fin 1024) : ((outsAt0 m c 31 lt31).2.1 (ix2 (2 : Fin 8) d) : EReal) = (∑ t : Fin cfg0.N, gN m c t d) * (cOne + iblk m c 3 ⟨31, lt31⟩ (ix2 (1 : Fin 8) d)) := by
  have e := outsAt0_C m c ⟨31, lt31⟩ (by dsimp only; omega) (by dsimp only)
  change outsAt0 m c 31 lt31 = _ at e
  rw [e, ← upto_last, upto_succ _ 30 lt31]
  dsimp only
  refine (out_C_5_2 _ _ _ _ _ _ _ _ _ _ _ _ _ _ _ _ _ _ _ _ _ _ _ _ _ _ _ _ _ d).trans (congrArg₂ (· * ·) (congrArg₂ (· + ·) ((last_inv m c).s1 d) ?_) rfl)
  rw [show (outsAt0 m c ((⟨31, lt31⟩ : Fin cfg0.N).val - 1) (Nat.lt_of_le_of_lt (Nat.sub_le _ _) lt31)).2.2.1 = wW m c from (last_inv m c).w]
  rfl

theorem sumsr_last (q : Fin 8) (hq : 3 ≤ q.val) (d : Fin 1024) : ((outsAt0 m c 31 lt31).2.1 (ix2 q d) : EReal) = 0 := by
  have e := outsAt0_C m c ⟨31, lt31⟩ (by dsimp only; omega) (by dsimp only)
  change outsAt0 m c 31 lt31 = _ at e
  rw [e]
  dsimp only
  exact (out_C_5_r _ _ _ _ _ _ _ _ _ _ _ _ _ _ _ _ _ _ _ _ _ _ _ _ _ _ _ _ _ q hq d).trans ((last_inv m c).sr q (by omega) d)

end Cert.LastOuts
-- ==== Proof.LastIn.lean ====
module

public import proofs.«01_k».proof.Proof.LastOuts
public import Idealize.ShloMosaic.Lib.Pipeline.ValueKit
public import Idealize.ShloMosaic.Lib.Pointwise

/-! The blocks the points read, entry by entry of the arguments: token `512 t + r` of the arrays cut by tokens, the small
vectors' rows, and the weight's four pieces. -/

@[expose] public section

set_option maxRecDepth 16384

noncomputable section

namespace Cert.LastIn

open Cert.LastKernelIdeal Cert.LastKernelIdeal.Gen Cert.InPay Cert.LastRead Cert.LastOuts
open Idealize.ShloMosaic Idealize.ShloMosaic.TcCoe Idealize.SL.Sem Idealize.ShloMosaic.StableHlo

variable (m : (ℓ : Loc nD τ sig) → Buf (Elt Ideal) ℓ) (c : Dev nD)

/-- The token of row `r` of block `t`. -/
def tok (t : Fin cfg0.N) (r : Fin 512) : Fin 16384 := ⟨t.val * 512 + r.val, by have := lt_of_lt_of_eq t.isLt N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])

theorem V_arg0 : V m c main_arg0 = m ((c : Thread nD τ).loc main_arg0) := by
  unfold V
  simp only [List.flatten_cons, List.flatten_nil, List.cons_append, List.nil_append, TRef.binary, TRef.unary, TRef.toBuf, TRef.ofBuf, cast_eq]
  after_results_simp

theorem V_arg1 : V m c main_arg1 = m ((c : Thread nD τ).loc main_arg1) := by
  unfold V
  simp only [List.flatten_cons, List.flatten_nil, List.cons_append, List.nil_append, TRef.binary, TRef.unary, TRef.toBuf, TRef.ofBuf, cast_eq]
  after_results_simp

theorem V_arg2 : V m c main_arg2 = m ((c : Thread nD τ).loc main_arg2) := by
  unfold V
  simp only [List.flatten_cons, List.flatten_nil, List.cons_append, List.nil_append, TRef.binary, TRef.unary, TRef.toBuf, TRef.ofBuf, cast_eq]
  after_results_simp

theorem V_w (j : Fin 4) (d : Fin 1024) (k : Fin 768) :
    (V m c main_v9 (ix4 (0 : Fin 1) j d k) : EReal) = m ((c : Thread nD τ).loc main_arg7) (ix2 d (⟨768 * j.val + k.val, by omega⟩ : Fin 3072)) := by
  have e : V m c main_v9 = broadcastInDim S1x4x1024x768 ![1, 2, 3] bcast_S4x1024x768_S1x4x1024x768_1_2_3 (truncf (F := Ideal) .bf16 (transpose S4x1024x768 [1, 0, 2] (shapeCast S1024x4x768 (m ((c : Thread nD τ).loc main_arg7)) shapeCasts_S1024x3072_S1024x4x768) transposes_S1024x4x768_S4x1024x768_1_0_2) bitsLt_bf16_f32) := by
    unfold V
    simp only [List.flatten_cons, List.flatten_nil, List.cons_append, List.nil_append, TRef.binary, TRef.unary, TRef.toBuf, TRef.ofBuf, cast_eq]
    after_results_simp <;> rfl
  rw [e]
  pointwise
  exact congrArg (fun q : Fin 3072 => m ((c : Thread nD τ).loc main_arg7) (ix2 d q)) (Fin.ext (by dsimp only; omega))

theorem V_vecs : V m c main_v5 = pad S8x1024 ![0, 0] ![4, 0] ![0, 0] (concatenate S4x1024 0
    [⟨S1x1024, broadcastInDim S1x1024 ![1] bcast_S1024_S1x1024_1 (m ((c : Thread nD τ).loc main_arg4))⟩,
     ⟨S1x1024, broadcastInDim S1x1024 ![1] bcast_S1024_S1x1024_1 (m ((c : Thread nD τ).loc main_arg5))⟩,
     ⟨S1x1024, broadcastInDim S1x1024 ![1] bcast_S1024_S1x1024_1 (m ((c : Thread nD τ).loc main_arg6))⟩,
     ⟨S1x1024, broadcastInDim S1x1024 ![1] bcast_S1024_S1x1024_1 (m ((c : Thread nD τ).loc main_arg3))⟩] concatenates_S1x1024_S1x1024_S1x1024_S1x1024_S4x1024_d0) (sitofp (F := Ideal) .f32 (constantI S_ 32 0#32)) pads_S4x1024_S8x1024_040_000 h_S_ := by
  unfold V
  simp only [List.flatten_cons, List.flatten_nil, List.cons_append, List.nil_append, TRef.binary, TRef.unary, TRef.toBuf, TRef.ofBuf, cast_eq]
  after_results_simp <;> (try dsimp only [Matrix.cons_val]) <;> (try after_results_simp) <;> rfl

theorem iblk0_at (t : Fin cfg0.N) (r : Fin 512) (k : Fin 3072) :
    iblk m c 0 t (ix2 r k) = m ((c : Thread nD τ).loc main_arg0) (ix2 (tok t r) k) := by
  rw [← V_arg0 m c]
  blk_ext! [iblk, index0, tok]

theorem iblk1_at (t : Fin cfg0.N) (r : Fin 512) (d : Fin 1024) :
    iblk m c 1 t (ix2 r d) = m ((c : Thread nD τ).loc main_arg1) (ix2 (tok t r) d) := by
  rw [← V_arg1 m c]
  blk_ext! [iblk, index1, tok]

theorem iblk2_at (t : Fin cfg0.N) (r : Fin 512) (d : Fin 1024) :
    iblk m c 2 t (ix2 r d) = m ((c : Thread nD τ).loc main_arg2) (ix2 (tok t r) d) := by
  rw [← V_arg2 m c]
  blk_ext! [iblk, index2, tok]

theorem iblk3_at (t : Fin cfg0.N) (q : Fin 8) (d : Fin 1024) :
    iblk m c 3 t (ix2 q d) = V m c main_v5 (ix2 q d) := by
  blk_ext! [iblk, index3]

end Cert.LastIn
-- ==== Proof.LastTok.lean ====
module

public import proofs.«01_k».proof.Proof.LastIn
public import proofs.«01_k».proof.Proof.InSpec

/-! The kernel's three results by tokens. -/

@[expose] public section

set_option maxRecDepth 16384

noncomputable section

namespace Cert.LastTok

open Cert.LastKernelIdeal Cert.LastKernelIdeal.Gen Cert.InPay Cert.LastRead Cert.LastOuts Cert.InSpec
open Cert.InRead (zz dh rs xh gain hh dx)
open Idealize.ShloMosaic Idealize.ShloMosaic.TcCoe Idealize.SL.Sem
open Cert.LastIn (tok)

variable (m : (ℓ : Loc nD τ sig) → Buf (Elt Ideal) ℓ) (c : Dev nD)

def az (n : Fin 16384) (k : Fin 3072) : EReal := m ((c : Thread nD τ).loc main_arg0) (ix2 n k)
def ax (n : Fin 16384) (d : Fin 1024) : EReal := m ((c : Thread nD τ).loc main_arg1) (ix2 n d)
def ao (n : Fin 16384) (d : Fin 1024) : EReal := m ((c : Thread nD τ).loc main_arg2) (ix2 n d)
def ag (d : Fin 1024) : EReal := m ((c : Thread nD τ).loc main_arg3) (ix1 d)
def ab (d : Fin 1024) : EReal := m ((c : Thread nD τ).loc main_arg4) (ix1 d)
def as' (d : Fin 1024) : EReal := m ((c : Thread nD τ).loc main_arg5) (ix1 d)
def aw (d : Fin 1024) (k : Fin 3072) : EReal := m ((c : Thread nD τ).loc main_arg7) (ix2 d k)

theorem vec0 (t : Fin cfg0.N) (d : Fin 1024) : (iblk m c 3 t (ix2 (0 : Fin 8) d) : EReal) = ab m c d := by
  rw [Cert.LastIn.iblk3_at, Cert.LastIn.V_vecs]
  pointwise
  rfl

theorem vec1 (t : Fin cfg0.N) (d : Fin 1024) : (iblk m c 3 t (ix2 (1 : Fin 8) d) : EReal) = as' m c d := by
  rw [Cert.LastIn.iblk3_at, Cert.LastIn.V_vecs]
  pointwise
  rfl

theorem vec3 (t : Fin cfg0.N) (d : Fin 1024) : (iblk m c 3 t (ix2 (3 : Fin 8) d) : EReal) = ag m c d := by
  rw [Cert.LastIn.iblk3_at, Cert.LastIn.V_vecs]
  pointwise
  rfl

theorem w_at (j : Fin 4) (d : Fin 1024) (k : Fin 768) : (wW m c (ix3 j d k) : EReal) = aw m c d (col j k) := by
  unfold wW
  exact (wA_apply c _ j d k).trans (Cert.LastIn.V_w m c j d k)

theorem zz_at (t : Fin cfg0.N) (r : Fin 512) (j : Fin 4) (k : Fin 768) : zz (iblk m c 0 t) r j k = az m c (tok t r) (col j k) := by
  unfold zz
  exact Cert.LastIn.iblk0_at m c t r (col j k)

theorem dh_at (t : Fin cfg0.N) (r : Fin 512) (d : Fin 1024) : dh (iblk m c 0 t) (wW m c) r d = DH (az m c) (aw m c) (tok t r) d := by
  unfold dh DH
  rw [sum_col]
  simp only [zz_at, w_at]

theorem rs_at (t : Fin cfg0.N) (r : Fin 512) : rs (iblk m c 1 t) r = rr (ax m c (tok t r)) := by
  unfold rs
  exact congrArg rr (funext fun d => Cert.LastIn.iblk1_at m c t r d)

theorem xh_at (t : Fin cfg0.N) (r : Fin 512) (d : Fin 1024) : xh (iblk m c 1 t) r d = XH (ax m c) (tok t r) d := by
  unfold xh XH
  rw [rs_at, Cert.LastIn.iblk1_at]
  rfl

theorem hh_at (t : Fin cfg0.N) (r : Fin 512) (d : Fin 1024) :
    hh (iblk m c 1 t) (iblk m c 3 t) r d = HH (ax m c) (ag m c) (ab m c) (as' m c) (tok t r) d := by
  unfold hh HH
  rw [xh_at, vec0, vec1, vec3]

theorem dx_tok (t : Fin cfg0.N) (r : Fin 512) (d : Fin 1024) :
    dx (iblk m c 0 t) (iblk m c 1 t) (iblk m c 2 t) (iblk m c 3 t) (wW m c) r d
      = DX (az m c) (ax m c) (ao m c) (ag m c) (as' m c) (aw m c) (tok t r) d := by
  unfold dx DX gain
  simp only [xh_at, vec1, vec3, dh_at, rs_at, Cert.LastIn.iblk2_at]
  rfl

/-- A sum over the points and the rows of a block is one over the tokens. -/
theorem sum_tok (f : Fin 16384 → EReal) : ∑ t : Fin cfg0.N, ∑ r : Fin 512, f (tok t r) = ∑ n : Fin 16384, f n := by
  have h : ∀ N : ℕ, N = 32 → ∀ F : (t : Fin N) → Fin 512 → Fin 16384, (∀ t r, (F t r).val = t.val * 512 + r.val) →
      ∑ t : Fin N, ∑ r : Fin 512, f (F t r) = ∑ n : Fin 16384, f n := by
    intro N hN F hF
    subst hN
    rw [Fin.sum_univ_tiles 32 512 (by decide) f]
    exact Finset.sum_congr rfl fun t _ => Finset.sum_congr rfl fun r _ => congrArg f (Fin.ext (hF t r))
  exact h _ N_0 tok fun _ _ => rfl

theorem gw_tok (j : Fin 4) (d : Fin 1024) (k : Fin 768) :
    ∑ t : Fin cfg0.N, gW m c t j d k = GW (az m c) (ax m c) (ag m c) (ab m c) (as' m c) j d k := by
  unfold gW GW
  simp only [hh_at, zz_at]
  exact sum_tok fun n => HH (ax m c) (ag m c) (ab m c) (as' m c) n d * az m c n (col j k)

theorem ss_tok (d : Fin 1024) : ∑ t : Fin cfg0.N, gS m c t d = SS (az m c) (aw m c) d := by
  unfold gS SS
  simp only [dh_at]
  exact sum_tok fun n => DH (az m c) (aw m c) n d

theorem sn_tok (d : Fin 1024) : ∑ t : Fin cfg0.N, gN m c t d = SN (az m c) (ax m c) (aw m c) d := by
  unfold gN SN
  simp only [dh_at, xh_at]
  exact sum_tok fun n => DH (az m c) (aw m c) n d * XH (ax m c) n d

/-- The input's gradient, as an array. -/
def arrX : S16384x1024.Idx → EReal := fun i => DX (az m c) (ax m c) (ao m c) (ag m c) (as' m c) (aw m c) (i 0) (i 1)

/-- The small gradients, as an array. -/
def arrS : S8x1024.Idx → EReal := fun i =>
  if (i 0).val = 0 then SS (az m c) (aw m c) (i 1)
  else if (i 0).val = 1 then SN (az m c) (ax m c) (aw m c) (i 1) * ag m c (i 1)
  else if (i 0).val = 2 then SN (az m c) (ax m c) (aw m c) (i 1) * (cOne + as' m c (i 1)) else 0

/-- The weight's gradient in the second layer's place, as an array; the first place is not of this call. -/
def arrW : S2x4x1024x768.Idx → EReal := fun i =>
  if (i 0).val = 0 then 0 else GW (az m c) (ax m c) (ag m c) (ab m c) (as' m c) (i 1) (i 2) (i 3)

theorem emb_x (t : Fin cfg0.N) (r : Fin 512) (d : Fin 1024) : ((cfg0.win 4).blk t).view.emb (ix2 r d) = ix2 (tok t r) d := by
  blk_ext! [Cert.LastIn.index4, tok]

theorem final_x : (dats m 0 c).arrAt 4 cfg0.N = arrX m c := by
  refine (dats m 0 c).arrAt_eq_of_covers 4 _ (by decide +kernel) fun t hf y => ?_
  rw [after0_4]
  obtain ⟨r, d, rfl⟩ : ∃ (r : Fin 512) (d : Fin 1024), y = ix2 r d := ⟨y 0, y 1, by funext a; fin_cases a <;> rfl⟩
  rw [emb_x]
  exact (dx_at m c t r d).trans (dx_tok m c t r d)

theorem final_s : (dats m 0 c).arrAt 5 cfg0.N = arrS m c := by
  refine (dats m 0 c).arrAt_eq_of_after_last 5 ⟨31, lt31⟩ (by decide +kernel) _ fun y => ?_
  rw [after0_5]
  obtain ⟨q, d, rfl⟩ : ∃ (q : Fin 8) (d : Fin 1024), y = ix2 q d := ⟨y 0, y 1, by funext a; fin_cases a <;> rfl⟩
  show ((outsAt0 m c 31 lt31).2.1 (ix2 q d) : EReal) = arrS m c (ix2 q d)
  unfold arrS
  by_cases h0 : q.val = 0
  · obtain rfl : q = 0 := Fin.ext h0
    exact (sums0_last m c d).trans (ss_tok m c d)
  by_cases h1 : q.val = 1
  · obtain rfl : q = 1 := Fin.ext h1
    refine (sums1_last m c d).trans ?_
    rw [sn_tok, vec3]
    rfl
  by_cases h2 : q.val = 2
  · obtain rfl : q = 2 := Fin.ext h2
    refine (sums2_last m c d).trans ?_
    rw [sn_tok, vec1]
    rfl
  rw [sumsr_last m c q (by omega) d]
  exact ((if_neg h0).trans ((if_neg h1).trans (if_neg h2))).symm

theorem final_w (i : S2x4x1024x768.Idx) (h : (i 0).val = 1) : ((outsAt0 m c 31 lt31).2.2.2.2 i : EReal) = arrW m c i := by
  obtain ⟨l, j, d, k, rfl⟩ : ∃ (l : Fin 2) (j : Fin 4) (d : Fin 1024) (k : Fin 768), i = ix4 l j d k :=
    ⟨i 0, i 1, i 2, i 3, by funext a; fin_cases a <;> rfl⟩
  unfold arrW
  obtain rfl : l = 1 := Fin.ext h
  exact (held_last m c j d k).trans (gw_tok m c j d k)

end Cert.LastTok
-- ==== Proof.LastRef.lean ====
module

public import proofs.«01_k».proof.Proof.InRef
public import proofs.«01_k».proof.Proof.Gen.LastReferenceIdeal.Read

/-! The last layer's reference by tokens: its operations are those of the other layer's reference, but for the place of the
weight's gradient. -/

@[expose] public section

set_option maxRecDepth 16384

noncomputable section

namespace Cert.LastRef

open Cert.LastReferenceIdeal Cert.LastReferenceIdeal.Gen Cert.InPay Cert.InSpec Cert.InMath Cert.InRef
open Idealize.ShloMosaic Idealize.ShloMosaic.TcCoe

variable (x0 : (⟨S16384x3072, .bf16⟩ : BufTy).Contents (Elt Ideal)) (x1 x2 : (⟨S16384x1024, .f32⟩ : BufTy).Contents (Elt Ideal))
  (x3 x4 x5 : (⟨S1024, .f32⟩ : BufTy).Contents (Elt Ideal)) (x7 : (⟨S1024x3072, .f32⟩ : BufTy).Contents (Elt Ideal))

theorem x_eq : Cert.LastReferenceIdeal.Read.val_main_v58 (F := Ideal) x0 x1 x2 x3 x5 x7 = Cert.InReferenceIdeal.Read.val_main_v58 (F := Ideal) x0 x1 x2 x3 x5 x7 := rfl

theorem s_eq : Cert.LastReferenceIdeal.Read.val_main_v67 (F := Ideal) x0 x1 x3 x5 x7 = Cert.InReferenceIdeal.Read.val_main_v68 (F := Ideal) x0 x1 x3 x5 x7 := rfl

theorem p_eq : Cert.LastReferenceIdeal.Read.val_main_v61 (F := Ideal) x0 x1 x3 x4 x5 = Cert.InReferenceIdeal.Read.val_main_v61 (F := Ideal) x0 x1 x3 x4 x5 := rfl

theorem v61_at (x8 : (⟨S2x4x1024x768, .f32⟩ : BufTy).Contents (Elt Ideal)) (j : Fin 4) (d : Fin 1024) (k : Fin 768) :
    (Cert.InReferenceIdeal.Read.val_main_v63 (F := Ideal) x0 x1 x3 x4 x5 x8 (ix4 (0 : Fin 2) j d k) : EReal)
      = Cert.InReferenceIdeal.Read.val_main_v61 (F := Ideal) x0 x1 x3 x4 x5 (ix4 (0 : Fin 1) j d k) := by
  pointwise [Cert.InReferenceIdeal.Read.val_main_v63]

/-- The weight's gradient, in the second layer's place. -/
theorem w_at (j : Fin 4) (d : Fin 1024) (k : Fin 768) :
    (Cert.LastReferenceIdeal.Read.val_main_v62 (F := Ideal) x0 x1 x3 x4 x5 (ix4 (1 : Fin 2) j d k) : EReal)
      = GW (two x0) (two x1) (one x3) (one x4) (one x5) j d k := by
  refine Eq.trans ?_ ((v61_at x0 x1 x3 x4 x5 (fun _ => 0) j d k).symm.trans (Cert.InRef.gw_at x0 x1 x3 x4 x5 (fun _ => 0) j d k))
  rw [← p_eq]
  pointwise [Cert.LastReferenceIdeal.Read.val_main_v62]

end Cert.LastRef

end
-- ==== Proof.LastClaim.lean ====
module

public import proofs.«01_k».proof.Defs
public import proofs.«01_k».proof.Proof.LastTok
public import proofs.«01_k».proof.Proof.LastRef
public import proofs.«01_k».proof.Proof.InClaim
public import proofs.«01_k».proof.Proof.Gen.LastKernelIdeal.Value
public import proofs.«01_k».proof.Proof.Gen.Pre_last_finite
public import proofs.«01_k».proof.Proof.Gen.On_last_written
public import proofs.«01_k».proof.Proof.Gen.LastReferenceIdeal.Run

/-! The last layer's kernel and its reference leave the same arrays, the weight's gradient in the last layer's place, where the
entries of four arguments are finite. -/

@[expose] public section

set_option maxRecDepth 16384

noncomputable section

namespace Cert.LastClaim

open Cert.LastKernelIdeal Cert.LastKernelIdeal.Gen Cert.InPay Cert.InSpec Cert.LastTok Cert.LastRef
open Cert.InRef (s0_at s1_at s2_at sr_at)
open Cert.InClaim (real_of)
open Cert.LastReferenceIdeal.Read (val_main_v58 val_main_v62 val_main_v67 val_main_v58_eq val_main_v62_eq val_main_v67_eq)
open Idealize.ShloMosaic Idealize.ShloMosaic.TcCoe Idealize.SL.Sem

variable (m : (ℓ : Loc nD τ sig) → Buf (Elt Ideal) ℓ) (c : Dev nD)

theorem real_z (h : Cert.Pre_LastKernelIdeal_last_finite m) (n : Fin 16384) (k : Fin 3072) : ∃ r : ℝ, az m c n k = (r : EReal) :=
  real_of _ (congrFun (h c).1 (ix2 n k))
theorem real_g (h : Cert.Pre_LastKernelIdeal_last_finite m) (d : Fin 1024) : ∃ r : ℝ, ag m c d = (r : EReal) :=
  real_of _ (congrFun (h c).2.1 (ix1 d))
theorem real_s (h : Cert.Pre_LastKernelIdeal_last_finite m) (d : Fin 1024) : ∃ r : ℝ, as' m c d = (r : EReal) :=
  real_of _ (congrFun (h c).2.2.1 (ix1 d))
theorem real_w (h : Cert.Pre_LastKernelIdeal_last_finite m) (d : Fin 1024) (k : Fin 3072) : ∃ r : ℝ, aw m c d k = (r : EReal) :=
  real_of _ (congrFun (h c).2.2.2 (ix2 d k))

abbrev r0 := m ((c : Thread nD τ).loc main_arg0)
abbrev r1 := m ((c : Thread nD τ).loc main_arg1)
abbrev r2 := m ((c : Thread nD τ).loc main_arg2)
abbrev r3 := m ((c : Thread nD τ).loc main_arg3)
abbrev r4 := m ((c : Thread nD τ).loc main_arg4)
abbrev r5 := m ((c : Thread nD τ).loc main_arg5)
abbrev r7 := m ((c : Thread nD τ).loc main_arg7)

theorem ref_x : val_main_v58 (F := Ideal) (r0 m c) (r1 m c) (r2 m c) (r3 m c) (r5 m c) (r7 m c) = arrX m c := by
  funext i
  obtain ⟨n, d, rfl⟩ : ∃ (n : Fin 16384) (d : Fin 1024), i = ix2 n d := ⟨i 0, i 1, eq_ix2 i⟩
  rw [x_eq]
  exact Cert.InRef.dx_at _ _ _ _ _ _ n d

theorem ref_w (i : S2x4x1024x768.Idx) (h : (i 0).val = 1) :
    (val_main_v62 (F := Ideal) (r0 m c) (r1 m c) (r3 m c) (r4 m c) (r5 m c) i : EReal) = arrW m c i := by
  obtain ⟨l, j, d, k, rfl⟩ : ∃ (l : Fin 2) (j : Fin 4) (d : Fin 1024) (k : Fin 768), i = ix4 l j d k :=
    ⟨i 0, i 1, i 2, i 3, eq_ix4 i⟩
  obtain rfl : l = 1 := Fin.ext h
  exact Cert.LastRef.w_at _ _ _ _ _ j d k

theorem ref_s (h : Cert.Pre_LastKernelIdeal_last_finite m) :
    val_main_v67 (F := Ideal) (r0 m c) (r1 m c) (r3 m c) (r5 m c) (r7 m c) = arrS m c := by
  rw [s_eq]
  funext i
  obtain ⟨q, d, rfl⟩ : ∃ (q : Fin 8) (d : Fin 1024), i = ix2 q d := ⟨i 0, i 1, eq_ix2 i⟩
  by_cases h0 : q.val = 0
  · obtain rfl : q = 0 := Fin.ext h0
    exact s0_at _ _ _ _ _ d
  by_cases h1 : q.val = 1
  · obtain rfl : q = 1 := Fin.ext h1
    exact s1_at _ _ _ _ _ (real_z m c h) (real_w m c h) (real_g m c h) d
  by_cases h2 : q.val = 2
  · obtain rfl : q = 2 := Fin.ext h2
    exact s2_at _ _ _ _ _ (real_z m c h) (real_w m c h) (real_s m c h) d
  refine (sr_at _ _ _ _ _ q (by omega) d).trans ?_
  exact ((if_neg h0).trans ((if_neg h1).trans (if_neg h2))).symm

/-- The mask is one only in the second place. -/
theorem layer_of (l : Fin 2) (h : IntOp.cmpi .eq (BitVec.ofNat 32 l.val) 1#32 = 1#1) : l.val = 1 := by
  revert h
  revert l
  decide

/-- The kernel and the reference leave the same arrays where the kernel writes. -/
theorem same : Cert.algebraic_LastKernelIdeal_LastReferenceIdeal_on_last_written_pre_last_finite := by
  intro m g m' g' hp hm
  have hl : ∀ (c : Dev nD) (i : S2x4x1024x768.Idx), (Cert.On_last_written.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7))).2.1 i = 1#1 → (i 0).val = 1 := fun c i h => layer_of (i 0) h
  refine ⟨fun c => arrX m c, fun c => arrW m c, fun c => arrS m c, ?_, ?_⟩
  · refine (θ_run Cert.LastKernelIdeal.defs _ _).mono (fun r h c => ?_) (Cert.LastKernelIdeal.Value.run_blocks (F := Ideal) m g)
    obtain ⟨hx, hs, k0, k1, k2, k3, k4, k5, k6, k7, hw⟩ := h c
    exact ⟨fun i _ => congrFun (hx.trans (final_x m c)) i, fun i hi => (congrFun hw i).trans (final_w m c i (hl c i hi)),
      fun i _ => congrFun (hs.trans (final_s m c)) i, k0, k1, k2, k3, k4, k5, k6, k7⟩
  · refine (θ_run Cert.LastReferenceIdeal.defs _ _).mono (fun r h c => ?_) (Cert.LastReferenceIdeal.Value.run (F := Ideal) m' g')
    obtain ⟨hx, hw, hs, hk⟩ := h c
    obtain ⟨a0, a1, a2, a3, a4, a5, a6, a7⟩ := hm c
    refine ⟨fun i _ => congrFun (hx.trans ?_) i, fun i hi => (congrFun hw i).trans ?_, fun i _ => congrFun (hs.trans ?_) i, hk⟩
    · rw [val_main_v58_eq, a0, a1, a2, a3, a5, a7]
      exact ref_x m c
    · refine (congrFun (val_main_v62_eq _ _ _ _ _) i).trans ?_
      rw [a0, a1, a3, a4, a5]
      exact ref_w m c i (hl c i hi)
    · refine (val_main_v67_eq _ _ _ _ _).trans ?_
      rw [a0, a1, a3, a5, a7]
      exact ref_s m c hp

end Cert.LastClaim

end
-- ==== Proof.FwdSame.lean ====
module

public import proofs.«01_k».proof.Defs
public import proofs.«01_k».proof.Proof.Gen.FwdKernel
public import proofs.«01_k».proof.Proof.Gen.FwdKernelIdeal

/-! The forward layer printed at bit patterns and the one printed for reading over the extended reals have one body table. -/

@[expose] public section

set_option maxHeartbeats 4000000

noncomputable section

namespace Cert.FwdSame

open Idealize.ShloMosaic

/-- The bodies at the one label there is. -/
theorem body_eq (l : Cert.FwdKernel.Λ₀.Label) (a : Cert.FwdKernel.Λ₀.Args l) :
    Cert.FwdKernel.defs₀ (F := Bits) .tc l a = Cert.FwdKernelIdeal.defs₀ (F := Bits) .tc l a := by
  match l, a with
  | 0, (t, s) => rfl

theorem bodies_eq : Cert.FwdKernel.defs₀ (F := Bits) = Cert.FwdKernelIdeal.defs₀ (F := Bits) := by
  funext k l a
  cases k with
  | tc => exact body_eq l a
  | scScalar _ => rfl
  | scVector _ _ => rfl

theorem defs_eq : Cert.FwdKernel.defs (F := Bits) = Cert.FwdKernelIdeal.defs (F := Bits) :=
  congrArg (Pipeline.defs (Cert.FwdKernel.pcfgs (F := Bits))) bodies_eq

end Cert.FwdSame

end
-- ==== Proof.FwdRead.lean ====
module

public import proofs.«01_k».proof.Proof.Gen.FwdKernelIdeal.Frame
public import Idealize.ShloMosaic.Lib.Pipeline.Value
public import Idealize.ShloMosaic.Lib.Pipeline.ReadBack
public import Idealize.ShloMosaic.Lib.WritesUnit
public import Idealize.ShloMosaic.Lib.VecWindow
public import Idealize.ShloMosaic.Lib.Pointwise

/-! What the body of the forward layer leaves in the block of projected rows: the normalised, modulated rows against the four
pieces of the weight. -/

@[expose] public section

set_option maxRecDepth 16384

noncomputable section

namespace Cert.FwdRead

open Cert.FwdKernelIdeal Cert.FwdKernelIdeal.Gen
open Idealize.ShloMosaic Idealize.ShloMosaic.TcCoe Idealize.ShloMosaic.Tactic Idealize.SL.Sem

/-- The number 1024, the small constant of the mean of squares and the number one, as the kernel writes them. -/
abbrev cN : EReal := Ideal.ofBits .f32 0x44800000#32
abbrev cEps : EReal := Ideal.ofBits .f32 0x358637BD#32
abbrev cOne : EReal := Ideal.ofBits .f32 0x3F800000#32

/-- The reciprocal root of a row's mean of squares. -/
def rrF (x : Fin 1024 → EReal) : EReal := Ideal.rsqrt (Ideal.div (∑ d : Fin 1024, x d * x d) cN + cEps)

/-- Column `k` of piece `j`. -/
def colF (j : Fin 4) (k : Fin 768) : Fin 3072 := ⟨768 * j.val + k.val, by omega⟩

/-- The normalised, modulated row. -/
def hF (x0 : Vec Ideal S256x1024 .f32) (x2 : Vec Ideal S8x1024 .f32) (r : Fin 256) (d : Fin 1024) : EReal :=
  x0 (ix2 r d) * rrF (fun e => x0 (ix2 r e)) * x2 (ix2 (3 : Fin 8) d) * (cOne + x2 (ix2 (1 : Fin 8) d)) + x2 (ix2 (0 : Fin 8) d)

/-- The projected row. -/
def zF (x0 : Vec Ideal S256x1024 .f32) (x2 : Vec Ideal S8x1024 .f32) (x3 : Vec Ideal S1x4x1024x768 .bf16) (r : Fin 256)
    (j : Fin 4) (k : Fin 768) : EReal := ∑ d : Fin 1024, hF x0 x2 r d * x3 (ix4 (0 : Fin 1) j d k)

theorem pay6_apply (v : FVec Ideal S8x1024 .f32) (x : FVec Ideal S256x1024 .f32) (r : Fin 256) (d : Fin 1024) :
    (k0_pay6 (F := Ideal) v x (ix2 r d) : EReal) = hF x v r d := by
  pointwise [k0_pay6, k0_pay5, hF, rrF]

theorem pay7_apply (v : FVec Ideal S8x1024 .f32) (x : FVec Ideal S256x1024 .f32) (w : FVec Ideal S1x1x1024x768 .bf16) (r : Fin 256) (k : Fin 768) :
    (k0_pay7 (F := Ideal) v x w (ix2 r k) : EReal) = ∑ d : Fin 1024, (k0_pay6 (F := Ideal) v x (ix2 r d) : EReal) * w (ix4 (0 : Fin 1) (0 : Fin 1) d k) := by
  pointwise [k0_pay7]

theorem pay9_apply (h : FVec Ideal S256x1024 .bf16) (w : FVec Ideal S1x1x1024x768 .bf16) (r : Fin 256) (k : Fin 768) :
    (k0_pay9 (F := Ideal) h w (ix2 r k) : EReal) = ∑ d : Fin 1024, (h (ix2 r d) : EReal) * w (ix4 (0 : Fin 1) (0 : Fin 1) d k) := by
  pointwise [k0_pay9]

theorem pay11_apply (h : FVec Ideal S256x1024 .bf16) (w : FVec Ideal S1x1x1024x768 .bf16) (r : Fin 256) (k : Fin 768) :
    (k0_pay11 (F := Ideal) h w (ix2 r k) : EReal) = ∑ d : Fin 1024, (h (ix2 r d) : EReal) * w (ix4 (0 : Fin 1) (0 : Fin 1) d k) := by
  pointwise [k0_pay11]

theorem pay13_apply (h : FVec Ideal S256x1024 .bf16) (w : FVec Ideal S1x1x1024x768 .bf16) (r : Fin 256) (k : Fin 768) :
    (k0_pay13 (F := Ideal) h w (ix2 r k) : EReal) = ∑ d : Fin 1024, (h (ix2 r d) : EReal) * w (ix4 (0 : Fin 1) (0 : Fin 1) d k) := by
  pointwise [k0_pay13]

theorem sum_of (x0 : Vec Ideal S256x1024 .f32) (x2 : Vec Ideal S8x1024 .f32) (x3 : Vec Ideal S1x4x1024x768 .bf16) (r : Fin 256)
    (j : Fin 4) (k : Fin 768) (w : FVec Ideal S1x1x1024x768 .bf16)
    (hw : ∀ d, (w (ix4 (0 : Fin 1) (0 : Fin 1) d k) : EReal) = x3 (ix4 (0 : Fin 1) j d k)) :
    ∑ d : Fin 1024, (k0_pay6 (F := Ideal) x2 x0 (ix2 r d) : EReal) * w (ix4 (0 : Fin 1) (0 : Fin 1) d k) = zF x0 x2 x3 r j k := by
  simp only [pay6_apply, hw, zF]

theorem hz2 : (![0, 0] : Fin 2 → Nat) = fun _ => 0 := by decide

section

variable {Val : EltTy → Type} {sig : RefSig} {κ : Kind} {sp : Space} {e : EltTy}

/-- The newest piece holds the column that is read; -/
theorem col_hit (v : View sig κ sp S256x3072 e) (f : v.ty.Contents Val) {o : ℕ} (inb : ∀ a, (![0, o] : Fin 2 → ℕ) a + S256x768.size a ≤ S256x3072.size a)
    (w : (Rect.unit (s := S256x3072) ![0, o] S256x768.size inb).shape.Idx → Val e) (L : List (View.Piece Val S256x3072 e)) (r : Fin 256) (q : Fin 3072) (k : Fin 768)
    (hq : q.val = o + k.val) :
    v.read Val (v.writes Val f (⟨Rect.unit ![0, o] S256x768.size inb, w⟩ :: L)) (ix2 r q) = w (ix2 r k) :=
  View.read_writes_cons_unit_of_mem v f inb w L _ (ix2 r k) rfl
    (Fin.forall_fin_two.mpr ⟨show r.val = 0 + r.val from (Nat.zero_add _).symm, hq⟩)

/-- or another piece does. -/
theorem col_miss (v : View sig κ sp S256x3072 e) (f : v.ty.Contents Val) {o : ℕ} (inb : ∀ a, (![0, o] : Fin 2 → ℕ) a + S256x768.size a ≤ S256x3072.size a)
    (w : (Rect.unit (s := S256x3072) ![0, o] S256x768.size inb).shape.Idx → Val e) (L : List (View.Piece Val S256x3072 e)) (r : Fin 256) (q : Fin 3072)
    (hq : q.val < o ∨ o + 768 ≤ q.val) :
    v.read Val (v.writes Val f (⟨Rect.unit ![0, o] S256x768.size inb, w⟩ :: L)) (ix2 r q) = v.read Val (v.writes Val f L) (ix2 r q) :=
  View.read_writes_cons_unit_of_not_mem v f inb w L _ rfl (1 : Fin 2) hq

end

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S1x4x1024x768 .bf16) (harg4 : arg4.IsWhole) (arg5 : Memref sig .tc .vmem S1x8x256 .f32) (harg5 : arg5.IsWhole) (arg6 : Memref sig .tc .vmem S1x32x256 .f32) (harg6 : arg6.IsWhole) (arg7 : Memref sig .tc .vmem S1x16x256 .f32) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S1x4x128x128 .bf16) (harg10 : arg10.IsWhole) (arg11 : Memref sig .tc .vmem S1x128x256 .f32) (harg11 : arg11.IsWhole) (arg12 : Memref sig .tc .vmem S1x4x256x1024 .bf16) (harg12 : arg12.IsWhole) (arg13 : Memref sig .tc .vmem S256x3072 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x256 .f32) (harg16 : arg16.IsWhole) (arg17 : Memref sig .tc .vmem S288x256 .f32) (harg17 : arg17.IsWhole) (arg18 : Memref sig .tc .vmem S256x256 .f32) (harg18 : arg18.IsWhole) (arg19 : Memref sig .tc .vmem S288x256 .f32) (harg19 : arg19.IsWhole) (arg20 : Memref sig .tc .vmem S288x256 .f32) (harg20 : arg20.IsWhole) (arg21 : Memref sig .tc .vmem S288x256 .f32) (harg21 : arg21.IsWhole) (arg22 : Memref sig .tc .vmem S256x256 .f32) (harg22 : arg22.IsWhole) (arg23 : Memref sig .tc .vmem S8x288x256 .f32) (harg23 : arg23.IsWhole) (arg24 : Memref sig .tc .vmem S256x3072 .f32) (harg24 : arg24.IsWhole) (arg25 : Memref sig .tc .vmem S256x3072 .f32) (harg25 : arg25.IsWhole) (arg26 : Memref sig .tc .vmem S32x3072 .f32) (harg26 : arg26.IsWhole)
  (x0 : Vec Ideal S256x1024 .f32) (x1 : Vec Ideal S256x1024 .f32) (x2 : Vec Ideal S8x1024 .f32) (x3 : Vec Ideal S1x4x1024x768 .bf16) (x4 : Vec Ideal S1x8x256 .f32) (x5 : Vec Ideal S1x32x256 .f32) (x6 : Vec Ideal S1x16x256 .f32) (x7 : Vec Ideal S1x256x256 .bf16) (x8 : Vec Ideal S1x256x256 .bf16) (x9 : Vec Ideal S1x4x128x128 .bf16) (x10 : Vec Ideal S1x128x256 .f32) (x11 : Vec Ideal S1x4x256x1024 .bf16)
  (xs8 : Vec Ideal S256x3072 .f32) (xs9 : Vec Ideal S32x3072 .f32)

theorem out_A (hc0 : cond0_0 i) (r : Fin 256) (j : Fin 4) (k : Fin 768) :
    (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 (ix2 r (colF j k)) : EReal) = zF x0 x2 x3 r j k := by
  unfold out0_A_12
  unfold kernelRun0_A
  dsimp only
  sl_unfold_words
  simp only [View.readAt_eq_ld, harg1.read_unread, harg3.read_unread, harg4.read_unread, View.ld_unit_zero (S := S256x1024) hz2, View.ld_unit_zero (S := S8x1024) hz2]
  match j with
  | 0 =>
    refine (col_miss _ _ _ _ _ _ _ (Or.inl (show 768 * 0 + k.val < 2304 by omega))).trans ?_
    refine (col_miss _ _ _ _ _ _ _ (Or.inl (show 768 * 0 + k.val < 1536 by omega))).trans ?_
    refine (col_miss _ _ _ _ _ _ _ (Or.inl (show 768 * 0 + k.val < 768 by omega))).trans ?_
    refine (col_hit (o := 0) _ _ _ _ _ r (colF 0 k) k (show 768 * 0 + k.val = 0 + k.val by omega)).trans ?_
    refine (pay7_apply _ _ _ r k).trans (sum_of x0 x2 x3 r 0 k _ fun d => ?_)
    pointwise
  | 1 =>
    refine (col_miss _ _ _ _ _ _ _ (Or.inl (show 768 * 1 + k.val < 2304 by omega))).trans ?_
    refine (col_miss _ _ _ _ _ _ _ (Or.inl (show 768 * 1 + k.val < 1536 by omega))).trans ?_
    refine (col_hit (o := 768) _ _ _ _ _ r (colF 1 k) k (show 768 * 1 + k.val = 768 + k.val by omega)).trans ?_
    refine (pay9_apply _ _ r k).trans (sum_of x0 x2 x3 r 1 k _ fun d => ?_)
    pointwise
  | 2 =>
    refine (col_miss _ _ _ _ _ _ _ (Or.inl (show 768 * 2 + k.val < 2304 by omega))).trans ?_
    refine (col_hit (o := 1536) _ _ _ _ _ r (colF 2 k) k (show 768 * 2 + k.val = 1536 + k.val by omega)).trans ?_
    refine (pay11_apply _ _ r k).trans (sum_of x0 x2 x3 r 2 k _ fun d => ?_)
    pointwise
  | 3 =>
    refine (col_hit (o := 2304) _ _ _ _ _ r (colF 3 k) k (show 768 * 3 + k.val = 2304 + k.val by omega)).trans ?_
    refine (pay13_apply _ _ r k).trans (sum_of x0 x2 x3 r 3 k _ fun d => ?_)
    pointwise

theorem out_B (hc0 : ¬cond0_0 i) (r : Fin 256) (j : Fin 4) (k : Fin 768) :
    (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs8 xs9 (ix2 r (colF j k)) : EReal) = zF x0 x2 x3 r j k := by
  unfold out0_B_12
  unfold kernelRun0_B
  dsimp only
  sl_unfold_words
  simp only [View.readAt_eq_ld, harg1.read_unread, harg3.read_unread, harg4.read_unread, View.ld_unit_zero (S := S256x1024) hz2, View.ld_unit_zero (S := S8x1024) hz2]
  match j with
  | 0 =>
    refine (col_miss _ _ _ _ _ _ _ (Or.inl (show 768 * 0 + k.val < 2304 by omega))).trans ?_
    refine (col_miss _ _ _ _ _ _ _ (Or.inl (show 768 * 0 + k.val < 1536 by omega))).trans ?_
    refine (col_miss _ _ _ _ _ _ _ (Or.inl (show 768 * 0 + k.val < 768 by omega))).trans ?_
    refine (col_hit (o := 0) _ _ _ _ _ r (colF 0 k) k (show 768 * 0 + k.val = 0 + k.val by omega)).trans ?_
    refine (pay7_apply _ _ _ r k).trans (sum_of x0 x2 x3 r 0 k _ fun d => ?_)
    pointwise
  | 1 =>
    refine (col_miss _ _ _ _ _ _ _ (Or.inl (show 768 * 1 + k.val < 2304 by omega))).trans ?_
    refine (col_miss _ _ _ _ _ _ _ (Or.inl (show 768 * 1 + k.val < 1536 by omega))).trans ?_
    refine (col_hit (o := 768) _ _ _ _ _ r (colF 1 k) k (show 768 * 1 + k.val = 768 + k.val by omega)).trans ?_
    refine (pay9_apply _ _ r k).trans (sum_of x0 x2 x3 r 1 k _ fun d => ?_)
    pointwise
  | 2 =>
    refine (col_miss _ _ _ _ _ _ _ (Or.inl (show 768 * 2 + k.val < 2304 by omega))).trans ?_
    refine (col_hit (o := 1536) _ _ _ _ _ r (colF 2 k) k (show 768 * 2 + k.val = 1536 + k.val by omega)).trans ?_
    refine (pay11_apply _ _ r k).trans (sum_of x0 x2 x3 r 2 k _ fun d => ?_)
    pointwise
  | 3 =>
    refine (col_hit (o := 2304) _ _ _ _ _ r (colF 3 k) k (show 768 * 3 + k.val = 2304 + k.val by omega)).trans ?_
    refine (pay13_apply _ _ r k).trans (sum_of x0 x2 x3 r 3 k _ fun d => ?_)
    pointwise

end Cert.FwdRead

end
-- ==== Proof.FwdTok.lean ====
module

public import proofs.«01_k».proof.Proof.FwdRead
public import proofs.«01_k».proof.Proof.Gen.FwdKernelIdeal.Value
public import Idealize.ShloMosaic.Lib.Pipeline.ValueKit
public import Idealize.ShloMosaic.Lib.Pointwise

/-! The kernel's array of projected rows, entry by entry of the arguments. -/

@[expose] public section

set_option maxRecDepth 16384

noncomputable section

namespace Cert.FwdTok

open Cert.FwdKernelIdeal Cert.FwdKernelIdeal.Gen Cert.FwdRead
open Idealize.ShloMosaic Idealize.ShloMosaic.TcCoe Idealize.SL.Sem Idealize.ShloMosaic.StableHlo

section

variable (x : Fin 16384 → Fin 1024 → EReal) (g b s : Fin 1024 → EReal) (w : Fin 1024 → Fin 3072 → EReal)

/-- The normalised, modulated row of a token, -/
def HT (n : Fin 16384) (d : Fin 1024) : EReal := x n d * rrF (x n) * g d * (cOne + s d) + b d

/-- and its projection. -/
def ZT (n : Fin 16384) (q : Fin 3072) : EReal := ∑ d : Fin 1024, HT x g b s n d * w d q

end

variable (m : (ℓ : Loc nD τ sig) → Buf (Elt Ideal) ℓ) (c : Dev nD)

def ax (n : Fin 16384) (d : Fin 1024) : EReal := m ((c : Thread nD τ).loc main_arg0) (ix2 n d)
def ag (d : Fin 1024) : EReal := m ((c : Thread nD τ).loc main_arg1) (ix1 d)
def ab (d : Fin 1024) : EReal := m ((c : Thread nD τ).loc main_arg2) (ix1 d)
def as' (d : Fin 1024) : EReal := m ((c : Thread nD τ).loc main_arg3) (ix1 d)
def aw (d : Fin 1024) (k : Fin 3072) : EReal := m ((c : Thread nD τ).loc main_arg5) (ix2 d k)

/-- The block of rows a point projects: its own number, the last point the one before's. -/
def bk (t : Fin cfg0.N) : ℕ := min t.val 63

/-- The token of row `r` of that block. -/
def tok (t : Fin cfg0.N) (r : Fin 256) : Fin 16384 := ⟨bk t * 256 + r.val, by unfold bk; omega⟩

theorem index0 : ∀ t : Fin cfg0.N, win0_0.index t = ![bk t, 0] := (by decide +kernel : ∀ t : Fin grid0.N, win0_0.index t = ![min t.val 63, 0])
theorem index2 : ∀ t : Fin cfg0.N, win0_2.index t = ![0, 0] := (by decide +kernel : ∀ t : Fin grid0.N, win0_2.index t = ![0, 0])
theorem index3 : ∀ t : Fin cfg0.N, win0_3.index t = ![0, 0, 0, 0] := (by decide +kernel : ∀ t : Fin grid0.N, win0_3.index t = ![0, 0, 0, 0])
theorem index12 : ∀ t : Fin cfg0.N, win0_12.index t = ![bk t, 0] := (by decide +kernel : ∀ t : Fin grid0.N, win0_12.index t = ![min t.val 63, 0])

theorem V_arg0 : V m c main_arg0 = m ((c : Thread nD τ).loc main_arg0) := by
  unfold V
  simp only [List.flatten_cons, List.flatten_nil, List.cons_append, List.nil_append, TRef.binary, TRef.unary, TRef.toBuf, TRef.ofBuf, cast_eq]
  after_results_simp

theorem V_w (j : Fin 4) (d : Fin 1024) (k : Fin 768) :
    (V m c main_v9 (ix4 (0 : Fin 1) j d k) : EReal) = aw m c d (colF j k) := by
  have e : V m c main_v9 = broadcastInDim S1x4x1024x768 ![1, 2, 3] bcast_S4x1024x768_S1x4x1024x768_1_2_3 (truncf (F := Ideal) .bf16 (transpose S4x1024x768 [1, 0, 2] (shapeCast S1024x4x768 (m ((c : Thread nD τ).loc main_arg5)) shapeCasts_S1024x3072_S1024x4x768) transposes_S1024x4x768_S4x1024x768_1_0_2) bitsLt_bf16_f32) := by
    unfold V
    simp only [List.flatten_cons, List.flatten_nil, List.cons_append, List.nil_append, TRef.binary, TRef.unary, TRef.toBuf, TRef.ofBuf, cast_eq]
    after_results_simp <;> rfl
  rw [e]
  pointwise
  exact congrArg (fun q : Fin 3072 => m ((c : Thread nD τ).loc main_arg5) (ix2 d q)) (Fin.ext (by dsimp only [colF]; omega))

theorem V_vecs : V m c main_v5 = pad S8x1024 ![0, 0] ![4, 0] ![0, 0] (concatenate S4x1024 0
    [⟨S1x1024, broadcastInDim S1x1024 ![1] bcast_S1024_S1x1024_1 (m ((c : Thread nD τ).loc main_arg2))⟩,
     ⟨S1x1024, broadcastInDim S1x1024 ![1] bcast_S1024_S1x1024_1 (m ((c : Thread nD τ).loc main_arg3))⟩,
     ⟨S1x1024, broadcastInDim S1x1024 ![1] bcast_S1024_S1x1024_1 (m ((c : Thread nD τ).loc main_arg4))⟩,
     ⟨S1x1024, broadcastInDim S1x1024 ![1] bcast_S1024_S1x1024_1 (m ((c : Thread nD τ).loc main_arg1))⟩] concatenates_S1x1024_S1x1024_S1x1024_S1x1024_S4x1024_d0) (sitofp (F := Ideal) .f32 (constantI S_ 32 0#32)) pads_S4x1024_S8x1024_040_000 h_S_ := by
  unfold V
  simp only [List.flatten_cons, List.flatten_nil, List.cons_append, List.nil_append, TRef.binary, TRef.unary, TRef.toBuf, TRef.ofBuf, cast_eq]
  after_results_simp <;> (try dsimp only [Matrix.cons_val]) <;> (try after_results_simp) <;> rfl

theorem iblk0_at (t : Fin cfg0.N) (r : Fin 256) (d : Fin 1024) : (iblk m c 0 t (ix2 r d) : EReal) = ax m c (tok t r) d := by
  unfold ax
  rw [← V_arg0 m c]
  blk_ext! [iblk, index0, tok]

theorem iblk2_at (t : Fin cfg0.N) (q : Fin 8) (d : Fin 1024) : iblk m c 2 t (ix2 q d) = V m c main_v5 (ix2 q d) := by
  blk_ext! [iblk, index2]

theorem iblk3_at (t : Fin cfg0.N) (j : Fin 4) (d : Fin 1024) (k : Fin 768) :
    (iblk m c 3 t (ix4 (0 : Fin 1) j d k) : EReal) = aw m c d (colF j k) := by
  rw [← V_w]
  blk_ext! [iblk, index3]

theorem vec0 (t : Fin cfg0.N) (d : Fin 1024) : (iblk m c 2 t (ix2 (0 : Fin 8) d) : EReal) = ab m c d := by
  rw [iblk2_at, V_vecs]
  pointwise
  rfl

theorem vec1 (t : Fin cfg0.N) (d : Fin 1024) : (iblk m c 2 t (ix2 (1 : Fin 8) d) : EReal) = as' m c d := by
  rw [iblk2_at, V_vecs]
  pointwise
  rfl

theorem vec3 (t : Fin cfg0.N) (d : Fin 1024) : (iblk m c 2 t (ix2 (3 : Fin 8) d) : EReal) = ag m c d := by
  rw [iblk2_at, V_vecs]
  pointwise
  rfl

/-- The block a point leaves, -/
theorem left_at (t : Fin cfg0.N) (r : Fin 256) (j : Fin 4) (k : Fin 768) :
    ((outsAt0 m c t.val t.isLt).1 (ix2 r (colF j k)) : EReal) = zF (iblk m c 0 t) (iblk m c 2 t) (iblk m c 3 t) r j k := by
  by_cases h0 : t.val % 65 = 0
  · rw [outsAt0_A m c t h0]
    dsimp only
    apply out_A
  · rw [outsAt0_B m c t h0]
    dsimp only
    apply out_B

/-- by tokens. -/
theorem z_tok (t : Fin cfg0.N) (r : Fin 256) (j : Fin 4) (k : Fin 768) :
    zF (iblk m c 0 t) (iblk m c 2 t) (iblk m c 3 t) r j k = ZT (ax m c) (ag m c) (ab m c) (as' m c) (aw m c) (tok t r) (colF j k) := by
  unfold zF ZT hF HT
  simp only [iblk0_at, iblk3_at, vec0, vec1, vec3]

/-- The projected rows, as an array. -/
def arrZ : S16384x3072.Idx → EReal := fun i => ZT (ax m c) (ag m c) (ab m c) (as' m c) (aw m c) (i 0) (i 1)

theorem emb_z (t : Fin cfg0.N) (r : Fin 256) (q : Fin 3072) : ((cfg0.win 12).blk t).view.emb (ix2 r q) = ix2 (tok t r) q := by
  blk_ext! [index12, tok]

theorem final_z : (dats m 0 c).arrAt 12 cfg0.N = arrZ m c := by
  refine (dats m 0 c).arrAt_eq_of_covers 12 _ (by decide +kernel) fun t hf y => ?_
  rw [after0_12]
  obtain ⟨r, q, rfl⟩ : ∃ (r : Fin 256) (q : Fin 3072), y = ix2 r q := ⟨y 0, y 1, by funext a; fin_cases a <;> rfl⟩
  obtain ⟨j, k, rfl⟩ : ∃ (j : Fin 4) (k : Fin 768), q = colF j k :=
    ⟨⟨q.val / 768, by omega⟩, ⟨q.val % 768, Nat.mod_lt _ (by decide)⟩, Fin.ext (Nat.div_add_mod q.val 768).symm⟩
  rw [emb_z]
  exact (left_at m c t r j k).trans (z_tok m c t r j k)

end Cert.FwdTok

end
-- ==== Proof.FwdRef.lean ====
module

public import proofs.«01_k».proof.Proof.InRef
public import proofs.«01_k».proof.Proof.FwdTok
public import proofs.«01_k».proof.Proof.Gen.FwdReferenceIdeal.Read

/-! The forward reference's projected rows, by tokens. -/

@[expose] public section

set_option maxRecDepth 16384

noncomputable section

namespace Cert.FwdRef

open Cert.FwdReferenceIdeal Cert.FwdReferenceIdeal.Gen Cert.FwdReferenceIdeal.Read Cert.FwdRead Cert.FwdTok
open Cert.InRef (two one c1)
open Idealize.ShloMosaic Idealize.ShloMosaic.TcCoe

variable (x0 : (⟨S16384x1024, .f32⟩ : BufTy).Contents (Elt Ideal)) (x1 x2 x3 : (⟨S1024, .f32⟩ : BufTy).Contents (Elt Ideal))
  (x5 : (⟨S1024x3072, .f32⟩ : BufTy).Contents (Elt Ideal))

theorem v7_at (n : Fin 16384) : (val_main_v7 (F := Ideal) x0 (ix2 n (0 : Fin 1)) : EReal) = rrF (two x0 n) := by
  pointwise [val_main_v7, val_main_v6, val_main_v4, val_main_v5, val_main_v3, val_main_v2, val_main_v1, val_main_v0, val_main_cst, val_main_cst_0, val_main_cst_1]
  rfl

theorem v20_at (n : Fin 16384) (d : Fin 1024) :
    (val_main_v20 (F := Ideal) x0 x1 x2 x3 (ix2 n d) : EReal) = HT (two x0) (one x1) (one x2) (one x3) n d := by
  pointwise [val_main_v20, val_main_v19, val_main_v18, val_main_v17, val_main_v16, val_main_v15, val_main_v14, val_main_v13, val_main_v12, val_main_v11, val_main_v10, val_main_v9, val_main_v8, val_main_cst_2]
  rw [v7_at, ← c1]
  rfl

theorem z_at (n : Fin 16384) (q : Fin 3072) :
    (val_main_v21 (F := Ideal) x0 x1 x2 x3 x5 (ix2 n q) : EReal) = ZT (two x0) (one x1) (one x2) (one x3) (two x5) n q := by
  pointwise [val_main_v21]
  simp only [v20_at]
  rfl

end Cert.FwdRef

end
-- ==== Proof.FwdClaim.lean ====
module

public import proofs.«01_k».proof.Defs
public import proofs.«01_k».proof.Proof.FwdTok
public import proofs.«01_k».proof.Proof.FwdRef
public import proofs.«01_k».proof.Proof.Gen.FwdKernelIdeal.Value
public import proofs.«01_k».proof.Proof.Gen.FwdReferenceIdeal.Run

/-! The forward layer and its reference leave the same projected rows. -/

@[expose] public section

set_option maxRecDepth 16384

noncomputable section

namespace Cert.FwdClaim

open Cert.FwdKernelIdeal Cert.FwdKernelIdeal.Gen Cert.FwdTok
open Cert.FwdReferenceIdeal.Read (val_main_v21 val_main_v21_eq)
open Idealize.ShloMosaic Idealize.ShloMosaic.TcCoe Idealize.SL.Sem

theorem ref_z (m : (ℓ : Loc nD τ sig) → Buf (Elt Ideal) ℓ) (c : Dev nD) :
    val_main_v21 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) = arrZ m c := by
  funext i
  obtain ⟨n, q, rfl⟩ : ∃ (n : Fin 16384) (q : Fin 3072), i = ix2 n q := ⟨i 0, i 1, eq_ix2 i⟩
  exact Cert.FwdRef.z_at _ _ _ _ _ n q

/-- The projected rows agree, whatever the arguments hold. -/
theorem same : Cert.algebraic_FwdKernelIdeal_FwdReferenceIdeal := by
  intro m g m' g' _ hm
  refine ⟨fun c => arrZ m c, ?_, ?_⟩
  · refine (θ_run Cert.FwdKernelIdeal.defs _ _).mono (fun r h c => ?_) (Cert.FwdKernelIdeal.Value.run_blocks (F := Ideal) m g)
    obtain ⟨hz, _, _, _, hk⟩ := h c
    exact ⟨hz.trans (final_z m c), hk⟩
  · refine (θ_run Cert.FwdReferenceIdeal.defs _ _).mono (fun r h c => ?_) (Cert.FwdReferenceIdeal.Value.run (F := Ideal) m' g')
    obtain ⟨hz, hk⟩ := h c
    obtain ⟨a0, a1, a2, a3, _, a5, _⟩ := hm c
    refine ⟨hz.trans ((val_main_v21_eq _ _ _ _ _).trans ?_), hk⟩
    rw [a0, a1, a2, a3, a5]
    exact ref_z m c

end Cert.FwdClaim

end
-- ==== Proof.FwdLastSame.lean ====
module

public import proofs.«01_k».proof.Defs
public import proofs.«01_k».proof.Proof.Gen.FwdLastKernel
public import proofs.«01_k».proof.Proof.Gen.FwdLastKernelIdeal

/-! The forward layer printed at bit patterns and the one printed for reading over the extended reals have one body table. -/

@[expose] public section

set_option maxHeartbeats 4000000

noncomputable section

namespace Cert.FwdLastSame

open Idealize.ShloMosaic

/-- The bodies at the one label there is. -/
theorem body_eq (l : Cert.FwdLastKernel.Λ₀.Label) (a : Cert.FwdLastKernel.Λ₀.Args l) :
    Cert.FwdLastKernel.defs₀ (F := Bits) .tc l a = Cert.FwdLastKernelIdeal.defs₀ (F := Bits) .tc l a := by
  match l, a with
  | 0, (t, s) => rfl

theorem bodies_eq : Cert.FwdLastKernel.defs₀ (F := Bits) = Cert.FwdLastKernelIdeal.defs₀ (F := Bits) := by
  funext k l a
  cases k with
  | tc => exact body_eq l a
  | scScalar _ => rfl
  | scVector _ _ => rfl

theorem defs_eq : Cert.FwdLastKernel.defs (F := Bits) = Cert.FwdLastKernelIdeal.defs (F := Bits) :=
  congrArg (Pipeline.defs (Cert.FwdLastKernel.pcfgs (F := Bits))) bodies_eq

end Cert.FwdLastSame

end
-- ==== Proof.FwdLastRead.lean ====
module

public import proofs.«01_k».proof.Proof.Gen.FwdLastKernelIdeal.Frame
public import Idealize.ShloMosaic.Lib.Pipeline.Value
public import Idealize.ShloMosaic.Lib.Pipeline.ReadBack
public import Idealize.ShloMosaic.Lib.WritesUnit
public import Idealize.ShloMosaic.Lib.VecWindow
public import Idealize.ShloMosaic.Lib.Pointwise

/-! What the body of the last layer's forward call leaves in the block of projected rows: the normalised, modulated rows against the four
pieces of the weight. -/

@[expose] public section

set_option maxRecDepth 16384

noncomputable section

namespace Cert.FwdLastRead

open Cert.FwdLastKernelIdeal Cert.FwdLastKernelIdeal.Gen
open Idealize.ShloMosaic Idealize.ShloMosaic.TcCoe Idealize.ShloMosaic.Tactic Idealize.SL.Sem

/-- The number 1024, the small constant of the mean of squares and the number one, as the kernel writes them. -/
abbrev cN : EReal := Ideal.ofBits .f32 0x44800000#32
abbrev cEps : EReal := Ideal.ofBits .f32 0x358637BD#32
abbrev cOne : EReal := Ideal.ofBits .f32 0x3F800000#32

/-- The reciprocal root of a row's mean of squares. -/
def rrF (x : Fin 1024 → EReal) : EReal := Ideal.rsqrt (Ideal.div (∑ d : Fin 1024, x d * x d) cN + cEps)

/-- Column `k` of piece `j`. -/
def colF (j : Fin 4) (k : Fin 768) : Fin 3072 := ⟨768 * j.val + k.val, by omega⟩

/-- The normalised, modulated row. -/
def hF (x0 : Vec Ideal S256x1024 .f32) (x2 : Vec Ideal S8x1024 .f32) (r : Fin 256) (d : Fin 1024) : EReal :=
  x0 (ix2 r d) * rrF (fun e => x0 (ix2 r e)) * x2 (ix2 (3 : Fin 8) d) * (cOne + x2 (ix2 (1 : Fin 8) d)) + x2 (ix2 (0 : Fin 8) d)

/-- The projected row. -/
def zF (x0 : Vec Ideal S256x1024 .f32) (x2 : Vec Ideal S8x1024 .f32) (x3 : Vec Ideal S1x4x1024x768 .bf16) (r : Fin 256)
    (j : Fin 4) (k : Fin 768) : EReal := ∑ d : Fin 1024, hF x0 x2 r d * x3 (ix4 (0 : Fin 1) j d k)

theorem pay6_apply (v : FVec Ideal S8x1024 .f32) (x : FVec Ideal S256x1024 .f32) (r : Fin 256) (d : Fin 1024) :
    (k0_pay6 (F := Ideal) v x (ix2 r d) : EReal) = hF x v r d := by
  pointwise [k0_pay6, k0_pay5, hF, rrF]

theorem pay7_apply (v : FVec Ideal S8x1024 .f32) (x : FVec Ideal S256x1024 .f32) (w : FVec Ideal S1x1x1024x768 .bf16) (r : Fin 256) (k : Fin 768) :
    (k0_pay7 (F := Ideal) v x w (ix2 r k) : EReal) = ∑ d : Fin 1024, (k0_pay6 (F := Ideal) v x (ix2 r d) : EReal) * w (ix4 (0 : Fin 1) (0 : Fin 1) d k) := by
  pointwise [k0_pay7]

theorem pay9_apply (h : FVec Ideal S256x1024 .bf16) (w : FVec Ideal S1x1x1024x768 .bf16) (r : Fin 256) (k : Fin 768) :
    (k0_pay9 (F := Ideal) h w (ix2 r k) : EReal) = ∑ d : Fin 1024, (h (ix2 r d) : EReal) * w (ix4 (0 : Fin 1) (0 : Fin 1) d k) := by
  pointwise [k0_pay9]

theorem pay11_apply (h : FVec Ideal S256x1024 .bf16) (w : FVec Ideal S1x1x1024x768 .bf16) (r : Fin 256) (k : Fin 768) :
    (k0_pay11 (F := Ideal) h w (ix2 r k) : EReal) = ∑ d : Fin 1024, (h (ix2 r d) : EReal) * w (ix4 (0 : Fin 1) (0 : Fin 1) d k) := by
  pointwise [k0_pay11]

theorem pay13_apply (h : FVec Ideal S256x1024 .bf16) (w : FVec Ideal S1x1x1024x768 .bf16) (r : Fin 256) (k : Fin 768) :
    (k0_pay13 (F := Ideal) h w (ix2 r k) : EReal) = ∑ d : Fin 1024, (h (ix2 r d) : EReal) * w (ix4 (0 : Fin 1) (0 : Fin 1) d k) := by
  pointwise [k0_pay13]

theorem sum_of (x0 : Vec Ideal S256x1024 .f32) (x2 : Vec Ideal S8x1024 .f32) (x3 : Vec Ideal S1x4x1024x768 .bf16) (r : Fin 256)
    (j : Fin 4) (k : Fin 768) (w : FVec Ideal S1x1x1024x768 .bf16)
    (hw : ∀ d, (w (ix4 (0 : Fin 1) (0 : Fin 1) d k) : EReal) = x3 (ix4 (0 : Fin 1) j d k)) :
    ∑ d : Fin 1024, (k0_pay6 (F := Ideal) x2 x0 (ix2 r d) : EReal) * w (ix4 (0 : Fin 1) (0 : Fin 1) d k) = zF x0 x2 x3 r j k := by
  simp only [pay6_apply, hw, zF]

theorem hz2 : (![0, 0] : Fin 2 → Nat) = fun _ => 0 := by decide

section

variable {Val : EltTy → Type} {sig : RefSig} {κ : Kind} {sp : Space} {e : EltTy}

/-- The newest piece holds the column that is read; -/
theorem col_hit (v : View sig κ sp S256x3072 e) (f : v.ty.Contents Val) {o : ℕ} (inb : ∀ a, (![0, o] : Fin 2 → ℕ) a + S256x768.size a ≤ S256x3072.size a)
    (w : (Rect.unit (s := S256x3072) ![0, o] S256x768.size inb).shape.Idx → Val e) (L : List (View.Piece Val S256x3072 e)) (r : Fin 256) (q : Fin 3072) (k : Fin 768)
    (hq : q.val = o + k.val) :
    v.read Val (v.writes Val f (⟨Rect.unit ![0, o] S256x768.size inb, w⟩ :: L)) (ix2 r q) = w (ix2 r k) :=
  View.read_writes_cons_unit_of_mem v f inb w L _ (ix2 r k) rfl
    (Fin.forall_fin_two.mpr ⟨show r.val = 0 + r.val from (Nat.zero_add _).symm, hq⟩)

/-- or another piece does. -/
theorem col_miss (v : View sig κ sp S256x3072 e) (f : v.ty.Contents Val) {o : ℕ} (inb : ∀ a, (![0, o] : Fin 2 → ℕ) a + S256x768.size a ≤ S256x3072.size a)
    (w : (Rect.unit (s := S256x3072) ![0, o] S256x768.size inb).shape.Idx → Val e) (L : List (View.Piece Val S256x3072 e)) (r : Fin 256) (q : Fin 3072)
    (hq : q.val < o ∨ o + 768 ≤ q.val) :
    v.read Val (v.writes Val f (⟨Rect.unit ![0, o] S256x768.size inb, w⟩ :: L)) (ix2 r q) = v.read Val (v.writes Val f L) (ix2 r q) :=
  View.read_writes_cons_unit_of_not_mem v f inb w L _ rfl (1 : Fin 2) hq

end

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S1x4x1024x768 .bf16) (harg4 : arg4.IsWhole) (arg5 : Memref sig .tc .vmem S1x8x256 .f32) (harg5 : arg5.IsWhole) (arg6 : Memref sig .tc .vmem S1x32x256 .f32) (harg6 : arg6.IsWhole) (arg7 : Memref sig .tc .vmem S1x16x256 .f32) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S1x4x128x128 .bf16) (harg10 : arg10.IsWhole) (arg11 : Memref sig .tc .vmem S1x128x256 .f32) (harg11 : arg11.IsWhole) (arg12 : Memref sig .tc .vmem S1x4x256x1024 .bf16) (harg12 : arg12.IsWhole) (arg13 : Memref sig .tc .vmem S256x3072 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x256 .f32) (harg16 : arg16.IsWhole) (arg17 : Memref sig .tc .vmem S288x256 .f32) (harg17 : arg17.IsWhole) (arg18 : Memref sig .tc .vmem S256x256 .f32) (harg18 : arg18.IsWhole) (arg19 : Memref sig .tc .vmem S288x256 .f32) (harg19 : arg19.IsWhole) (arg20 : Memref sig .tc .vmem S288x256 .f32) (harg20 : arg20.IsWhole) (arg21 : Memref sig .tc .vmem S288x256 .f32) (harg21 : arg21.IsWhole) (arg22 : Memref sig .tc .vmem S256x256 .f32) (harg22 : arg22.IsWhole) (arg23 : Memref sig .tc .vmem S8x288x256 .f32) (harg23 : arg23.IsWhole) (arg24 : Memref sig .tc .vmem S256x3072 .f32) (harg24 : arg24.IsWhole) (arg25 : Memref sig .tc .vmem S256x3072 .f32) (harg25 : arg25.IsWhole) (arg26 : Memref sig .tc .vmem S32x3072 .f32) (harg26 : arg26.IsWhole)
  (x0 : Vec Ideal S256x1024 .f32) (x1 : Vec Ideal S256x1024 .f32) (x2 : Vec Ideal S8x1024 .f32) (x3 : Vec Ideal S1x4x1024x768 .bf16) (x4 : Vec Ideal S1x8x256 .f32) (x5 : Vec Ideal S1x32x256 .f32) (x6 : Vec Ideal S1x16x256 .f32) (x7 : Vec Ideal S1x256x256 .bf16) (x8 : Vec Ideal S1x256x256 .bf16) (x9 : Vec Ideal S1x4x128x128 .bf16) (x10 : Vec Ideal S1x128x256 .f32) (x11 : Vec Ideal S1x4x256x1024 .bf16)
  (xs8 : Vec Ideal S256x3072 .f32) (xs9 : Vec Ideal S32x3072 .f32)

theorem out_A (hc0 : cond0_0 i) (r : Fin 256) (j : Fin 4) (k : Fin 768) :
    (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 (ix2 r (colF j k)) : EReal) = zF x0 x2 x3 r j k := by
  unfold out0_A_12
  unfold kernelRun0_A
  dsimp only
  sl_unfold_words
  simp only [View.readAt_eq_ld, harg1.read_unread, harg3.read_unread, harg4.read_unread, View.ld_unit_zero (S := S256x1024) hz2, View.ld_unit_zero (S := S8x1024) hz2]
  match j with
  | 0 =>
    refine (col_miss _ _ _ _ _ _ _ (Or.inl (show 768 * 0 + k.val < 2304 by omega))).trans ?_
    refine (col_miss _ _ _ _ _ _ _ (Or.inl (show 768 * 0 + k.val < 1536 by omega))).trans ?_
    refine (col_miss _ _ _ _ _ _ _ (Or.inl (show 768 * 0 + k.val < 768 by omega))).trans ?_
    refine (col_hit (o := 0) _ _ _ _ _ r (colF 0 k) k (show 768 * 0 + k.val = 0 + k.val by omega)).trans ?_
    refine (pay7_apply _ _ _ r k).trans (sum_of x0 x2 x3 r 0 k _ fun d => ?_)
    pointwise
  | 1 =>
    refine (col_miss _ _ _ _ _ _ _ (Or.inl (show 768 * 1 + k.val < 2304 by omega))).trans ?_
    refine (col_miss _ _ _ _ _ _ _ (Or.inl (show 768 * 1 + k.val < 1536 by omega))).trans ?_
    refine (col_hit (o := 768) _ _ _ _ _ r (colF 1 k) k (show 768 * 1 + k.val = 768 + k.val by omega)).trans ?_
    refine (pay9_apply _ _ r k).trans (sum_of x0 x2 x3 r 1 k _ fun d => ?_)
    pointwise
  | 2 =>
    refine (col_miss _ _ _ _ _ _ _ (Or.inl (show 768 * 2 + k.val < 2304 by omega))).trans ?_
    refine (col_hit (o := 1536) _ _ _ _ _ r (colF 2 k) k (show 768 * 2 + k.val = 1536 + k.val by omega)).trans ?_
    refine (pay11_apply _ _ r k).trans (sum_of x0 x2 x3 r 2 k _ fun d => ?_)
    pointwise
  | 3 =>
    refine (col_hit (o := 2304) _ _ _ _ _ r (colF 3 k) k (show 768 * 3 + k.val = 2304 + k.val by omega)).trans ?_
    refine (pay13_apply _ _ r k).trans (sum_of x0 x2 x3 r 3 k _ fun d => ?_)
    pointwise

theorem out_B (hc0 : ¬cond0_0 i) (r : Fin 256) (j : Fin 4) (k : Fin 768) :
    (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 xs8 xs9 (ix2 r (colF j k)) : EReal) = zF x0 x2 x3 r j k := by
  unfold out0_B_12
  unfold kernelRun0_B
  dsimp only
  sl_unfold_words
  simp only [View.readAt_eq_ld, harg1.read_unread, harg3.read_unread, harg4.read_unread, View.ld_unit_zero (S := S256x1024) hz2, View.ld_unit_zero (S := S8x1024) hz2]
  match j with
  | 0 =>
    refine (col_miss _ _ _ _ _ _ _ (Or.inl (show 768 * 0 + k.val < 2304 by omega))).trans ?_
    refine (col_miss _ _ _ _ _ _ _ (Or.inl (show 768 * 0 + k.val < 1536 by omega))).trans ?_
    refine (col_miss _ _ _ _ _ _ _ (Or.inl (show 768 * 0 + k.val < 768 by omega))).trans ?_
    refine (col_hit (o := 0) _ _ _ _ _ r (colF 0 k) k (show 768 * 0 + k.val = 0 + k.val by omega)).trans ?_
    refine (pay7_apply _ _ _ r k).trans (sum_of x0 x2 x3 r 0 k _ fun d => ?_)
    pointwise
  | 1 =>
    refine (col_miss _ _ _ _ _ _ _ (Or.inl (show 768 * 1 + k.val < 2304 by omega))).trans ?_
    refine (col_miss _ _ _ _ _ _ _ (Or.inl (show 768 * 1 + k.val < 1536 by omega))).trans ?_
    refine (col_hit (o := 768) _ _ _ _ _ r (colF 1 k) k (show 768 * 1 + k.val = 768 + k.val by omega)).trans ?_
    refine (pay9_apply _ _ r k).trans (sum_of x0 x2 x3 r 1 k _ fun d => ?_)
    pointwise
  | 2 =>
    refine (col_miss _ _ _ _ _ _ _ (Or.inl (show 768 * 2 + k.val < 2304 by omega))).trans ?_
    refine (col_hit (o := 1536) _ _ _ _ _ r (colF 2 k) k (show 768 * 2 + k.val = 1536 + k.val by omega)).trans ?_
    refine (pay11_apply _ _ r k).trans (sum_of x0 x2 x3 r 2 k _ fun d => ?_)
    pointwise
  | 3 =>
    refine (col_hit (o := 2304) _ _ _ _ _ r (colF 3 k) k (show 768 * 3 + k.val = 2304 + k.val by omega)).trans ?_
    refine (pay13_apply _ _ r k).trans (sum_of x0 x2 x3 r 3 k _ fun d => ?_)
    pointwise

end Cert.FwdLastRead

end
-- ==== Proof.FwdLastTok.lean ====
module

public import proofs.«01_k».proof.Proof.FwdLastRead
public import proofs.«01_k».proof.Proof.Gen.FwdLastKernelIdeal.Value
public import Idealize.ShloMosaic.Lib.Pipeline.ValueKit
public import Idealize.ShloMosaic.Lib.Pointwise

/-! The kernel's array of projected rows, entry by entry of the arguments. -/

@[expose] public section

set_option maxRecDepth 16384

noncomputable section

namespace Cert.FwdLastTok

open Cert.FwdLastKernelIdeal Cert.FwdLastKernelIdeal.Gen Cert.FwdLastRead
open Idealize.ShloMosaic Idealize.ShloMosaic.TcCoe Idealize.SL.Sem Idealize.ShloMosaic.StableHlo

section

variable (x : Fin 16384 → Fin 1024 → EReal) (g b s : Fin 1024 → EReal) (w : Fin 1024 → Fin 3072 → EReal)

/-- The normalised, modulated row of a token, -/
def HT (n : Fin 16384) (d : Fin 1024) : EReal := x n d * rrF (x n) * g d * (cOne + s d) + b d

/-- and its projection. -/
def ZT (n : Fin 16384) (q : Fin 3072) : EReal := ∑ d : Fin 1024, HT x g b s n d * w d q

end

variable (m : (ℓ : Loc nD τ sig) → Buf (Elt Ideal) ℓ) (c : Dev nD)

def ax (n : Fin 16384) (d : Fin 1024) : EReal := m ((c : Thread nD τ).loc main_arg0) (ix2 n d)
def ag (d : Fin 1024) : EReal := m ((c : Thread nD τ).loc main_arg1) (ix1 d)
def ab (d : Fin 1024) : EReal := m ((c : Thread nD τ).loc main_arg2) (ix1 d)
def as' (d : Fin 1024) : EReal := m ((c : Thread nD τ).loc main_arg3) (ix1 d)
def aw (d : Fin 1024) (k : Fin 3072) : EReal := m ((c : Thread nD τ).loc main_arg5) (ix2 d k)

/-- The block of rows a point projects: its own number, the last point the one before's. -/
def bk (t : Fin cfg0.N) : ℕ := min t.val 63

/-- The token of row `r` of that block. -/
def tok (t : Fin cfg0.N) (r : Fin 256) : Fin 16384 := ⟨bk t * 256 + r.val, by unfold bk; omega⟩

theorem index0 : ∀ t : Fin cfg0.N, win0_0.index t = ![bk t, 0] := (by decide +kernel : ∀ t : Fin grid0.N, win0_0.index t = ![min t.val 63, 0])
theorem index2 : ∀ t : Fin cfg0.N, win0_2.index t = ![0, 0] := (by decide +kernel : ∀ t : Fin grid0.N, win0_2.index t = ![0, 0])
theorem index3 : ∀ t : Fin cfg0.N, win0_3.index t = ![0, 0, 0, 0] := (by decide +kernel : ∀ t : Fin grid0.N, win0_3.index t = ![0, 0, 0, 0])
theorem index12 : ∀ t : Fin cfg0.N, win0_12.index t = ![bk t, 0] := (by decide +kernel : ∀ t : Fin grid0.N, win0_12.index t = ![min t.val 63, 0])

theorem V_arg0 : V m c main_arg0 = m ((c : Thread nD τ).loc main_arg0) := by
  unfold V
  simp only [List.flatten_cons, List.flatten_nil, List.cons_append, List.nil_append, TRef.binary, TRef.unary, TRef.toBuf, TRef.ofBuf, cast_eq]
  after_results_simp

theorem V_w (j : Fin 4) (d : Fin 1024) (k : Fin 768) :
    (V m c main_v9 (ix4 (0 : Fin 1) j d k) : EReal) = aw m c d (colF j k) := by
  have e : V m c main_v9 = broadcastInDim S1x4x1024x768 ![1, 2, 3] bcast_S4x1024x768_S1x4x1024x768_1_2_3 (truncf (F := Ideal) .bf16 (transpose S4x1024x768 [1, 0, 2] (shapeCast S1024x4x768 (m ((c : Thread nD τ).loc main_arg5)) shapeCasts_S1024x3072_S1024x4x768) transposes_S1024x4x768_S4x1024x768_1_0_2) bitsLt_bf16_f32) := by
    unfold V
    simp only [List.flatten_cons, List.flatten_nil, List.cons_append, List.nil_append, TRef.binary, TRef.unary, TRef.toBuf, TRef.ofBuf, cast_eq]
    after_results_simp <;> rfl
  rw [e]
  pointwise
  exact congrArg (fun q : Fin 3072 => m ((c : Thread nD τ).loc main_arg5) (ix2 d q)) (Fin.ext (by dsimp only [colF]; omega))

theorem V_vecs : V m c main_v5 = pad S8x1024 ![0, 0] ![4, 0] ![0, 0] (concatenate S4x1024 0
    [⟨S1x1024, broadcastInDim S1x1024 ![1] bcast_S1024_S1x1024_1 (m ((c : Thread nD τ).loc main_arg2))⟩,
     ⟨S1x1024, broadcastInDim S1x1024 ![1] bcast_S1024_S1x1024_1 (m ((c : Thread nD τ).loc main_arg3))⟩,
     ⟨S1x1024, broadcastInDim S1x1024 ![1] bcast_S1024_S1x1024_1 (m ((c : Thread nD τ).loc main_arg4))⟩,
     ⟨S1x1024, broadcastInDim S1x1024 ![1] bcast_S1024_S1x1024_1 (m ((c : Thread nD τ).loc main_arg1))⟩] concatenates_S1x1024_S1x1024_S1x1024_S1x1024_S4x1024_d0) (sitofp (F := Ideal) .f32 (constantI S_ 32 0#32)) pads_S4x1024_S8x1024_040_000 h_S_ := by
  unfold V
  simp only [List.flatten_cons, List.flatten_nil, List.cons_append, List.nil_append, TRef.binary, TRef.unary, TRef.toBuf, TRef.ofBuf, cast_eq]
  after_results_simp <;> (try dsimp only [Matrix.cons_val]) <;> (try after_results_simp) <;> rfl

theorem iblk0_at (t : Fin cfg0.N) (r : Fin 256) (d : Fin 1024) : (iblk m c 0 t (ix2 r d) : EReal) = ax m c (tok t r) d := by
  unfold ax
  rw [← V_arg0 m c]
  blk_ext! [iblk, index0, tok]

theorem iblk2_at (t : Fin cfg0.N) (q : Fin 8) (d : Fin 1024) : iblk m c 2 t (ix2 q d) = V m c main_v5 (ix2 q d) := by
  blk_ext! [iblk, index2]

theorem iblk3_at (t : Fin cfg0.N) (j : Fin 4) (d : Fin 1024) (k : Fin 768) :
    (iblk m c 3 t (ix4 (0 : Fin 1) j d k) : EReal) = aw m c d (colF j k) := by
  rw [← V_w]
  blk_ext! [iblk, index3]

theorem vec0 (t : Fin cfg0.N) (d : Fin 1024) : (iblk m c 2 t (ix2 (0 : Fin 8) d) : EReal) = ab m c d := by
  rw [iblk2_at, V_vecs]
  pointwise
  rfl

theorem vec1 (t : Fin cfg0.N) (d : Fin 1024) : (iblk m c 2 t (ix2 (1 : Fin 8) d) : EReal) = as' m c d := by
  rw [iblk2_at, V_vecs]
  pointwise
  rfl

theorem vec3 (t : Fin cfg0.N) (d : Fin 1024) : (iblk m c 2 t (ix2 (3 : Fin 8) d) : EReal) = ag m c d := by
  rw [iblk2_at, V_vecs]
  pointwise
  rfl

/-- The block a point leaves, -/
theorem left_at (t : Fin cfg0.N) (r : Fin 256) (j : Fin 4) (k : Fin 768) :
    ((outsAt0 m c t.val t.isLt).1 (ix2 r (colF j k)) : EReal) = zF (iblk m c 0 t) (iblk m c 2 t) (iblk m c 3 t) r j k := by
  by_cases h0 : t.val % 65 = 0
  · rw [outsAt0_A m c t h0]
    dsimp only
    apply out_A
  · rw [outsAt0_B m c t h0]
    dsimp only
    apply out_B

/-- by tokens. -/
theorem z_tok (t : Fin cfg0.N) (r : Fin 256) (j : Fin 4) (k : Fin 768) :
    zF (iblk m c 0 t) (iblk m c 2 t) (iblk m c 3 t) r j k = ZT (ax m c) (ag m c) (ab m c) (as' m c) (aw m c) (tok t r) (colF j k) := by
  unfold zF ZT hF HT
  simp only [iblk0_at, iblk3_at, vec0, vec1, vec3]

/-- The projected rows, as an array. -/
def arrZ : S16384x3072.Idx → EReal := fun i => ZT (ax m c) (ag m c) (ab m c) (as' m c) (aw m c) (i 0) (i 1)

theorem emb_z (t : Fin cfg0.N) (r : Fin 256) (q : Fin 3072) : ((cfg0.win 12).blk t).view.emb (ix2 r q) = ix2 (tok t r) q := by
  blk_ext! [index12, tok]

theorem final_z : (dats m 0 c).arrAt 12 cfg0.N = arrZ m c := by
  refine (dats m 0 c).arrAt_eq_of_covers 12 _ (by decide +kernel) fun t hf y => ?_
  rw [after0_12]
  obtain ⟨r, q, rfl⟩ : ∃ (r : Fin 256) (q : Fin 3072), y = ix2 r q := ⟨y 0, y 1, by funext a; fin_cases a <;> rfl⟩
  obtain ⟨j, k, rfl⟩ : ∃ (j : Fin 4) (k : Fin 768), q = colF j k :=
    ⟨⟨q.val / 768, by omega⟩, ⟨q.val % 768, Nat.mod_lt _ (by decide)⟩, Fin.ext (Nat.div_add_mod q.val 768).symm⟩
  rw [emb_z]
  exact (left_at m c t r j k).trans (z_tok m c t r j k)

end Cert.FwdLastTok

end
-- ==== Proof.FwdLastClaim.lean ====
module

public import proofs.«01_k».proof.Defs
public import proofs.«01_k».proof.Proof.FwdLastTok
public import proofs.«01_k».proof.Proof.FwdRef
public import proofs.«01_k».proof.Proof.Gen.FwdLastKernelIdeal.Value
public import proofs.«01_k».proof.Proof.Gen.FwdReferenceIdeal.Run

/-! The last layer's forward call and its reference leave the same projected rows. -/

@[expose] public section

set_option maxRecDepth 16384

noncomputable section

namespace Cert.FwdLastClaim

open Cert.FwdLastKernelIdeal Cert.FwdLastKernelIdeal.Gen Cert.FwdLastTok
open Cert.FwdReferenceIdeal.Read (val_main_v21 val_main_v21_eq)
open Idealize.ShloMosaic Idealize.ShloMosaic.TcCoe Idealize.SL.Sem

theorem ref_z (m : (ℓ : Loc nD τ sig) → Buf (Elt Ideal) ℓ) (c : Dev nD) :
    val_main_v21 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) = arrZ m c := by
  funext i
  obtain ⟨n, q, rfl⟩ : ∃ (n : Fin 16384) (q : Fin 3072), i = ix2 n q := ⟨i 0, i 1, eq_ix2 i⟩
  exact Cert.FwdRef.z_at _ _ _ _ _ n q

/-- The projected rows agree, whatever the arguments hold. -/
theorem same : Cert.algebraic_FwdLastKernelIdeal_FwdReferenceIdeal := by
  intro m g m' g' _ hm
  refine ⟨fun c => arrZ m c, ?_, ?_⟩
  · refine (θ_run Cert.FwdLastKernelIdeal.defs _ _).mono (fun r h c => ?_) (Cert.FwdLastKernelIdeal.Value.run_blocks (F := Ideal) m g)
    obtain ⟨hz, _, _, _, hk⟩ := h c
    exact ⟨hz.trans (final_z m c), hk⟩
  · refine (θ_run Cert.FwdReferenceIdeal.defs _ _).mono (fun r h c => ?_) (Cert.FwdReferenceIdeal.Value.run (F := Ideal) m' g')
    obtain ⟨hz, hk⟩ := h c
    obtain ⟨a0, a1, a2, a3, _, a5, _⟩ := hm c
    refine ⟨hz.trans ((val_main_v21_eq _ _ _ _ _).trans ?_), hk⟩
    rw [a0, a1, a2, a3, a5]
    exact ref_z m c

end Cert.FwdLastClaim

end
-- ==== Proof.AdaSame.lean ====
module

public import proofs.«01_k».proof.Defs
public import proofs.«01_k».proof.Proof.Gen.AdaKernel
public import proofs.«01_k».proof.Proof.Gen.AdaKernelIdeal

/-! The update of the modulation's weight printed at bit patterns and the one printed for reading over the extended reals have one body table. -/

@[expose] public section

set_option maxHeartbeats 4000000

noncomputable section

namespace Cert.AdaSame

open Idealize.ShloMosaic

/-- The bodies at the one label there is. -/
theorem body_eq (l : Cert.AdaKernel.Λ₀.Label) (a : Cert.AdaKernel.Λ₀.Args l) :
    Cert.AdaKernel.defs₀ (F := Bits) .tc l a = Cert.AdaKernelIdeal.defs₀ (F := Bits) .tc l a := by
  match l, a with
  | 0, (t, s) => rfl

theorem bodies_eq : Cert.AdaKernel.defs₀ (F := Bits) = Cert.AdaKernelIdeal.defs₀ (F := Bits) := by
  funext k l a
  cases k with
  | tc => exact body_eq l a
  | scScalar _ => rfl
  | scVector _ _ => rfl

theorem defs_eq : Cert.AdaKernel.defs (F := Bits) = Cert.AdaKernelIdeal.defs (F := Bits) :=
  congrArg (Pipeline.defs (Cert.AdaKernel.pcfgs (F := Bits))) bodies_eq

end Cert.AdaSame

end
-- ==== Proof.AdaClaim.lean ====
module

public import proofs.«01_k».proof.Defs
public import proofs.«01_k».proof.Proof.Gen.AdaKernelIdeal.Value
public import proofs.«01_k».proof.Proof.Gen.AdaReferenceIdeal.Read
public import proofs.«01_k».proof.Proof.Gen.AdaReferenceIdeal.Run
public import Idealize.ShloMosaic.Lib.Pipeline.ReadBack
public import Idealize.ShloMosaic.Lib.Pipeline.ValueKit
public import Idealize.ShloMosaic.Lib.Pointwise

/-! The update of the modulation's weight: the kernel's three arrays are the reference's. -/

@[expose] public section

set_option maxRecDepth 16384

noncomputable section

namespace Cert.AdaClaim

open Cert.AdaKernelIdeal Cert.AdaKernelIdeal.Gen Cert.AdaKernelIdeal.Value
open Cert.AdaReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)

/-- The row of the whole array under row `r` of a point's block. -/
def row (t : Fin cfg0.N) (r : Fin 512) : Fin 2048 := ⟨t.val * 512 + r.val, by have h : t.val < 4 := t.isLt; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

/-- The arrays the call is given: the arguments with their two leading axes as one. -/
theorem V_0 : V m c main_v0 = val_main_v0 (F := Ideal) (a0 m c) := by
  unfold V
  after_results_simp <;> rfl
theorem V_1 : V m c main_v1 = val_main_v1 (F := Ideal) (a1 m c) := by
  unfold V
  after_results_simp <;> rfl
theorem V_2 : V m c main_v2 = val_main_v2 (F := Ideal) (a2 m c) := by
  unfold V
  after_results_simp <;> rfl
theorem V_3 : V m c main_v3 = val_main_v3 (F := Ideal) (a3 m c) := by
  unfold V
  after_results_simp <;> rfl

theorem blk0 (t : Fin cfg0.N) (r : Fin 512) (d : Fin 768) : iblk m c 0 t (ix2 r d) = val_main_v0 (F := Ideal) (a0 m c) (ix2 (row t r) d) := by
  rw [← V_0]
  blk_ext! [iblk, index0, row]
theorem blk1 (t : Fin cfg0.N) (r : Fin 512) (d : Fin 768) : iblk m c 1 t (ix2 r d) = val_main_v1 (F := Ideal) (a1 m c) (ix2 (row t r) d) := by
  rw [← V_1]
  blk_ext! [iblk, index1, row]
theorem blk2 (t : Fin cfg0.N) (r : Fin 512) (d : Fin 768) : iblk m c 2 t (ix2 r d) = val_main_v2 (F := Ideal) (a2 m c) (ix2 (row t r) d) := by
  rw [← V_2]
  blk_ext! [iblk, index2, row]
theorem blk3 (t : Fin cfg0.N) (r : Fin 512) (d : Fin 768) : iblk m c 3 t (ix2 r d) = val_main_v3 (F := Ideal) (a3 m c) (ix2 (row t r) d) := by
  rw [← V_3]
  blk_ext! [iblk, index3, row]

theorem emb4 (t : Fin cfg0.N) (r : Fin 512) (d : Fin 768) : ((cfg0.win 4).blk t).view.emb (ix2 r d) = ix2 (row t r) d := by
  blk_ext! [index4, row]
theorem emb5 (t : Fin cfg0.N) (r : Fin 512) (d : Fin 768) : ((cfg0.win 5).blk t).view.emb (ix2 r d) = ix2 (row t r) d := by
  blk_ext! [index5, row]
theorem emb6 (t : Fin cfg0.N) (r : Fin 512) (d : Fin 768) : ((cfg0.win 6).blk t).view.emb (ix2 r d) = ix2 (row t r) d := by
  blk_ext! [index6, row]

theorem hz2 : (![0, 0] : Fin 2 → Nat) = fun _ => 0 := by decide

theorem ld_whole (x : Vec Ideal S512x768 .f32) : View.ld x r0_0 = x := View.ld_unit_zero hz2 _ x

theorem out4 (x0 x1 x2 x3 : Vec Ideal S512x768 .f32) : out0_4 x0 x1 x2 x3 = k0_pay4 x1 x0 x2 x3 := by
  unfold out0_4
  simp only [ld_whole]
  exact View.canon_cons_unit_zero hz2 _ _ []

theorem left4 (t : Fin cfg0.N) (r : Fin 512) (d : Fin 768) :
    out0_4 (iblk m c 0 t) (iblk m c 1 t) (iblk m c 2 t) (iblk m c 3 t) (ix2 r d)
      = val_main_v27 (F := Ideal) (a0 m c) (a1 m c) (a2 m c) (a3 m c) (ix2 (row t r) d) := by
  rw [out4]
  pointwise [k0_pay1, k0_pay2, k0_pay3, k0_pay4, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7]
  simp only [blk0, blk1, blk2, blk3]

theorem final_d : (dats m 0 c).arrAt 4 cfg0.N = val_main_v27 (F := Ideal) (a0 m c) (a1 m c) (a2 m c) (a3 m c) := by
  refine (dats m 0 c).arrAt_eq_of_covers 4 _ (by decide +kernel) fun t hf y => ?_
  rw [after0_4]
  obtain ⟨r, d, rfl⟩ : ∃ (r : Fin 512) (d : Fin 768), y = ix2 r d := ⟨y 0, y 1, by funext a; fin_cases a <;> rfl⟩
  rw [emb4]
  refine Eq.trans ?_ (left4 m c t r d)
  generalize out0_4 (iblk m c 0 t) (iblk m c 1 t) (iblk m c 2 t) (iblk m c 3 t) = f
  rfl

theorem out5 (x0 x1 x2 x3 : Vec Ideal S512x768 .f32) : out0_5 x0 x1 x2 x3 = k0_pay2 x1 x2 := by
  unfold out0_5
  simp only [ld_whole]
  exact View.canon_cons_unit_zero hz2 _ _ []

theorem left5 (t : Fin cfg0.N) (r : Fin 512) (d : Fin 768) :
    out0_5 (iblk m c 0 t) (iblk m c 1 t) (iblk m c 2 t) (iblk m c 3 t) (ix2 r d)
      = val_main_v8 (F := Ideal) (a1 m c) (a2 m c) (ix2 (row t r) d) := by
  rw [out5]
  pointwise [k0_pay1, k0_pay2, val_main_v8, val_main_v7, val_main_v6, val_main_v5, val_main_v4, val_main_cst, val_main_cst_0]
  simp only [blk1, blk2]

theorem final_m : (dats m 0 c).arrAt 5 cfg0.N = val_main_v8 (F := Ideal) (a1 m c) (a2 m c) := by
  refine (dats m 0 c).arrAt_eq_of_covers 5 _ (by decide +kernel) fun t hf y => ?_
  rw [after0_5]
  obtain ⟨r, d, rfl⟩ : ∃ (r : Fin 512) (d : Fin 768), y = ix2 r d := ⟨y 0, y 1, by funext a; fin_cases a <;> rfl⟩
  rw [emb5]
  refine Eq.trans ?_ (left5 m c t r d)
  generalize out0_5 (iblk m c 0 t) (iblk m c 1 t) (iblk m c 2 t) (iblk m c 3 t) = f
  rfl

theorem out6 (x0 x1 x2 x3 : Vec Ideal S512x768 .f32) : out0_6 x0 x1 x2 x3 = k0_pay3 x1 x3 := by
  unfold out0_6
  simp only [ld_whole]
  exact View.canon_cons_unit_zero hz2 _ _ []

theorem left6 (t : Fin cfg0.N) (r : Fin 512) (d : Fin 768) :
    out0_6 (iblk m c 0 t) (iblk m c 1 t) (iblk m c 2 t) (iblk m c 3 t) (ix2 r d)
      = val_main_v14 (F := Ideal) (a1 m c) (a3 m c) (ix2 (row t r) d) := by
  rw [out6]
  pointwise [k0_pay1, k0_pay3, val_main_v14, val_main_v13, val_main_v12, val_main_v11, val_main_v10, val_main_v9, val_main_cst_1, val_main_cst_2]
  simp only [blk1, blk3]

theorem final_v : (dats m 0 c).arrAt 6 cfg0.N = val_main_v14 (F := Ideal) (a1 m c) (a3 m c) := by
  refine (dats m 0 c).arrAt_eq_of_covers 6 _ (by decide +kernel) fun t hf y => ?_
  rw [after0_6]
  obtain ⟨r, d, rfl⟩ : ∃ (r : Fin 512) (d : Fin 768), y = ix2 r d := ⟨y 0, y 1, by funext a; fin_cases a <;> rfl⟩
  rw [emb6]
  refine Eq.trans ?_ (left6 m c t r d)
  generalize out0_6 (iblk m c 0 t) (iblk m c 1 t) (iblk m c 2 t) (iblk m c 3 t) = f
  rfl

/-- The change of the weight and the two new moments agree, whatever the arguments hold. -/
theorem same : Cert.algebraic_AdaKernelIdeal_AdaReferenceIdeal := by
  intro m g m' g' _ hm
  refine ⟨fun c => val_main_v27 (F := Ideal) (a0 m c) (a1 m c) (a2 m c) (a3 m c), fun c => val_main_v8 (F := Ideal) (a1 m c) (a2 m c),
    fun c => val_main_v14 (F := Ideal) (a1 m c) (a3 m c), ?_, ?_⟩
  · refine (θ_run Cert.AdaKernelIdeal.defs _ _).mono (fun r h c => ?_) (Cert.AdaKernelIdeal.Value.run_blocks (F := Ideal) m g)
    obtain ⟨hd, hn, hv, hk⟩ := h c
    exact ⟨hd.trans (final_d m c), hn.trans (final_m m c), hv.trans (final_v m c), hk⟩
  · refine (θ_run Cert.AdaReferenceIdeal.defs _ _).mono (fun r h c => ?_) (Cert.AdaReferenceIdeal.Value.run (F := Ideal) m' g')
    obtain ⟨hd, hn, hv, hk⟩ := h c
    obtain ⟨e0, e1, e2, e3⟩ := hm c
    refine ⟨hd.trans ((val_main_v27_eq _ _ _ _).trans ?_), hn.trans ((val_main_v8_eq _ _).trans ?_), hv.trans ((val_main_v14_eq _ _).trans ?_), hk⟩ <;>
      simp only [e0, e1, e2, e3] <;> rfl

end Cert.AdaClaim

end
-- ==== Proof.lean ====
module

public import proofs.«01_k».proof.Defs
public import proofs.«01_k».proof.Proof.Gen.InKernel
public import proofs.«01_k».proof.Proof.Gen.InKernelIdeal
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Pre_finite
public import proofs.«01_k».proof.Proof.Gen.LastKernel
public import proofs.«01_k».proof.Proof.Gen.LastKernelIdeal
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Gen.Pre_last_finite
public import proofs.«01_k».proof.Proof.Gen.On_last_written
public import proofs.«01_k».proof.Proof.Gen.FwdKernel
public import proofs.«01_k».proof.Proof.Gen.FwdKernelIdeal
public import proofs.«01_k».proof.Proof.Gen.FwdKernelIdeal.Frame
public import proofs.«01_k».proof.Proof.Gen.FwdKernelIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.FwdLastKernel
public import proofs.«01_k».proof.Proof.Gen.FwdLastKernelIdeal
public import proofs.«01_k».proof.Proof.Gen.FwdLastKernelIdeal.Frame
public import proofs.«01_k».proof.Proof.Gen.FwdLastKernelIdeal.Value
public import proofs.«01_k».proof.Proof.Gen.AdaKernel
public import proofs.«01_k».proof.Proof.Gen.AdaKernelIdeal
public import proofs.«01_k».proof.Proof.Gen.AdaKernelIdeal.Frame
public import proofs.«01_k».proof.Proof.Gen.AdaKernelIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.InFrame
public import proofs.«01_k».proof.Proof.InSame
public import proofs.«01_k».proof.Proof.InClaim
public import proofs.«01_k».proof.Proof.LastSame
public import proofs.«01_k».proof.Proof.LastClaim
public import proofs.«01_k».proof.Proof.FwdSame
public import proofs.«01_k».proof.Proof.FwdClaim
public import proofs.«01_k».proof.Proof.FwdLastSame
public import proofs.«01_k».proof.Proof.FwdLastClaim
public import proofs.«01_k».proof.Proof.AdaSame
public import proofs.«01_k».proof.Proof.AdaClaim
public import Idealize.ShloMosaic.Adequacy
public import Idealize.ShloMosaic.Init

@[expose] public section

noncomputable section

namespace Cert.Proof

open Idealize.ShloMosaic Idealize.SL.Sem

/-- The kernel at bit patterns: the one run, whose text is the same for both programs. -/
theorem frame_in_kernel : Cert.quiescent_InKernel := by
  intro m ρ _
  rw [Cert.InSame.defs_eq]
  exact Cert.InDx.frame (F := Bits) m ρ

/-- The kernel over the extended reals. -/
theorem frame_in_ideal : Cert.quiescent_InKernelIdeal :=
  fun m ρ _ => Cert.InDx.frame (F := Ideal) m ρ

/-- The reference over the extended reals. -/
theorem frame_in_reference : Cert.quiescent_InReferenceIdeal :=
  fun m ρ _ => (θ_run Cert.InReferenceIdeal.defs _ _).mono
    (fun r h => ⟨fun c => (h c).2.2.2, sem_eq_zero_of_no_sems (by decide) r.2⟩)
    (Cert.InReferenceIdeal.Value.run (F := Ideal) m ρ)

/-- The last layer's kernel at bit patterns: the one run, whose text is the same for both programs. -/
theorem frame_last_kernel : Cert.quiescent_LastKernel := by
  intro m ρ _
  rw [Cert.LastSame.defs_eq]
  exact Cert.LastKernelIdeal.Gen.frame (F := Bits) m ρ

/-- The last layer's kernel over the extended reals. -/
theorem frame_last_ideal : Cert.quiescent_LastKernelIdeal :=
  fun m ρ _ => Cert.LastKernelIdeal.Gen.frame (F := Ideal) m ρ

/-- Its reference over the extended reals. -/
theorem frame_last_reference : Cert.quiescent_LastReferenceIdeal :=
  fun m ρ _ => (θ_run Cert.LastReferenceIdeal.defs _ _).mono
    (fun r h => ⟨fun c => (h c).2.2.2, sem_eq_zero_of_no_sems (by decide) r.2⟩)
    (Cert.LastReferenceIdeal.Value.run (F := Ideal) m ρ)

/-- The forward layer at bit patterns: the one run, whose text is the same for both programs. -/
theorem frame_fwd_kernel : Cert.quiescent_FwdKernel := by
  intro m ρ _
  rw [Cert.FwdSame.defs_eq]
  exact Cert.FwdKernelIdeal.Gen.frame (F := Bits) m ρ

/-- The forward layer over the extended reals. -/
theorem frame_fwd_ideal : Cert.quiescent_FwdKernelIdeal :=
  fun m ρ _ => Cert.FwdKernelIdeal.Gen.frame (F := Ideal) m ρ

/-- Its reference over the extended reals. -/
theorem frame_fwd_reference : Cert.quiescent_FwdReferenceIdeal :=
  fun m ρ _ => (θ_run Cert.FwdReferenceIdeal.defs _ _).mono
    (fun r h => ⟨fun c => (h c).2, sem_eq_zero_of_no_sems (by decide) r.2⟩)
    (Cert.FwdReferenceIdeal.Value.run (F := Ideal) m ρ)

/-- The last layer's forward call at bit patterns: the one run, whose text is the same for both programs. -/
theorem frame_fwd_last_kernel : Cert.quiescent_FwdLastKernel := by
  intro m ρ _
  rw [Cert.FwdLastSame.defs_eq]
  exact Cert.FwdLastKernelIdeal.Gen.frame (F := Bits) m ρ

/-- The last layer's forward call over the extended reals. -/
theorem frame_fwd_last_ideal : Cert.quiescent_FwdLastKernelIdeal :=
  fun m ρ _ => Cert.FwdLastKernelIdeal.Gen.frame (F := Ideal) m ρ

/-- The update of the modulation's weight at bit patterns: the one run, whose text is the same for both programs. -/
theorem frame_ada_kernel : Cert.quiescent_AdaKernel := by
  intro m ρ _
  rw [Cert.AdaSame.defs_eq]
  exact Cert.AdaKernelIdeal.Gen.frame (F := Bits) m ρ

/-- The update over the extended reals. -/
theorem frame_ada_ideal : Cert.quiescent_AdaKernelIdeal :=
  fun m ρ _ => Cert.AdaKernelIdeal.Gen.frame (F := Ideal) m ρ

/-- Its reference over the extended reals. -/
theorem frame_ada_reference : Cert.quiescent_AdaReferenceIdeal :=
  fun m ρ _ => (θ_run Cert.AdaReferenceIdeal.defs _ _).mono
    (fun r h => ⟨fun c => (h c).2.2.2, sem_eq_zero_of_no_sems (by decide) r.2⟩)
    (Cert.AdaReferenceIdeal.Value.run (F := Ideal) m ρ)

theorem claim : Cert.Claim :=
  ⟨Cert.InKernel.Gen.facts, Cert.InKernelIdeal.Gen.facts, Cert.InReferenceIdeal.Gen.facts,
    Cert.LastKernel.Gen.facts, Cert.LastKernelIdeal.Gen.facts, Cert.LastReferenceIdeal.Gen.facts,
    Cert.FwdKernel.Gen.facts, Cert.FwdKernelIdeal.Gen.facts, Cert.FwdReferenceIdeal.Gen.facts,
    Cert.FwdLastKernel.Gen.facts, Cert.FwdLastKernelIdeal.Gen.facts,
    Cert.AdaKernel.Gen.facts, Cert.AdaKernelIdeal.Gen.facts, Cert.AdaReferenceIdeal.Gen.facts,
    Cert.Pre_finite.Gen.facts, Cert.Pre_last_finite.Gen.facts, Cert.On_last_written.Gen.facts,
    frame_in_kernel, frame_in_ideal, fun m ρ _ => frame_in_ideal m ρ trivial,
    frame_in_reference, fun m ρ _ => frame_in_reference m ρ trivial,
    frame_last_kernel, frame_last_ideal, fun m ρ _ => frame_last_ideal m ρ trivial,
    frame_last_reference, fun m ρ _ => frame_last_reference m ρ trivial,
    frame_fwd_kernel, frame_fwd_ideal, frame_fwd_reference, frame_fwd_last_kernel, frame_fwd_last_ideal,
    frame_ada_kernel, frame_ada_ideal, frame_ada_reference,
    trivial, Cert.InClaim.same, trivial, Cert.LastClaim.same, trivial, Cert.FwdClaim.same, trivial, Cert.FwdLastClaim.same,
    trivial, Cert.AdaClaim.same⟩

end Cert.Proof

end
